-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite [hPre_finite : Cert.Pre_finite.Facts] (m : (ℓ : Loc Cert.XattnIdeal.nD Cert.XattnIdeal.τ Cert.XattnIdeal.sig) → Buf (Elt Ideal) ℓ) : Prop :=
  ∀ c : Dev Cert.XattnIdeal.nD,
    (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7)) (m ((c.tc : Thread Cert.XattnIdeal.nD Cert.XattnIdeal.τ).loc Cert.XattnIdeal.main_arg8)) (m ((c.tc : Thread Cert.XattnIdeal.nD Cert.XattnIdeal.τ).loc Cert.XattnIdeal.main_arg9))).1 = (fun _ => 1#1)
    ∧ (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7)) (m ((c.tc : Thread Cert.XattnIdeal.nD Cert.XattnIdeal.τ).loc Cert.XattnIdeal.main_arg8)) (m ((c.tc : Thread Cert.XattnIdeal.nD Cert.XattnIdeal.τ).loc Cert.XattnIdeal.main_arg9))).2.1 = (fun _ => 1#1)
    ∧ (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7)) (m ((c.tc : Thread Cert.XattnIdeal.nD Cert.XattnIdeal.τ).loc Cert.XattnIdeal.main_arg8)) (m ((c.tc : Thread Cert.XattnIdeal.nD Cert.XattnIdeal.τ).loc Cert.XattnIdeal.main_arg9))).2.2.1 = (fun _ => 1#1)
    ∧ (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7)) (m ((c.tc : Thread Cert.XattnIdeal.nD Cert.XattnIdeal.τ).loc Cert.XattnIdeal.main_arg8)) (m ((c.tc : Thread Cert.XattnIdeal.nD Cert.XattnIdeal.τ).loc Cert.XattnIdeal.main_arg9))).2.2.2.1 = (fun _ => 1#1)
    ∧ (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7)) (m ((c.tc : Thread Cert.XattnIdeal.nD Cert.XattnIdeal.τ).loc Cert.XattnIdeal.main_arg8)) (m ((c.tc : Thread Cert.XattnIdeal.nD Cert.XattnIdeal.τ).loc Cert.XattnIdeal.main_arg9))).2.2.2.2.1 = (fun _ => 1#1)
    ∧ (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7)) (m ((c.tc : Thread Cert.XattnIdeal.nD Cert.XattnIdeal.τ).loc Cert.XattnIdeal.main_arg8)) (m ((c.tc : Thread Cert.XattnIdeal.nD Cert.XattnIdeal.τ).loc Cert.XattnIdeal.main_arg9))).2.2.2.2.2.1 = (fun _ => 1#1)
    ∧ (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7)) (m ((c.tc : Thread Cert.XattnIdeal.nD Cert.XattnIdeal.τ).loc Cert.XattnIdeal.main_arg8)) (m ((c.tc : Thread Cert.XattnIdeal.nD Cert.XattnIdeal.τ).loc Cert.XattnIdeal.main_arg9))).2.2.2.2.2.2.1 = (fun _ => 1#1)
    ∧ (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7)) (m ((c.tc : Thread Cert.XattnIdeal.nD Cert.XattnIdeal.τ).loc Cert.XattnIdeal.main_arg8)) (m ((c.tc : Thread Cert.XattnIdeal.nD Cert.XattnIdeal.τ).loc Cert.XattnIdeal.main_arg9))).2.2.2.2.2.2.2.1 = (fun _ => 1#1)
    ∧ (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7)) (m ((c.tc : Thread Cert.XattnIdeal.nD Cert.XattnIdeal.τ).loc Cert.XattnIdeal.main_arg8)) (m ((c.tc : Thread Cert.XattnIdeal.nD Cert.XattnIdeal.τ).loc Cert.XattnIdeal.main_arg9))).2.2.2.2.2.2.2.2 = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_finite [hPre_finite : Cert.Pre_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5)) (m ((c.tc : Thread Cert.XattnRefIdeal.nD Cert.XattnRefIdeal.τ).loc Cert.XattnRefIdeal.main_arg6)) (m ((c.tc : Thread Cert.XattnRefIdeal.nD Cert.XattnRefIdeal.τ).loc Cert.XattnRefIdeal.main_arg7)) (m ((c.tc : Thread Cert.XattnRefIdeal.nD Cert.XattnRefIdeal.τ).loc Cert.XattnRefIdeal.main_arg8)) (m ((c.tc : Thread Cert.XattnRefIdeal.nD Cert.XattnRefIdeal.τ).loc Cert.XattnRefIdeal.main_arg9))).1 = (fun _ => 1#1)
    ∧ (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5)) (m ((c.tc : Thread Cert.XattnRefIdeal.nD Cert.XattnRefIdeal.τ).loc Cert.XattnRefIdeal.main_arg6)) (m ((c.tc : Thread Cert.XattnRefIdeal.nD Cert.XattnRefIdeal.τ).loc Cert.XattnRefIdeal.main_arg7)) (m ((c.tc : Thread Cert.XattnRefIdeal.nD Cert.XattnRefIdeal.τ).loc Cert.XattnRefIdeal.main_arg8)) (m ((c.tc : Thread Cert.XattnRefIdeal.nD Cert.XattnRefIdeal.τ).loc Cert.XattnRefIdeal.main_arg9))).2.1 = (fun _ => 1#1)
    ∧ (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5)) (m ((c.tc : Thread Cert.XattnRefIdeal.nD Cert.XattnRefIdeal.τ).loc Cert.XattnRefIdeal.main_arg6)) (m ((c.tc : Thread Cert.XattnRefIdeal.nD Cert.XattnRefIdeal.τ).loc Cert.XattnRefIdeal.main_arg7)) (m ((c.tc : Thread Cert.XattnRefIdeal.nD Cert.XattnRefIdeal.τ).loc Cert.XattnRefIdeal.main_arg8)) (m ((c.tc : Thread Cert.XattnRefIdeal.nD Cert.XattnRefIdeal.τ).loc Cert.XattnRefIdeal.main_arg9))).2.2.1 = (fun _ => 1#1)
    ∧ (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5)) (m ((c.tc : Thread Cert.XattnRefIdeal.nD Cert.XattnRefIdeal.τ).loc Cert.XattnRefIdeal.main_arg6)) (m ((c.tc : Thread Cert.XattnRefIdeal.nD Cert.XattnRefIdeal.τ).loc Cert.XattnRefIdeal.main_arg7)) (m ((c.tc : Thread Cert.XattnRefIdeal.nD Cert.XattnRefIdeal.τ).loc Cert.XattnRefIdeal.main_arg8)) (m ((c.tc : Thread Cert.XattnRefIdeal.nD Cert.XattnRefIdeal.τ).loc Cert.XattnRefIdeal.main_arg9))).2.2.2.1 = (fun _ => 1#1)
    ∧ (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5)) (m ((c.tc : Thread Cert.XattnRefIdeal.nD Cert.XattnRefIdeal.τ).loc Cert.XattnRefIdeal.main_arg6)) (m ((c.tc : Thread Cert.XattnRefIdeal.nD Cert.XattnRefIdeal.τ).loc Cert.XattnRefIdeal.main_arg7)) (m ((c.tc : Thread Cert.XattnRefIdeal.nD Cert.XattnRefIdeal.τ).loc Cert.XattnRefIdeal.main_arg8)) (m ((c.tc : Thread Cert.XattnRefIdeal.nD Cert.XattnRefIdeal.τ).loc Cert.XattnRefIdeal.main_arg9))).2.2.2.2.1 = (fun _ => 1#1)
    ∧ (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5)) (m ((c.tc : Thread Cert.XattnRefIdeal.nD Cert.XattnRefIdeal.τ).loc Cert.XattnRefIdeal.main_arg6)) (m ((c.tc : Thread Cert.XattnRefIdeal.nD Cert.XattnRefIdeal.τ).loc Cert.XattnRefIdeal.main_arg7)) (m ((c.tc : Thread Cert.XattnRefIdeal.nD Cert.XattnRefIdeal.τ).loc Cert.XattnRefIdeal.main_arg8)) (m ((c.tc : Thread Cert.XattnRefIdeal.nD Cert.XattnRefIdeal.τ).loc Cert.XattnRefIdeal.main_arg9))).2.2.2.2.2.1 = (fun _ => 1#1)
    ∧ (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5)) (m ((c.tc : Thread Cert.XattnRefIdeal.nD Cert.XattnRefIdeal.τ).loc Cert.XattnRefIdeal.main_arg6)) (m ((c.tc : Thread Cert.XattnRefIdeal.nD Cert.XattnRefIdeal.τ).loc Cert.XattnRefIdeal.main_arg7)) (m ((c.tc : Thread Cert.XattnRefIdeal.nD Cert.XattnRefIdeal.τ).loc Cert.XattnRefIdeal.main_arg8)) (m ((c.tc : Thread Cert.XattnRefIdeal.nD Cert.XattnRefIdeal.τ).loc Cert.XattnRefIdeal.main_arg9))).2.2.2.2.2.2.1 = (fun _ => 1#1)
    ∧ (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5)) (m ((c.tc : Thread Cert.XattnRefIdeal.nD Cert.XattnRefIdeal.τ).loc Cert.XattnRefIdeal.main_arg6)) (m ((c.tc : Thread Cert.XattnRefIdeal.nD Cert.XattnRefIdeal.τ).loc Cert.XattnRefIdeal.main_arg7)) (m ((c.tc : Thread Cert.XattnRefIdeal.nD Cert.XattnRefIdeal.τ).loc Cert.XattnRefIdeal.main_arg8)) (m ((c.tc : Thread Cert.XattnRefIdeal.nD Cert.XattnRefIdeal.τ).loc Cert.XattnRefIdeal.main_arg9))).2.2.2.2.2.2.2.1 = (fun _ => 1#1)
    ∧ (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5)) (m ((c.tc : Thread Cert.XattnRefIdeal.nD Cert.XattnRefIdeal.τ).loc Cert.XattnRefIdeal.main_arg6)) (m ((c.tc : Thread Cert.XattnRefIdeal.nD Cert.XattnRefIdeal.τ).loc Cert.XattnRefIdeal.main_arg7)) (m ((c.tc : Thread Cert.XattnRefIdeal.nD Cert.XattnRefIdeal.τ).loc Cert.XattnRefIdeal.main_arg8)) (m ((c.tc : Thread Cert.XattnRefIdeal.nD Cert.XattnRefIdeal.τ).loc Cert.XattnRefIdeal.main_arg9))).2.2.2.2.2.2.2.2 = (fun _ => 1#1)

def Pre_Dsa (m : (ℓ : Loc Cert.Dsa.nD Cert.Dsa.τ Cert.Dsa.sig) → Buf (Elt Bits) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4)
      ∧ r.2.mem ((c.tc : Thread Cert.FfnFinalRefIdeal.nD Cert.FfnFinalRefIdeal.τ).loc Cert.FfnFinalRefIdeal.main_arg5) = m ((c.tc : Thread Cert.FfnFinalRefIdeal.nD Cert.FfnFinalRefIdeal.τ).loc Cert.FfnFinalRefIdeal.main_arg5))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5)
      ∧ r.2.mem ((c.tc : Thread Cert.Xattn.nD Cert.Xattn.τ).loc Cert.Xattn.main_arg6) = m ((c.tc : Thread Cert.Xattn.nD Cert.Xattn.τ).loc Cert.Xattn.main_arg6)
      ∧ r.2.mem ((c.tc : Thread Cert.Xattn.nD Cert.Xattn.τ).loc Cert.Xattn.main_arg7) = m ((c.tc : Thread Cert.Xattn.nD Cert.Xattn.τ).loc Cert.Xattn.main_arg7)
      ∧ r.2.mem ((c.tc : Thread Cert.Xattn.nD Cert.Xattn.τ).loc Cert.Xattn.main_arg8) = m ((c.tc : Thread Cert.Xattn.nD Cert.Xattn.τ).loc Cert.Xattn.main_arg8)
      ∧ r.2.mem ((c.tc : Thread Cert.Xattn.nD Cert.Xattn.τ).loc Cert.Xattn.main_arg9) = m ((c.tc : Thread Cert.Xattn.nD Cert.Xattn.τ).loc Cert.Xattn.main_arg9))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
      ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
      ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9))
      ∧ r.2.sem = fun _ => 0)

def quiescent_XattnIdeal_pre_finite [hXattnIdeal : Cert.XattnIdeal.Facts] [hPre_finite : Cert.Pre_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
      ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
      ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5)
      ∧ r.2.mem ((c.tc : Thread Cert.XattnRefIdeal.nD Cert.XattnRefIdeal.τ).loc Cert.XattnRefIdeal.main_arg6) = m ((c.tc : Thread Cert.XattnRefIdeal.nD Cert.XattnRefIdeal.τ).loc Cert.XattnRefIdeal.main_arg6)
      ∧ r.2.mem ((c.tc : Thread Cert.XattnRefIdeal.nD Cert.XattnRefIdeal.τ).loc Cert.XattnRefIdeal.main_arg7) = m ((c.tc : Thread Cert.XattnRefIdeal.nD Cert.XattnRefIdeal.τ).loc Cert.XattnRefIdeal.main_arg7)
      ∧ r.2.mem ((c.tc : Thread Cert.XattnRefIdeal.nD Cert.XattnRefIdeal.τ).loc Cert.XattnRefIdeal.main_arg8) = m ((c.tc : Thread Cert.XattnRefIdeal.nD Cert.XattnRefIdeal.τ).loc Cert.XattnRefIdeal.main_arg8)
      ∧ r.2.mem ((c.tc : Thread Cert.XattnRefIdeal.nD Cert.XattnRefIdeal.τ).loc Cert.XattnRefIdeal.main_arg9) = m ((c.tc : Thread Cert.XattnRefIdeal.nD Cert.XattnRefIdeal.τ).loc Cert.XattnRefIdeal.main_arg9))
      ∧ r.2.sem = fun _ => 0)

def quiescent_XattnRefIdeal_pre_finite [hXattnRefIdeal : Cert.XattnRefIdeal.Facts] [hPre_finite : Cert.Pre_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5)
      ∧ r.2.mem ((c.tc : Thread Cert.XattnRefIdeal.nD Cert.XattnRefIdeal.τ).loc Cert.XattnRefIdeal.main_arg6) = m ((c.tc : Thread Cert.XattnRefIdeal.nD Cert.XattnRefIdeal.τ).loc Cert.XattnRefIdeal.main_arg6)
      ∧ r.2.mem ((c.tc : Thread Cert.XattnRefIdeal.nD Cert.XattnRefIdeal.τ).loc Cert.XattnRefIdeal.main_arg7) = m ((c.tc : Thread Cert.XattnRefIdeal.nD Cert.XattnRefIdeal.τ).loc Cert.XattnRefIdeal.main_arg7)
      ∧ r.2.mem ((c.tc : Thread Cert.XattnRefIdeal.nD Cert.XattnRefIdeal.τ).loc Cert.XattnRefIdeal.main_arg8) = m ((c.tc : Thread Cert.XattnRefIdeal.nD Cert.XattnRefIdeal.τ).loc Cert.XattnRefIdeal.main_arg8)
      ∧ r.2.mem ((c.tc : Thread Cert.XattnRefIdeal.nD Cert.XattnRefIdeal.τ).loc Cert.XattnRefIdeal.main_arg9) = m ((c.tc : Thread Cert.XattnRefIdeal.nD Cert.XattnRefIdeal.τ).loc Cert.XattnRefIdeal.main_arg9))
      ∧ r.2.sem = fun _ => 0)

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3)
      ∧ r.2.mem ((c.tc : Thread Cert.Dsa.nD Cert.Dsa.τ).loc Cert.Dsa.main_arg4) = m ((c.tc : Thread Cert.Dsa.nD Cert.Dsa.τ).loc Cert.Dsa.main_arg4)
      ∧ r.2.mem ((c.tc : Thread Cert.Dsa.nD Cert.Dsa.τ).loc Cert.Dsa.main_arg5) = m ((c.tc : Thread Cert.Dsa.nD Cert.Dsa.τ).loc Cert.Dsa.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)
      ∧ m' ((c.tc : Thread Cert.FfnFinalRefIdeal.nD Cert.FfnFinalRefIdeal.τ).loc Cert.FfnFinalRefIdeal.main_arg5) = m ((c.tc : Thread Cert.FfnFinalIdeal.nD Cert.FfnFinalIdeal.τ).loc Cert.FfnFinalIdeal.main_arg5)) →
    ∃ (v0 : (c : Dev Cert.FfnFinalIdeal.nD) → Buf (Elt Ideal) ((c.tc : Thread Cert.FfnFinalIdeal.nD Cert.FfnFinalIdeal.τ).loc Cert.FfnFinalIdeal.main_v6)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v6) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v34) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4)
          ∧ r.2.mem ((c.tc : Thread Cert.FfnFinalRefIdeal.nD Cert.FfnFinalRefIdeal.τ).loc Cert.FfnFinalRefIdeal.main_arg5) = m' ((c.tc : Thread Cert.FfnFinalRefIdeal.nD Cert.FfnFinalRefIdeal.τ).loc Cert.FfnFinalRefIdeal.main_arg5))

def preserves_Xattn_XattnIdeal : Prop :=
  True

def algebraic_XattnIdeal_XattnRefIdeal_pre_finite [hXattnIdeal : Cert.XattnIdeal.Facts] [hXattnRefIdeal : Cert.XattnRefIdeal.Facts] [hPre_finite : Cert.Pre_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)
      ∧ m' ((c.tc : Thread Cert.XattnRefIdeal.nD Cert.XattnRefIdeal.τ).loc Cert.XattnRefIdeal.main_arg6) = m ((c.tc : Thread Cert.XattnIdeal.nD Cert.XattnIdeal.τ).loc Cert.XattnIdeal.main_arg6)
      ∧ m' ((c.tc : Thread Cert.XattnRefIdeal.nD Cert.XattnRefIdeal.τ).loc Cert.XattnRefIdeal.main_arg7) = m ((c.tc : Thread Cert.XattnIdeal.nD Cert.XattnIdeal.τ).loc Cert.XattnIdeal.main_arg7)
      ∧ m' ((c.tc : Thread Cert.XattnRefIdeal.nD Cert.XattnRefIdeal.τ).loc Cert.XattnRefIdeal.main_arg8) = m ((c.tc : Thread Cert.XattnIdeal.nD Cert.XattnIdeal.τ).loc Cert.XattnIdeal.main_arg8)
      ∧ m' ((c.tc : Thread Cert.XattnRefIdeal.nD Cert.XattnRefIdeal.τ).loc Cert.XattnRefIdeal.main_arg9) = m ((c.tc : Thread Cert.XattnIdeal.nD Cert.XattnIdeal.τ).loc Cert.XattnIdeal.main_arg9)) →
    ∃ (v0 : (c : Dev Cert.XattnIdeal.nD) → Buf (Elt Ideal) ((c.tc : Thread Cert.XattnIdeal.nD Cert.XattnIdeal.τ).loc Cert.XattnIdeal.main_v9)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v9) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
          ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
          ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
          ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
          ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v57) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5)
          ∧ r.2.mem ((c.tc : Thread Cert.XattnRefIdeal.nD Cert.XattnRefIdeal.τ).loc Cert.XattnRefIdeal.main_arg6) = m' ((c.tc : Thread Cert.XattnRefIdeal.nD Cert.XattnRefIdeal.τ).loc Cert.XattnRefIdeal.main_arg6)
          ∧ r.2.mem ((c.tc : Thread Cert.XattnRefIdeal.nD Cert.XattnRefIdeal.τ).loc Cert.XattnRefIdeal.main_arg7) = m' ((c.tc : Thread Cert.XattnRefIdeal.nD Cert.XattnRefIdeal.τ).loc Cert.XattnRefIdeal.main_arg7)
          ∧ r.2.mem ((c.tc : Thread Cert.XattnRefIdeal.nD Cert.XattnRefIdeal.τ).loc Cert.XattnRefIdeal.main_arg8) = m' ((c.tc : Thread Cert.XattnRefIdeal.nD Cert.XattnRefIdeal.τ).loc Cert.XattnRefIdeal.main_arg8)
          ∧ r.2.mem ((c.tc : Thread Cert.XattnRefIdeal.nD Cert.XattnRefIdeal.τ).loc Cert.XattnRefIdeal.main_arg9) = m' ((c.tc : Thread Cert.XattnRefIdeal.nD Cert.XattnRefIdeal.τ).loc Cert.XattnRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v12_1)) (v1 : (c : Dev Cert.ProjIdeal.nD) → Buf (Elt Ideal) ((c.tc : Thread Cert.ProjIdeal.nD Cert.ProjIdeal.τ).loc Cert.ProjIdeal.main_v12_2)) (v2 : (c : Dev Cert.ProjIdeal.nD) → Buf (Elt Ideal) ((c.tc : Thread Cert.ProjIdeal.nD Cert.ProjIdeal.τ).loc Cert.ProjIdeal.main_v12_3)) (v3 : (c : Dev Cert.ProjIdeal.nD) → Buf (Elt Ideal) ((c.tc : Thread Cert.ProjIdeal.nD Cert.ProjIdeal.τ).loc Cert.ProjIdeal.main_v12_4)) (v4 : (c : Dev Cert.ProjIdeal.nD) → Buf (Elt Ideal) ((c.tc : Thread Cert.ProjIdeal.nD Cert.ProjIdeal.τ).loc Cert.ProjIdeal.main_v12_5)) (v5 : (c : Dev Cert.ProjIdeal.nD) → Buf (Elt Ideal) ((c.tc : Thread Cert.ProjIdeal.nD Cert.ProjIdeal.τ).loc Cert.ProjIdeal.main_v12_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v12_1) = v0 c
          ∧ r.2.mem ((c.tc : Thread Cert.ProjIdeal.nD Cert.ProjIdeal.τ).loc Cert.ProjIdeal.main_v12_2) = v1 c
          ∧ r.2.mem ((c.tc : Thread Cert.ProjIdeal.nD Cert.ProjIdeal.τ).loc Cert.ProjIdeal.main_v12_3) = v2 c
          ∧ r.2.mem ((c.tc : Thread Cert.ProjIdeal.nD Cert.ProjIdeal.τ).loc Cert.ProjIdeal.main_v12_4) = v3 c
          ∧ r.2.mem ((c.tc : Thread Cert.ProjIdeal.nD Cert.ProjIdeal.τ).loc Cert.ProjIdeal.main_v12_5) = v4 c
          ∧ r.2.mem ((c.tc : Thread Cert.ProjIdeal.nD Cert.ProjIdeal.τ).loc Cert.ProjIdeal.main_v12_6) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v92) = v0 c
          ∧ r.2.mem ((c.tc : Thread Cert.ProjRefIdeal.nD Cert.ProjRefIdeal.τ).loc Cert.ProjRefIdeal.main_v94) = v1 c
          ∧ r.2.mem ((c.tc : Thread Cert.ProjRefIdeal.nD Cert.ProjRefIdeal.τ).loc Cert.ProjRefIdeal.main_v97) = v2 c
          ∧ r.2.mem ((c.tc : Thread Cert.ProjRefIdeal.nD Cert.ProjRefIdeal.τ).loc Cert.ProjRefIdeal.main_v100) = v3 c
          ∧ r.2.mem ((c.tc : Thread Cert.ProjRefIdeal.nD Cert.ProjRefIdeal.τ).loc Cert.ProjRefIdeal.main_v101) = v4 c
          ∧ r.2.mem ((c.tc : Thread Cert.ProjRefIdeal.nD Cert.ProjRefIdeal.τ).loc Cert.ProjRefIdeal.main_v102) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v24_0)) (v1 : (c : Dev Cert.RopeIdeal.nD) → Buf (Elt Ideal) ((c.tc : Thread Cert.RopeIdeal.nD Cert.RopeIdeal.τ).loc Cert.RopeIdeal.main_v24_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v24_0) = v0 c
          ∧ r.2.mem ((c.tc : Thread Cert.RopeIdeal.nD Cert.RopeIdeal.τ).loc Cert.RopeIdeal.main_v24_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v19) = v0 c
          ∧ r.2.mem ((c.tc : Thread Cert.RopeRefIdeal.nD Cert.RopeRefIdeal.τ).loc Cert.RopeRefIdeal.main_v21) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hFfn : Cert.Ffn.Facts) (hFfnIdeal : Cert.FfnIdeal.Facts) (hFfnRefIdeal : Cert.FfnRefIdeal.Facts) (hFfnFinal : Cert.FfnFinal.Facts) (hFfnFinalIdeal : Cert.FfnFinalIdeal.Facts) (hFfnFinalRefIdeal : Cert.FfnFinalRefIdeal.Facts) (hXattn : Cert.Xattn.Facts) (hXattnIdeal : Cert.XattnIdeal.Facts) (hXattnRefIdeal : Cert.XattnRefIdeal.Facts) (hDsa : Cert.Dsa.Facts) (hProj : Cert.Proj.Facts) (hProjIdeal : Cert.ProjIdeal.Facts) (hProjRefIdeal : Cert.ProjRefIdeal.Facts) (hRope : Cert.Rope.Facts) (hRopeIdeal : Cert.RopeIdeal.Facts) (hRopeRefIdeal : Cert.RopeRefIdeal.Facts) (hPre_finite : Cert.Pre_finite.Facts),
    quiescent_Ffn (hFfn := hFfn)
    ∧ quiescent_FfnIdeal (hFfnIdeal := hFfnIdeal)
    ∧ quiescent_FfnRefIdeal (hFfnRefIdeal := hFfnRefIdeal)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_Xattn (hXattn := hXattn)
    ∧ quiescent_XattnIdeal (hXattnIdeal := hXattnIdeal)
    ∧ quiescent_XattnIdeal_pre_finite (hXattnIdeal := hXattnIdeal) (hPre_finite := hPre_finite)
    ∧ quiescent_XattnRefIdeal (hXattnRefIdeal := hXattnRefIdeal)
    ∧ quiescent_XattnRefIdeal_pre_finite (hXattnRefIdeal := hXattnRefIdeal) (hPre_finite := hPre_finite)
    ∧ quiescent_Dsa (hDsa := hDsa)
    ∧ quiescent_Proj (hProj := hProj)
    ∧ quiescent_ProjIdeal (hProjIdeal := hProjIdeal)
    ∧ quiescent_ProjRefIdeal (hProjRefIdeal := hProjRefIdeal)
    ∧ quiescent_Rope (hRope := hRope)
    ∧ quiescent_RopeIdeal (hRopeIdeal := hRopeIdeal)
    ∧ quiescent_RopeRefIdeal (hRopeRefIdeal := hRopeRefIdeal)
    ∧ preserves_Ffn_FfnIdeal
    ∧ algebraic_FfnIdeal_FfnRefIdeal (hFfnIdeal := hFfnIdeal) (hFfnRefIdeal := hFfnRefIdeal)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_Xattn_XattnIdeal
    ∧ algebraic_XattnIdeal_XattnRefIdeal_pre_finite (hXattnIdeal := hXattnIdeal) (hXattnRefIdeal := hXattnRefIdeal) (hPre_finite := hPre_finite)
    ∧ preserves_Proj_ProjIdeal
    ∧ algebraic_ProjIdeal_ProjRefIdeal (hProjIdeal := hProjIdeal) (hProjRefIdeal := hProjRefIdeal)
    ∧ preserves_Rope_RopeIdeal
    ∧ algebraic_RopeIdeal_RopeRefIdeal (hRopeIdeal := hRopeIdeal) (hRopeRefIdeal := hRopeRefIdeal)
-- ==== Pre_finite.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S4x256x1024 : Shape := ⟨3, ![4, 256, 1024]⟩
abbrev S1024x2048 : Shape := ⟨2, ![1024, 2048]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)
  bcast_S_S4x8192x512 : S_.BroadcastsInDim S4x8192x512 (![] : Fin 0 → Fin S4x8192x512.rank)
  bcast_S_S1024x1024 : S_.BroadcastsInDim S1024x1024 (![] : Fin 0 → Fin S1024x1024.rank)
  bcast_S_S1024 : S_.BroadcastsInDim S1024 (![] : Fin 0 → Fin S1024.rank)
  bcast_S_S4x256x1024 : S_.BroadcastsInDim S4x256x1024 (![] : Fin 0 → Fin S4x256x1024.rank)
  bcast_S_S1024x2048 : S_.BroadcastsInDim S1024x2048 (![] : Fin 0 → Fin S1024x2048.rank)

variable [Facts]

def fn_part1 {F : FTy → Type} [FloatOps F] (main_arg6 : FVec F S4x256x1024 .f32) (main_arg7 : FVec F S1024 .f32) (main_arg8 : FVec F S1024x2048 .f32) (main_v4 : IVec S4x8192x1024 1) (main_v7 : IVec S4x8192x512 1) (main_v10 : IVec S4x8192x512 1) (main_v13 : IVec S1024x1024 1) (main_v16 : IVec S1024 1) (main_v17 : FVec F S1024x1024 .f32) (main_cst_4 : FVec F S_ .f32) : IVec S4x8192x1024 1 × IVec S4x8192x512 1 × IVec S4x8192x512 1 × IVec S1024x1024 1 × IVec S1024 1 × IVec S1024x1024 1 × IVec S4x256x1024 1 × IVec S1024 1 × IVec S1024x2048 1 :=
  let main_v18 : FVec F S1024x1024 .f32 := broadcastInDim S1024x1024 ![] bcast_S_S1024x1024 main_cst_4
  let main_v19 : IVec S1024x1024 1 := cmpf .olt main_v17 main_v18
  let main_v20 : FVec F S4x256x1024 .f32 := Host.absf main_arg6
  let main_cst_5 : FVec F S_ .f32 := constant S_ .f32 0x7F800000#32
  let main_v21 : FVec F S4x256x1024 .f32 := broadcastInDim S4x256x1024 ![] bcast_S_S4x256x1024 main_cst_5
  let main_v22 : IVec S4x256x1024 1 := cmpf .olt main_v20 main_v21
  let main_v23 : FVec F S1024 .f32 := Host.absf main_arg7
  let main_cst_6 : FVec F S_ .f32 := constant S_ .f32 0x7F800000#32
  let main_v24 : FVec F S1024 .f32 := broadcastInDim S1024 ![] bcast_S_S1024 main_cst_6
  let main_v25 : IVec S1024 1 := cmpf .olt main_v23 main_v24
  let main_v26 : FVec F S1024x2048 .f32 := Host.absf main_arg8
  let main_cst_7 : FVec F S_ .f32 := constant S_ .f32 0x7F800000#32
  let main_v27 : FVec F S1024x2048 .f32 := broadcastInDim S1024x2048 ![] bcast_S_S1024x2048 main_cst_7
  let main_v28 : IVec S1024x2048 1 := cmpf .olt main_v26 main_v27
  (main_v4, main_v7, main_v10, main_v13, main_v16, main_v19, main_v22, main_v25, main_v28)

def fn {F : FTy → Type} [FloatOps F] (main_arg0 : FVec F S4x8192x1024 .f32) (main_arg1 : FVec F S4x8192x512 .bf16) (main_arg2 : FVec F S4x8192x512 .bf16) (main_arg3 : FVec F S1024x1024 .f32) (main_arg4 : FVec F S1024 .f32) (main_arg5 : FVec F S1024x1024 .f32) (main_arg6 : FVec F S4x256x1024 .f32) (main_arg7 : FVec F S1024 .f32) (main_arg8 : FVec F S1024x2048 .f32) (main_arg9 : FVec F S1024x1024 .f32) : IVec S4x8192x1024 1 × IVec S4x8192x512 1 × IVec S4x8192x512 1 × IVec S1024x1024 1 × IVec S1024 1 × IVec S1024x1024 1 × IVec S4x256x1024 1 × IVec S1024 1 × IVec S1024x2048 1 :=
  let main_v0 : FVec F S4x8192x512 .f32 := (extf .f32 · bitsLt_bf16_f32) main_arg1
  let main_v1 : FVec F S4x8192x512 .f32 := (extf .f32 · bitsLt_bf16_f32) main_arg2
  let main_v2 : FVec F S4x8192x1024 .f32 := Host.absf main_arg0
  let main_cst : FVec F S_ .f32 := constant S_ .f32 0x7F800000#32
  let main_v3 : FVec F S4x8192x1024 .f32 := broadcastInDim S4x8192x1024 ![] bcast_S_S4x8192x1024 main_cst
  let main_v4 : IVec S4x8192x1024 1 := cmpf .olt main_v2 main_v3
  let main_v5 : FVec F S4x8192x512 .f32 := Host.absf main_v0
  let main_cst_0 : FVec F S_ .f32 := constant S_ .f32 0x7F800000#32
  let main_v6 : FVec F S4x8192x512 .f32 := broadcastInDim S4x8192x512 ![] bcast_S_S4x8192x512 main_cst_0
  let main_v7 : IVec S4x8192x512 1 := cmpf .olt main_v5 main_v6
  let main_v8 : FVec F S4x8192x512 .f32 := Host.absf main_v1
  let main_cst_1 : FVec F S_ .f32 := constant S_ .f32 0x7F800000#32
  let main_v9 : FVec F S4x8192x512 .f32 := broadcastInDim S4x8192x512 ![] bcast_S_S4x8192x512 main_cst_1
  let main_v10 : IVec S4x8192x512 1 := cmpf .olt main_v8 main_v9
  let main_v11 : FVec F S1024x1024 .f32 := Host.absf main_arg3
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  let main_v14 : FVec F S1024 .f32 := Host.absf main_arg4
  let main_cst_3 : FVec F S_ .f32 := constant S_ .f32 0x7F800000#32
  let main_v15 : FVec F S1024 .f32 := broadcastInDim S1024 ![] bcast_S_S1024 main_cst_3
  let main_v16 : IVec S1024 1 := cmpf .olt main_v14 main_v15
  let main_v17 : FVec F S1024x1024 .f32 := Host.absf main_arg5
  let main_cst_4 : FVec F S_ .f32 := constant S_ .f32 0x7F800000#32
  fn_part1 (F := F) main_arg6 main_arg7 main_arg8 main_v4 main_v7 main_v10 main_v13 main_v16 main_v17 main_cst_4
-- ==== Ffn.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 13
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S32768x1024 : Shape := ⟨2, ![32768, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x8192x2816, .f32⟩
  | .hbm, ⟨23, _⟩ => ⟨S4x8192x2816, .f32⟩
  | .hbm, ⟨24, _⟩ => ⟨S4x8192x2816, .f32⟩
  | .hbm, ⟨25, _⟩ => ⟨S_, .f32⟩
  | .hbm, ⟨26, _⟩ => ⟨S4x8192x2816, .f32⟩
  | .hbm, ⟨27, _⟩ => ⟨S4x8192x2816, .f32⟩
  | .hbm, ⟨28, _⟩ => ⟨S_, .f32⟩
  | .hbm, ⟨29, _⟩ => ⟨S4x8192x2816, .f32⟩
  | .hbm, ⟨30, _⟩ => ⟨S4x8192x2816, .f32⟩
  | .hbm, ⟨31, _⟩ => ⟨S4x8192x2816, .f32⟩
  | .hbm, ⟨32, _⟩ => ⟨S4x8192x2816, .f32⟩
  | .hbm, ⟨33, _⟩ => ⟨S4x8192x2816, .f32⟩
  | .hbm, ⟨34, _⟩ => ⟨S4x8192x1024, .f32⟩
  | .hbm, ⟨35, _⟩ => ⟨S_, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== FfnFinal.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 13
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFinalRefIdeal.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x8192x2816, .f32⟩
  | .hbm, ⟨23, _⟩ => ⟨S4x8192x2816, .f32⟩
  | .hbm, ⟨24, _⟩ => ⟨S4x8192x2816, .f32⟩
  | .hbm, ⟨25, _⟩ => ⟨S_, .f32⟩
  | .hbm, ⟨26, _⟩ => ⟨S4x8192x2816, .f32⟩
  | .hbm, ⟨27, _⟩ => ⟨S4x8192x2816, .f32⟩
  | .hbm, ⟨28, _⟩ => ⟨S_, .f32⟩
  | .hbm, ⟨29, _⟩ => ⟨S4x8192x2816, .f32⟩
  | .hbm, ⟨30, _⟩ => ⟨S4x8192x2816, .f32⟩
  | .hbm, ⟨31, _⟩ => ⟨S4x8192x2816, .f32⟩
  | .hbm, ⟨32, _⟩ => ⟨S4x8192x2816, .f32⟩
  | .hbm, ⟨33, _⟩ => ⟨S4x8192x2816, .f32⟩
  | .hbm, ⟨34, _⟩ => ⟨S4x8192x1024, .f32⟩
  | .hbm, ⟨35, _⟩ => ⟨S_, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x8192x1, .f32⟩
  | .hbm, ⟨50, _⟩ => ⟨S4x8192x1024, .f32⟩
  | .hbm, ⟨51, _⟩ => ⟨S4x8192x1024, .f32⟩
  | .hbm, ⟨52, _⟩ => ⟨S1x1x1024, .f32⟩
  | .hbm, ⟨53, _⟩ => ⟨S4x8192x1024, .f32⟩
  | .hbm, ⟨54, _⟩ => ⟨S4x8192x1024, .f32⟩
  | .hbm, ⟨55, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Xattn.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S4x256x1024 : Shape := ⟨3, ![4, 256, 1024]⟩
abbrev S1024x2048 : Shape := ⟨2, ![1024, 2048]⟩
abbrev S32768x1024 : Shape := ⟨2, ![32768, 1024]⟩
abbrev S32768x512 : Shape := ⟨2, ![32768, 512]⟩
abbrev S1x1024 : Shape := ⟨2, ![1, 1024]⟩
abbrev S1024x512 : Shape := ⟨2, ![1024, 512]⟩
abbrev S1x256x1024 : Shape := ⟨3, ![1, 256, 1024]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S512x1024 : Shape := ⟨2, ![512, 1024]⟩
abbrev S1024x1 : Shape := ⟨2, ![1024, 1]⟩
abbrev S256x256 : Shape := ⟨2, ![256, 256]⟩

abbrev nBuf : Space → Nat
  | .hbm => 20
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S4x256x1024, .f32⟩
  | .hbm, ⟨7, _⟩ => ⟨S1024, .f32⟩
  | .hbm, ⟨8, _⟩ => ⟨S1024x2048, .f32⟩
  | .hbm, ⟨9, _⟩ => ⟨S1024x1024, .f32⟩
  | .hbm, ⟨10, _⟩ => ⟨S32768x1024, .f32⟩
  | .hbm, ⟨11, _⟩ => ⟨S32768x512, .bf16⟩
  | .hbm, ⟨12, _⟩ => ⟨S32768x512, .bf16⟩
  | .hbm, ⟨13, _⟩ => ⟨S1024x1024, .bf16⟩
  | .hbm, ⟨14, _⟩ => ⟨S1x1024, .f32⟩
  | .hbm, ⟨15, _⟩ => ⟨S1024x1024, .bf16⟩
  | .hbm, ⟨16, _⟩ => ⟨S1x1024, .f32⟩
  | .hbm, ⟨17, _⟩ => ⟨S1024x2048, .bf16⟩
  | .hbm, ⟨18, _⟩ => ⟨S1024x1024, .bf16⟩
  | .hbm, ⟨19, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x256x1024, .f32⟩
  | .local _ .vmem, ⟨10, _⟩ => ⟨S1x256x1024, .f32⟩
  | .local _ .vmem, ⟨11, _⟩ => ⟨S1x1024, .f32⟩
  | .local _ .vmem, ⟨12, _⟩ => ⟨S1024x2048, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x256, .bf16⟩
  | .local _ .vmem, ⟨17, _⟩ => ⟨S256x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== XattnRefIdeal.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S4x256x1024 : Shape := ⟨3, ![4, 256, 1024]⟩
abbrev S1024x2048 : Shape := ⟨2, ![1024, 2048]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x256 : Shape := ⟨2, ![4, 256]⟩
abbrev S4x256x1 : Shape := ⟨3, ![4, 256, 1]⟩
abbrev S4x8192x4x256 : Shape := ⟨4, ![4, 8192, 4, 256]⟩
abbrev S4x256x2048 : Shape := ⟨3, ![4, 256, 2048]⟩
abbrev S4x256x4x256 : Shape := ⟨4, ![4, 256, 4, 256]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x256x8192 : Shape := ⟨4, ![4, 4, 256, 8192]⟩
abbrev S32768x1024 : Shape := ⟨2, ![32768, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S4x256x1024, .f32⟩
  | .hbm, ⟨7, _⟩ => ⟨S1024, .f32⟩
  | .hbm, ⟨8, _⟩ => ⟨S1024x2048, .f32⟩
  | .hbm, ⟨9, _⟩ => ⟨S1024x1024, .f32⟩
  | .hbm, ⟨10, _⟩ => ⟨S4x8192x512, .f32⟩
  | .hbm, ⟨11, _⟩ => ⟨S4x8192x512, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x1, .f32⟩
  | .hbm, ⟨26, _⟩ => ⟨S4x8192x1024, .f32⟩
  | .hbm, ⟨27, _⟩ => ⟨S4x8192x1024, .f32⟩
  | .hbm, ⟨28, _⟩ => ⟨S1x1x1024, .f32⟩
  | .hbm, ⟨29, _⟩ => ⟨S4x8192x1024, .f32⟩
  | .hbm, ⟨30, _⟩ => ⟨S4x8192x1024, .f32⟩
  | .hbm, ⟨31, _⟩ => ⟨S4x256x1024, .f32⟩
  | .hbm, ⟨32, _⟩ => ⟨S_, .f32⟩
  | .hbm, ⟨33, _⟩ => ⟨S4x256, .f32⟩
  | .hbm, ⟨34, _⟩ => ⟨S4x256x1, .f32⟩
  | .hbm, ⟨35, _⟩ => ⟨S_, .f32⟩
  | .hbm, ⟨36, _⟩ => ⟨S4x256x1, .f32⟩
  | .hbm, ⟨37, _⟩ => ⟨S4x256x1, .f32⟩
  | .hbm, ⟨38, _⟩ => ⟨S_, .f32⟩
  | .hbm, ⟨39, _⟩ => ⟨S4x256x1, .f32⟩
  | .hbm, ⟨40, _⟩ => ⟨S4x256x1, .f32⟩
  | .hbm, ⟨41, _⟩ => ⟨S4x256x1, .f32⟩
  | .hbm, ⟨42, _⟩ => ⟨S4x256x1024, .f32⟩
  | .hbm, ⟨43, _⟩ => ⟨S4x256x1024, .f32⟩
  | .hbm, ⟨44, _⟩ => ⟨S1x1x1024, .f32⟩
  | .hbm, ⟨45, _⟩ => ⟨S4x256x1024, .f32⟩
  | .hbm, ⟨46, _⟩ => ⟨S4x256x1024, .f32⟩
  | .hbm, ⟨47, _⟩ => ⟨S4x8192x1024, .f32⟩
  | .hbm, ⟨48, _⟩ => ⟨S4x8192x4x256, .f32⟩
  | .hbm, ⟨49, _⟩ => ⟨S4x256x2048, .f32⟩
  | .hbm, ⟨50, _⟩ => ⟨S4x256x1024, .f32⟩
  | .hbm, ⟨51, _⟩ => ⟨S4x256x1024, .f32⟩
  | .hbm, ⟨52, _⟩ => ⟨S4x256x4x256, .f32⟩
  | .hbm, ⟨53, _⟩ => ⟨S4x256x4x256, .f32⟩
  | .hbm, ⟨54, _⟩ => ⟨S4x4x8192x256, .f32⟩
  | .hbm, ⟨55, _⟩ => ⟨S_, .f32⟩
  | .hbm, ⟨56, _⟩ => ⟨S4x4x8192x256, .f32⟩
  | .hbm, ⟨57, _⟩ => ⟨S4x4x8192x256, .f32⟩
  | .hbm, ⟨58, _⟩ => ⟨S_, .f32⟩
  | .hbm, ⟨59, _⟩ => ⟨S4x4x8192, .f32⟩
  | .hbm, ⟨60, _⟩ => ⟨S_, .f32⟩
  | .hbm, ⟨61, _⟩ => ⟨S4x4x8192, .f32⟩
  | .hbm, ⟨62, _⟩ => ⟨S4x4x8192, .f32⟩
  | .hbm, ⟨63, _⟩ => ⟨S4x4x8192x1, .f32⟩
  | .hbm, ⟨64, _⟩ => ⟨S4x4x8192x256, .f32⟩
  | .hbm, ⟨65, _⟩ => ⟨S4x4x8192x256, .f32⟩
  | .hbm, ⟨66, _⟩ => ⟨S4x4x8192x256, .f32⟩
  | .hbm, ⟨67, _⟩ => ⟨S_, .f32⟩
  | .hbm, ⟨68, _⟩ => ⟨S4x4x8192, .f32⟩
  | .hbm, ⟨69, _⟩ => ⟨S4x4x8192x1, .f32⟩
  | .hbm, ⟨70, _⟩ => ⟨S4x4x8192x256, .f32⟩
  | .hbm, ⟨71, _⟩ => ⟨S4x4x8192x256, .f32⟩
  | .hbm, ⟨72, _⟩ => ⟨S4x4x256x8192, .f32⟩
  | .hbm, ⟨73, _⟩ => ⟨S4x8192x4x256, .f32⟩
  | .hbm, ⟨74, _⟩ => ⟨S4x8192x1024, .f32⟩
  | .hbm, ⟨75, _⟩ => ⟨S4x8192x1024, .f32⟩
  | .hbm, ⟨76, _⟩ => ⟨S4x8192x1024, .f32⟩
  | .hbm, ⟨77, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Dsa.lean ====
abbrev S4x512x8192 : Shape := ⟨3, ![4, 512, 8192]⟩
abbrev S4x256x8192 : Shape := ⟨3, ![4, 256, 8192]⟩
abbrev S4x128x8192 : Shape := ⟨3, ![4, 128, 8192]⟩
abbrev S4x8192x512 : Shape := ⟨3, ![4, 8192, 512]⟩
abbrev S4x16x512x512 : Shape := ⟨4, ![4, 16, 512, 512]⟩
abbrev S4x8192x128 : Shape := ⟨3, ![4, 8192, 128]⟩
abbrev S1x512x512 : Shape := ⟨3, ![1, 512, 512]⟩
abbrev S1x256x512 : Shape := ⟨3, ![1, 256, 512]⟩
abbrev S1x8x512 : Shape := ⟨3, ![1, 8, 512]⟩
abbrev S1x8192x512 : Shape := ⟨3, ![1, 8192, 512]⟩
abbrev S1x16x512x512 : Shape := ⟨4, ![1, 16, 512, 512]⟩
abbrev S1x8192x128 : Shape := ⟨3, ![1, 8192, 128]⟩
abbrev S16x32x16x512 : Shape := ⟨4, ![16, 32, 16, 512]⟩
abbrev S16x16x512 : Shape := ⟨3, ![16, 16, 512]⟩
abbrev S512x512 : Shape := ⟨2, ![512, 512]⟩
abbrev S8x128x512 : Shape := ⟨3, ![8, 128, 512]⟩
abbrev S8x512 : Shape := ⟨2, ![8, 512]⟩
abbrev S256x256 : Shape := ⟨2, ![256, 256]⟩
abbrev S1x512 : Shape := ⟨2, ![1, 512]⟩
abbrev S64x512 : Shape := ⟨2, ![64, 512]⟩
abbrev S1x64x512 : Shape := ⟨3, ![1, 64, 512]⟩
abbrev S128x512 : Shape := ⟨2, ![128, 512]⟩
abbrev S1x512x128 : Shape := ⟨3, ![1, 512, 128]⟩
abbrev S512x128 : Shape := ⟨2, ![512, 128]⟩
abbrev S16x512 : Shape := ⟨2, ![16, 512]⟩
abbrev S1x1x16x512 : Shape := ⟨4, ![1, 1, 16, 512]⟩
abbrev S1x16x512 : Shape := ⟨3, ![1, 16, 512]⟩
abbrev S512 : Shape := ⟨1, ![512]⟩
abbrev S1x128x512 : Shape := ⟨3, ![1, 128, 512]⟩
abbrev S256x512 : Shape := ⟨2, ![256, 512]⟩
abbrev S1x1x64x512 : Shape := ⟨4, ![1, 1, 64, 512]⟩
abbrev S80x512 : Shape := ⟨2, ![80, 512]⟩

abbrev nBuf : Space → Nat
  | .hbm => 7
  | .vmem => 19
  | .smem => 0
  | _ => 0

abbrev bufTy : (tb : Table) → Fin (tcTables nBuf tb) → BufTy
  | .hbm, ⟨0, _⟩ => ⟨S4x512x8192, .bf16⟩
  | .hbm, ⟨1, _⟩ => ⟨S4x256x8192, .bf16⟩
  | .hbm, ⟨2, _⟩ => ⟨S4x128x8192, .f32⟩
  | .hbm, ⟨3, _⟩ => ⟨S4x8192x512, .bf16⟩
  | .hbm, ⟨4, _⟩ => ⟨S4x16x512x512, .bf16⟩
  | .hbm, ⟨5, _⟩ => ⟨S4x8192x128, .bf16⟩
  | .hbm, ⟨6, _⟩ => ⟨S4x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x8x512, .f32⟩
  | .local _ .vmem, ⟨5, _⟩ => ⟨S1x8x512, .f32⟩
  | .local _ .vmem, ⟨6, _⟩ => ⟨S1x8192x512, .bf16⟩
  | .local _ .vmem, ⟨7, _⟩ => ⟨S1x16x512x512, .bf16⟩
  | .local _ .vmem, ⟨8, _⟩ => ⟨S1x8192x128, .bf16⟩
  | .local _ .vmem, ⟨9, _⟩ => ⟨S1x512x512, .bf16⟩
  | .local _ .vmem, ⟨10, _⟩ => ⟨S1x512x512, .bf16⟩
  | .local _ .vmem, ⟨11, _⟩ => ⟨S16x32x16x512, .i32⟩
  | .local _ .vmem, ⟨12, _⟩ => ⟨S16x16x512, .i32⟩
  | .local _ .vmem, ⟨13, _⟩ => ⟨S16x16x512, .i32⟩
  | .local _ .vmem, ⟨14, _⟩ => ⟨S512x512, .f32⟩
  | .local _ .vmem, ⟨15, _⟩ => ⟨S8x128x512, .bf16⟩
  | .local _ .vmem, ⟨16, _⟩ => ⟨S8x512, .f32⟩
  | .local _ .vmem, ⟨17, _⟩ => ⟨S8x512, .f32⟩
  | .local _ .vmem, ⟨18, _⟩ => ⟨S256x256, .bf16⟩
  | _, _ => ⟨S4x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨2, ![4, 16], ![false, false]⟩

@[reducible] def k0_t1_loop (i : grid0.Coords) : Scf.Loop 32 :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_23 : BitVec 32 := 1#32
  ⟨c0_i32_21, v46, c1_i32_23⟩
def k0_mult1 (i : grid0.Coords) (k0_t1 : Fin (k0_t1_loop i).trips) : BitVec 32 :=
  let c0_i32_21 : BitVec 32 := 0#32
  let c1_i32_23 : BitVec 32 := 1#32
  let arg17 : BitVec 32 := Scf.iv c0_i32_21 c1_i32_23 k0_t1
  let c512_i32_483 : BitVec 32 := 512#32
  let v1170 : BitVec 32 := Scalar.muli arg17 c512_i32_483
  v1170
def k0_off1 (i : grid0.Coords) (k0_t1 : Fin (k0_t1_loop i).trips) : Fin 3 → Nat :=
  let c0_484 : Index := 0#32
  let c0_i32_21 : BitVec 32 := 0#32
  let c1_i32_23 : BitVec 32 := 1#32
  let arg17 : BitVec 32 := Scf.iv c0_i32_21 c1_i32_23 k0_t1
  let c512_i32_483 : BitVec 32 := 512#32
  let v1170 : BitVec 32 := Scalar.muli arg17 c512_i32_483
  let v1171 : BitVec 32 := v1170
  let v1172 : Index := Scalar.indexCast v1171
  let c0_485 : Index := 0#32
  ![0, v1172.toNat, 0]
def k0_off2 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v1962 : Index := Scalar.indexCast arg17
  let c0_737 : Index := 0#32
  let c0_738 : Index := 0#32
  let c0_739 : Index := 0#32
  ![v1962.toNat, 0, 0, 0]
def k0_off3 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v1966 : Index := Scalar.indexCast arg17
  let c1_740 : Index := 1#32
  let c0_741 : Index := 0#32
  let c0_742 : Index := 0#32
  ![v1966.toNat, 1, 0, 0]
def k0_off4 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v1970 : Index := Scalar.indexCast arg17
  let c2_743 : Index := 2#32
  let c0_744 : Index := 0#32
  let c0_745 : Index := 0#32
  ![v1970.toNat, 2, 0, 0]
def k0_off5 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v1974 : Index := Scalar.indexCast arg17
  let c3_746 : Index := 3#32
  let c0_747 : Index := 0#32
  let c0_748 : Index := 0#32
  ![v1974.toNat, 3, 0, 0]
def k0_off6 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v1978 : Index := Scalar.indexCast arg17
  let c4_749 : Index := 4#32
  let c0_750 : Index := 0#32
  let c0_751 : Index := 0#32
  ![v1978.toNat, 4, 0, 0]
def k0_off7 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v1982 : Index := Scalar.indexCast arg17
  let c5_752 : Index := 5#32
  let c0_753 : Index := 0#32
  let c0_754 : Index := 0#32
  ![v1982.toNat, 5, 0, 0]
def k0_off8 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v1986 : Index := Scalar.indexCast arg17
  let c6_755 : Index := 6#32
  let c0_756 : Index := 0#32
  let c0_757 : Index := 0#32
  ![v1986.toNat, 6, 0, 0]
def k0_off9 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v1990 : Index := Scalar.indexCast arg17
  let c7_758 : Index := 7#32
  let c0_759 : Index := 0#32
  let c0_760 : Index := 0#32
  ![v1990.toNat, 7, 0, 0]
def k0_off10 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v1994 : Index := Scalar.indexCast arg17
  let c8_761 : Index := 8#32
  let c0_762 : Index := 0#32
  let c0_763 : Index := 0#32
  ![v1994.toNat, 8, 0, 0]
def k0_off11 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v1998 : Index := Scalar.indexCast arg17
  let c9_764 : Index := 9#32
  let c0_765 : Index := 0#32
  let c0_766 : Index := 0#32
  ![v1998.toNat, 9, 0, 0]
def k0_off12 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2002 : Index := Scalar.indexCast arg17
  let c10_767 : Index := 10#32
  let c0_768 : Index := 0#32
  let c0_769 : Index := 0#32
  ![v2002.toNat, 10, 0, 0]
def k0_off13 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2006 : Index := Scalar.indexCast arg17
  let c11_770 : Index := 11#32
  let c0_771 : Index := 0#32
  let c0_772 : Index := 0#32
  ![v2006.toNat, 11, 0, 0]
def k0_off14 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2010 : Index := Scalar.indexCast arg17
  let c12_773 : Index := 12#32
  let c0_774 : Index := 0#32
  let c0_775 : Index := 0#32
  ![v2010.toNat, 12, 0, 0]
def k0_off15 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2014 : Index := Scalar.indexCast arg17
  let c13_776 : Index := 13#32
  let c0_777 : Index := 0#32
  let c0_778 : Index := 0#32
  ![v2014.toNat, 13, 0, 0]
def k0_off16 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2018 : Index := Scalar.indexCast arg17
  let c14_779 : Index := 14#32
  let c0_780 : Index := 0#32
  let c0_781 : Index := 0#32
  ![v2018.toNat, 14, 0, 0]
def k0_off17 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2022 : Index := Scalar.indexCast arg17
  let c15_782 : Index := 15#32
  let c0_783 : Index := 0#32
  let c0_784 : Index := 0#32
  ![v2022.toNat, 15, 0, 0]
def k0_off18 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2026 : Index := Scalar.indexCast arg17
  let c16_785 : Index := 16#32
  let c0_786 : Index := 0#32
  let c0_787 : Index := 0#32
  ![v2026.toNat, 16, 0, 0]
def k0_off19 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2030 : Index := Scalar.indexCast arg17
  let c17_788 : Index := 17#32
  let c0_789 : Index := 0#32
  let c0_790 : Index := 0#32
  ![v2030.toNat, 17, 0, 0]
def k0_off20 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2034 : Index := Scalar.indexCast arg17
  let c18_791 : Index := 18#32
  let c0_792 : Index := 0#32
  let c0_793 : Index := 0#32
  ![v2034.toNat, 18, 0, 0]
def k0_off21 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2038 : Index := Scalar.indexCast arg17
  let c19_794 : Index := 19#32
  let c0_795 : Index := 0#32
  let c0_796 : Index := 0#32
  ![v2038.toNat, 19, 0, 0]
def k0_off22 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2042 : Index := Scalar.indexCast arg17
  let c20_797 : Index := 20#32
  let c0_798 : Index := 0#32
  let c0_799 : Index := 0#32
  ![v2042.toNat, 20, 0, 0]
def k0_off23 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2046 : Index := Scalar.indexCast arg17
  let c21_800 : Index := 21#32
  let c0_801 : Index := 0#32
  let c0_802 : Index := 0#32
  ![v2046.toNat, 21, 0, 0]
def k0_off24 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2050 : Index := Scalar.indexCast arg17
  let c22_803 : Index := 22#32
  let c0_804 : Index := 0#32
  let c0_805 : Index := 0#32
  ![v2050.toNat, 22, 0, 0]
def k0_off25 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2054 : Index := Scalar.indexCast arg17
  let c23_806 : Index := 23#32
  let c0_807 : Index := 0#32
  let c0_808 : Index := 0#32
  ![v2054.toNat, 23, 0, 0]
def k0_off26 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2058 : Index := Scalar.indexCast arg17
  let c24_809 : Index := 24#32
  let c0_810 : Index := 0#32
  let c0_811 : Index := 0#32
  ![v2058.toNat, 24, 0, 0]
def k0_off27 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2062 : Index := Scalar.indexCast arg17
  let c25_812 : Index := 25#32
  let c0_813 : Index := 0#32
  let c0_814 : Index := 0#32
  ![v2062.toNat, 25, 0, 0]
def k0_off28 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2066 : Index := Scalar.indexCast arg17
  let c26_815 : Index := 26#32
  let c0_816 : Index := 0#32
  let c0_817 : Index := 0#32
  ![v2066.toNat, 26, 0, 0]
def k0_off29 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2070 : Index := Scalar.indexCast arg17
  let c27_818 : Index := 27#32
  let c0_819 : Index := 0#32
  let c0_820 : Index := 0#32
  ![v2070.toNat, 27, 0, 0]
def k0_off30 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2074 : Index := Scalar.indexCast arg17
  let c28_821 : Index := 28#32
  let c0_822 : Index := 0#32
  let c0_823 : Index := 0#32
  ![v2074.toNat, 28, 0, 0]
def k0_off31 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2078 : Index := Scalar.indexCast arg17
  let c29_824 : Index := 29#32
  let c0_825 : Index := 0#32
  let c0_826 : Index := 0#32
  ![v2078.toNat, 29, 0, 0]
def k0_off32 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2082 : Index := Scalar.indexCast arg17
  let c30_827 : Index := 30#32
  let c0_828 : Index := 0#32
  let c0_829 : Index := 0#32
  ![v2082.toNat, 30, 0, 0]
def k0_off33 (i : grid0.Coords) (k0_t1 : Fin (k0_t1_loop i).trips) : Fin 4 → Nat :=
  let c0_i32_21 : BitVec 32 := 0#32
  let c1_i32_23 : BitVec 32 := 1#32
  let arg17 : BitVec 32 := Scf.iv c0_i32_21 c1_i32_23 k0_t1
  let v2086 : Index := Scalar.indexCast arg17
  let c31_830 : Index := 31#32
  let c0_831 : Index := 0#32
  let c0_832 : Index := 0#32
  ![v2086.toNat, 31, 0, 0]
def k0_off34 (i : grid0.Coords) (k0_t1 : Fin (k0_t1_loop i).trips) : Fin 3 → Nat :=
  let c0_i32_21 : BitVec 32 := 0#32
  let c1_i32_23 : BitVec 32 := 1#32
  let arg17 : BitVec 32 := Scf.iv c0_i32_21 c1_i32_23 k0_t1
  let v2091 : Index := Scalar.indexCast arg17
  let c0_834 : Index := 0#32
  let c0_835 : Index := 0#32
  ![v2091.toNat, 0, 0]
@[reducible] def k0_t2_loop (i : grid0.Coords) : Scf.Loop 32 :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let v43 : BitVec 32 := Scalar.addi c0_i32_21 v42
  let c1_i32_24 : BitVec 32 := 1#32
  ⟨v46, v43, c1_i32_24⟩
def k0_mult2 (i : grid0.Coords) (k0_t2 : Fin (k0_t2_loop i).trips) : BitVec 32 :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let c512_i32_483 : BitVec 32 := 512#32
  let v1170 : BitVec 32 := Scalar.muli arg17 c512_i32_483
  v1170
def k0_off35 (i : grid0.Coords) (k0_t2 : Fin (k0_t2_loop i).trips) : Fin 3 → Nat :=
  let c0_484 : Index := 0#32
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let c512_i32_483 : BitVec 32 := 512#32
  let v1170 : BitVec 32 := Scalar.muli arg17 c512_i32_483
  let v1171 : BitVec 32 := v1170
  let v1172 : Index := Scalar.indexCast v1171
  let c0_485 : Index := 0#32
  ![0, v1172.toNat, 0]
def k0_off36 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v1962 : Index := Scalar.indexCast arg17
  let c0_737 : Index := 0#32
  let c0_738 : Index := 0#32
  let c0_739 : Index := 0#32
  ![v1962.toNat, 0, 0, 0]
def k0_off37 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v1966 : Index := Scalar.indexCast arg17
  let c1_740 : Index := 1#32
  let c0_741 : Index := 0#32
  let c0_742 : Index := 0#32
  ![v1966.toNat, 1, 0, 0]
def k0_off38 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v1970 : Index := Scalar.indexCast arg17
  let c2_743 : Index := 2#32
  let c0_744 : Index := 0#32
  let c0_745 : Index := 0#32
  ![v1970.toNat, 2, 0, 0]
def k0_off39 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v1974 : Index := Scalar.indexCast arg17
  let c3_746 : Index := 3#32
  let c0_747 : Index := 0#32
  let c0_748 : Index := 0#32
  ![v1974.toNat, 3, 0, 0]
def k0_off40 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v1978 : Index := Scalar.indexCast arg17
  let c4_749 : Index := 4#32
  let c0_750 : Index := 0#32
  let c0_751 : Index := 0#32
  ![v1978.toNat, 4, 0, 0]
def k0_off41 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v1982 : Index := Scalar.indexCast arg17
  let c5_752 : Index := 5#32
  let c0_753 : Index := 0#32
  let c0_754 : Index := 0#32
  ![v1982.toNat, 5, 0, 0]
def k0_off42 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v1986 : Index := Scalar.indexCast arg17
  let c6_755 : Index := 6#32
  let c0_756 : Index := 0#32
  let c0_757 : Index := 0#32
  ![v1986.toNat, 6, 0, 0]
def k0_off43 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v1990 : Index := Scalar.indexCast arg17
  let c7_758 : Index := 7#32
  let c0_759 : Index := 0#32
  let c0_760 : Index := 0#32
  ![v1990.toNat, 7, 0, 0]
def k0_off44 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v1994 : Index := Scalar.indexCast arg17
  let c8_761 : Index := 8#32
  let c0_762 : Index := 0#32
  let c0_763 : Index := 0#32
  ![v1994.toNat, 8, 0, 0]
def k0_off45 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v1998 : Index := Scalar.indexCast arg17
  let c9_764 : Index := 9#32
  let c0_765 : Index := 0#32
  let c0_766 : Index := 0#32
  ![v1998.toNat, 9, 0, 0]
def k0_off46 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2002 : Index := Scalar.indexCast arg17
  let c10_767 : Index := 10#32
  let c0_768 : Index := 0#32
  let c0_769 : Index := 0#32
  ![v2002.toNat, 10, 0, 0]
def k0_off47 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2006 : Index := Scalar.indexCast arg17
  let c11_770 : Index := 11#32
  let c0_771 : Index := 0#32
  let c0_772 : Index := 0#32
  ![v2006.toNat, 11, 0, 0]
def k0_off48 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2010 : Index := Scalar.indexCast arg17
  let c12_773 : Index := 12#32
  let c0_774 : Index := 0#32
  let c0_775 : Index := 0#32
  ![v2010.toNat, 12, 0, 0]
def k0_off49 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2014 : Index := Scalar.indexCast arg17
  let c13_776 : Index := 13#32
  let c0_777 : Index := 0#32
  let c0_778 : Index := 0#32
  ![v2014.toNat, 13, 0, 0]
def k0_off50 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2018 : Index := Scalar.indexCast arg17
  let c14_779 : Index := 14#32
  let c0_780 : Index := 0#32
  let c0_781 : Index := 0#32
  ![v2018.toNat, 14, 0, 0]
def k0_off51 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2022 : Index := Scalar.indexCast arg17
  let c15_782 : Index := 15#32
  let c0_783 : Index := 0#32
  let c0_784 : Index := 0#32
  ![v2022.toNat, 15, 0, 0]
def k0_off52 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2026 : Index := Scalar.indexCast arg17
  let c16_785 : Index := 16#32
  let c0_786 : Index := 0#32
  let c0_787 : Index := 0#32
  ![v2026.toNat, 16, 0, 0]
def k0_off53 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2030 : Index := Scalar.indexCast arg17
  let c17_788 : Index := 17#32
  let c0_789 : Index := 0#32
  let c0_790 : Index := 0#32
  ![v2030.toNat, 17, 0, 0]
def k0_off54 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2034 : Index := Scalar.indexCast arg17
  let c18_791 : Index := 18#32
  let c0_792 : Index := 0#32
  let c0_793 : Index := 0#32
  ![v2034.toNat, 18, 0, 0]
def k0_off55 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2038 : Index := Scalar.indexCast arg17
  let c19_794 : Index := 19#32
  let c0_795 : Index := 0#32
  let c0_796 : Index := 0#32
  ![v2038.toNat, 19, 0, 0]
def k0_off56 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2042 : Index := Scalar.indexCast arg17
  let c20_797 : Index := 20#32
  let c0_798 : Index := 0#32
  let c0_799 : Index := 0#32
  ![v2042.toNat, 20, 0, 0]
def k0_off57 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2046 : Index := Scalar.indexCast arg17
  let c21_800 : Index := 21#32
  let c0_801 : Index := 0#32
  let c0_802 : Index := 0#32
  ![v2046.toNat, 21, 0, 0]
def k0_off58 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2050 : Index := Scalar.indexCast arg17
  let c22_803 : Index := 22#32
  let c0_804 : Index := 0#32
  let c0_805 : Index := 0#32
  ![v2050.toNat, 22, 0, 0]
def k0_off59 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2054 : Index := Scalar.indexCast arg17
  let c23_806 : Index := 23#32
  let c0_807 : Index := 0#32
  let c0_808 : Index := 0#32
  ![v2054.toNat, 23, 0, 0]
def k0_off60 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2058 : Index := Scalar.indexCast arg17
  let c24_809 : Index := 24#32
  let c0_810 : Index := 0#32
  let c0_811 : Index := 0#32
  ![v2058.toNat, 24, 0, 0]
def k0_off61 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2062 : Index := Scalar.indexCast arg17
  let c25_812 : Index := 25#32
  let c0_813 : Index := 0#32
  let c0_814 : Index := 0#32
  ![v2062.toNat, 25, 0, 0]
def k0_off62 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2066 : Index := Scalar.indexCast arg17
  let c26_815 : Index := 26#32
  let c0_816 : Index := 0#32
  let c0_817 : Index := 0#32
  ![v2066.toNat, 26, 0, 0]
def k0_off63 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2070 : Index := Scalar.indexCast arg17
  let c27_818 : Index := 27#32
  let c0_819 : Index := 0#32
  let c0_820 : Index := 0#32
  ![v2070.toNat, 27, 0, 0]
def k0_off64 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2074 : Index := Scalar.indexCast arg17
  let c28_821 : Index := 28#32
  let c0_822 : Index := 0#32
  let c0_823 : Index := 0#32
  ![v2074.toNat, 28, 0, 0]
def k0_off65 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2078 : Index := Scalar.indexCast arg17
  let c29_824 : Index := 29#32
  let c0_825 : Index := 0#32
  let c0_826 : Index := 0#32
  ![v2078.toNat, 29, 0, 0]
def k0_off66 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2082 : Index := Scalar.indexCast arg17
  let c30_827 : Index := 30#32
  let c0_828 : Index := 0#32
  let c0_829 : Index := 0#32
  ![v2082.toNat, 30, 0, 0]
def k0_off67 (i : grid0.Coords) (k0_t2 : Fin (k0_t2_loop i).trips) : Fin 4 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2086 : Index := Scalar.indexCast arg17
  let c31_830 : Index := 31#32
  let c0_831 : Index := 0#32
  let c0_832 : Index := 0#32
  ![v2086.toNat, 31, 0, 0]
def k0_off68 (i : grid0.Coords) (k0_t2 : Fin (k0_t2_loop i).trips) : Fin 3 → Nat :=
  let c0_i32_21 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_19 : BitVec 32 := 1#32
  let v41 : BitVec 32 := Scalar.subi v18 c1_i32_19
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg17 : BitVec 32 := Scf.iv v46 c1_i32_24 k0_t2
  let v2091 : Index := Scalar.indexCast arg17
  let c0_834 : Index := 0#32
  let c0_835 : Index := 0#32
  ![v2091.toNat, 0, 0]
def k0_mult3 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let c512_i32_26 : BitVec 32 := 512#32
  let v48 : BitVec 32 := Scalar.muli v47 c512_i32_26
  v48
def k0_off69 (i : grid0.Coords) : Fin 3 → Nat :=
  let c0_27 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let c512_i32_26 : BitVec 32 := 512#32
  let v48 : BitVec 32 := Scalar.muli v47 c512_i32_26
  let v49 : BitVec 32 := v48
  let v50 : Index := Scalar.indexCast v49
  let c0_28 : Index := 0#32
  ![0, v50.toNat, 0]
def k0_off70 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v847 : Index := Scalar.indexCast v47
  let c0_271 : Index := 0#32
  let c0_272 : Index := 0#32
  let c0_273 : Index := 0#32
  ![v847.toNat, 0, 0, 0]
def k0_off71 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v851 : Index := Scalar.indexCast v47
  let c1 : Index := 1#32
  let c0_274 : Index := 0#32
  let c0_275 : Index := 0#32
  ![v851.toNat, 1, 0, 0]
def k0_off72 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v855 : Index := Scalar.indexCast v47
  let c2 : Index := 2#32
  let c0_276 : Index := 0#32
  let c0_277 : Index := 0#32
  ![v855.toNat, 2, 0, 0]
def k0_off73 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v859 : Index := Scalar.indexCast v47
  let c3 : Index := 3#32
  let c0_278 : Index := 0#32
  let c0_279 : Index := 0#32
  ![v859.toNat, 3, 0, 0]
def k0_off74 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v863 : Index := Scalar.indexCast v47
  let c4 : Index := 4#32
  let c0_280 : Index := 0#32
  let c0_281 : Index := 0#32
  ![v863.toNat, 4, 0, 0]
def k0_off75 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v867 : Index := Scalar.indexCast v47
  let c5 : Index := 5#32
  let c0_282 : Index := 0#32
  let c0_283 : Index := 0#32
  ![v867.toNat, 5, 0, 0]
def k0_off76 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v871 : Index := Scalar.indexCast v47
  let c6 : Index := 6#32
  let c0_284 : Index := 0#32
  let c0_285 : Index := 0#32
  ![v871.toNat, 6, 0, 0]
def k0_off77 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v875 : Index := Scalar.indexCast v47
  let c7 : Index := 7#32
  let c0_286 : Index := 0#32
  let c0_287 : Index := 0#32
  ![v875.toNat, 7, 0, 0]
def k0_off78 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v879 : Index := Scalar.indexCast v47
  let c8 : Index := 8#32
  let c0_288 : Index := 0#32
  let c0_289 : Index := 0#32
  ![v879.toNat, 8, 0, 0]
def k0_off79 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v883 : Index := Scalar.indexCast v47
  let c9 : Index := 9#32
  let c0_290 : Index := 0#32
  let c0_291 : Index := 0#32
  ![v883.toNat, 9, 0, 0]
def k0_off80 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v887 : Index := Scalar.indexCast v47
  let c10 : Index := 10#32
  let c0_292 : Index := 0#32
  let c0_293 : Index := 0#32
  ![v887.toNat, 10, 0, 0]
def k0_off81 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v891 : Index := Scalar.indexCast v47
  let c11 : Index := 11#32
  let c0_294 : Index := 0#32
  let c0_295 : Index := 0#32
  ![v891.toNat, 11, 0, 0]
def k0_off82 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v895 : Index := Scalar.indexCast v47
  let c12 : Index := 12#32
  let c0_296 : Index := 0#32
  let c0_297 : Index := 0#32
  ![v895.toNat, 12, 0, 0]
def k0_off83 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v899 : Index := Scalar.indexCast v47
  let c13 : Index := 13#32
  let c0_298 : Index := 0#32
  let c0_299 : Index := 0#32
  ![v899.toNat, 13, 0, 0]
def k0_off84 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v903 : Index := Scalar.indexCast v47
  let c14 : Index := 14#32
  let c0_300 : Index := 0#32
  let c0_301 : Index := 0#32
  ![v903.toNat, 14, 0, 0]
def k0_off85 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v907 : Index := Scalar.indexCast v47
  let c15 : Index := 15#32
  let c0_302 : Index := 0#32
  let c0_303 : Index := 0#32
  ![v907.toNat, 15, 0, 0]
def k0_off86 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v911 : Index := Scalar.indexCast v47
  let c16 : Index := 16#32
  let c0_304 : Index := 0#32
  let c0_305 : Index := 0#32
  ![v911.toNat, 16, 0, 0]
def k0_off87 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v915 : Index := Scalar.indexCast v47
  let c17 : Index := 17#32
  let c0_306 : Index := 0#32
  let c0_307 : Index := 0#32
  ![v915.toNat, 17, 0, 0]
def k0_off88 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v919 : Index := Scalar.indexCast v47
  let c18 : Index := 18#32
  let c0_308 : Index := 0#32
  let c0_309 : Index := 0#32
  ![v919.toNat, 18, 0, 0]
def k0_off89 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v923 : Index := Scalar.indexCast v47
  let c19 : Index := 19#32
  let c0_310 : Index := 0#32
  let c0_311 : Index := 0#32
  ![v923.toNat, 19, 0, 0]
def k0_off90 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v927 : Index := Scalar.indexCast v47
  let c20 : Index := 20#32
  let c0_312 : Index := 0#32
  let c0_313 : Index := 0#32
  ![v927.toNat, 20, 0, 0]
def k0_off91 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v931 : Index := Scalar.indexCast v47
  let c21 : Index := 21#32
  let c0_314 : Index := 0#32
  let c0_315 : Index := 0#32
  ![v931.toNat, 21, 0, 0]
def k0_off92 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v935 : Index := Scalar.indexCast v47
  let c22 : Index := 22#32
  let c0_316 : Index := 0#32
  let c0_317 : Index := 0#32
  ![v935.toNat, 22, 0, 0]
def k0_off93 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v939 : Index := Scalar.indexCast v47
  let c23 : Index := 23#32
  let c0_318 : Index := 0#32
  let c0_319 : Index := 0#32
  ![v939.toNat, 23, 0, 0]
def k0_off94 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v943 : Index := Scalar.indexCast v47
  let c24 : Index := 24#32
  let c0_320 : Index := 0#32
  let c0_321 : Index := 0#32
  ![v943.toNat, 24, 0, 0]
def k0_off95 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v947 : Index := Scalar.indexCast v47
  let c25 : Index := 25#32
  let c0_322 : Index := 0#32
  let c0_323 : Index := 0#32
  ![v947.toNat, 25, 0, 0]
def k0_off96 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v951 : Index := Scalar.indexCast v47
  let c26 : Index := 26#32
  let c0_324 : Index := 0#32
  let c0_325 : Index := 0#32
  ![v951.toNat, 26, 0, 0]
def k0_off97 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v955 : Index := Scalar.indexCast v47
  let c27 : Index := 27#32
  let c0_326 : Index := 0#32
  let c0_327 : Index := 0#32
  ![v955.toNat, 27, 0, 0]
def k0_off98 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v959 : Index := Scalar.indexCast v47
  let c28 : Index := 28#32
  let c0_328 : Index := 0#32
  let c0_329 : Index := 0#32
  ![v959.toNat, 28, 0, 0]
def k0_off99 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v963 : Index := Scalar.indexCast v47
  let c29 : Index := 29#32
  let c0_330 : Index := 0#32
  let c0_331 : Index := 0#32
  ![v963.toNat, 29, 0, 0]
def k0_off100 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v967 : Index := Scalar.indexCast v47
  let c30 : Index := 30#32
  let c0_332 : Index := 0#32
  let c0_333 : Index := 0#32
  ![v967.toNat, 30, 0, 0]
def k0_off101 (i : grid0.Coords) : Fin 4 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v971 : Index := Scalar.indexCast v47
  let c31 : Index := 31#32
  let c0_334 : Index := 0#32
  let c0_335 : Index := 0#32
  ![v971.toNat, 31, 0, 0]
def k0_off102 (i : grid0.Coords) : Fin 3 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_25 : BitVec 32 := 1#32
  let v47 : BitVec 32 := Scalar.subi v18 c1_i32_25
  let v976 : Index := Scalar.indexCast v47
  let c0_336 : Index := 0#32
  let c0_337 : Index := 0#32
  ![v976.toNat, 0, 0]
@[reducible] def k0_t3_loop (i : grid0.Coords) : Scf.Loop 32 :=
  let c0_i32_343 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v987 : BitVec 32 := Scalar.subi v18 c0_i32_343
  let c1_i32_344 : BitVec 32 := 1#32
  let v989 : BitVec 32 := Scalar.divsi v987 c1_i32_344
  let v990 : BitVec 32 := Scalar.muli v989 c1_i32_344
  let v991 : BitVec 32 := Scalar.addi c0_i32_343 v990
  let c1_i32_345 : BitVec 32 := 1#32
  ⟨c0_i32_343, v991, c1_i32_345⟩
def k0_off103 (i : grid0.Coords) (k0_t3 : Fin (k0_t3_loop i).trips) : Fin 4 → Nat :=
  let c0_i32_343 : BitVec 32 := 0#32
  let c1_i32_345 : BitVec 32 := 1#32
  let arg17 : BitVec 32 := Scf.iv c0_i32_343 c1_i32_345 k0_t3
  let v1170 : Index := Scalar.indexCast arg17
  let c0_483 : Index := 0#32
  let c0_484 : Index := 0#32
  let c0_485 : Index := 0#32
  ![v1170.toNat, 0, 0, 0]
@[reducible] def k0_t4_loop (i : grid0.Coords) : Scf.Loop 32 :=
  let c0_i32_343 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v987 : BitVec 32 := Scalar.subi v18 c0_i32_343
  let c1_i32_344 : BitVec 32 := 1#32
  let v989 : BitVec 32 := Scalar.divsi v987 c1_i32_344
  let v990 : BitVec 32 := Scalar.muli v989 c1_i32_344
  let v991 : BitVec 32 := Scalar.addi c0_i32_343 v990
  let v988 : BitVec 32 := Scalar.addi c0_i32_343 v987
  let c1_i32_346 : BitVec 32 := 1#32
  ⟨v991, v988, c1_i32_346⟩
def k0_off104 (i : grid0.Coords) (k0_t4 : Fin (k0_t4_loop i).trips) : Fin 4 → Nat :=
  let c0_i32_343 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v987 : BitVec 32 := Scalar.subi v18 c0_i32_343
  let c1_i32_344 : BitVec 32 := 1#32
  let v989 : BitVec 32 := Scalar.divsi v987 c1_i32_344
  let v990 : BitVec 32 := Scalar.muli v989 c1_i32_344
  let v991 : BitVec 32 := Scalar.addi c0_i32_343 v990
  let c1_i32_346 : BitVec 32 := 1#32
  let arg17 : BitVec 32 := Scf.iv v991 c1_i32_346 k0_t4
  let v1170 : Index := Scalar.indexCast arg17
  let c0_483 : Index := 0#32
  let c0_484 : Index := 0#32
  let c0_485 : Index := 0#32
  ![v1170.toNat, 0, 0, 0]
@[reducible] def k0_t5_loop : Scf.Loop 32 :=
  let c1_i32_354 : BitVec 32 := 1#32
  let c31_i32_355 : BitVec 32 := 31#32
  let v1012 : BitVec 32 := Scalar.addi c1_i32_354 c31_i32_355
  let c1_i32_356 : BitVec 32 := 1#32
  ⟨c1_i32_354, v1012, c1_i32_356⟩
@[reducible] def k0_t6_loop (i : grid0.Coords) : Scf.Loop 32 :=
  let c0_i32_484 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1171 : BitVec 32 := Scalar.subi v18 c0_i32_484
  let c1_i32_485 : BitVec 32 := 1#32
  let v1173 : BitVec 32 := Scalar.divsi v1171 c1_i32_485
  let v1174 : BitVec 32 := Scalar.muli v1173 c1_i32_485
  let v1175 : BitVec 32 := Scalar.addi c0_i32_484 v1174
  let c1_i32_486 : BitVec 32 := 1#32
  ⟨c0_i32_484, v1175, c1_i32_486⟩
def k0_off105 (i : grid0.Coords) (k0_t6 : Fin (k0_t6_loop i).trips) : Fin 3 → Nat :=
  let c0_i32_484 : BitVec 32 := 0#32
  let c1_i32_486 : BitVec 32 := 1#32
  let arg21 : BitVec 32 := Scf.iv c0_i32_484 c1_i32_486 k0_t6
  let v1198 : Index := Scalar.indexCast arg21
  let c0_497 : Index := 0#32
  let c0_498 : Index := 0#32
  ![v1198.toNat, 0, 0]
def k0_off106 (i : grid0.Coords) (k0_t5 : Fin k0_t5_loop.trips) (k0_t6 : Fin (k0_t6_loop i).trips) : Fin 4 → Nat :=
  let c0_i32_484 : BitVec 32 := 0#32
  let c1_i32_486 : BitVec 32 := 1#32
  let arg21 : BitVec 32 := Scf.iv c0_i32_484 c1_i32_486 k0_t6
  let v1201 : Index := Scalar.indexCast arg21
  let c1_i32_354 : BitVec 32 := 1#32
  let c1_i32_356 : BitVec 32 := 1#32
  let arg17 : BitVec 32 := Scf.iv c1_i32_354 c1_i32_356 k0_t5
  let c1_i32_496 : BitVec 32 := 1#32
  let v1197 : BitVec 32 := Scalar.subi arg17 c1_i32_496
  let v1202 : Index := Scalar.indexCast v1197
  let c0_499 : Index := 0#32
  let c0_500 : Index := 0#32
  ![v1201.toNat, v1202.toNat, 0, 0]
def k0_off107 (i : grid0.Coords) (k0_t5 : Fin k0_t5_loop.trips) (k0_t6 : Fin (k0_t6_loop i).trips) : Fin 4 → Nat :=
  let c0_i32_484 : BitVec 32 := 0#32
  let c1_i32_486 : BitVec 32 := 1#32
  let arg21 : BitVec 32 := Scf.iv c0_i32_484 c1_i32_486 k0_t6
  let v1221 : Index := Scalar.indexCast arg21
  let c1_i32_354 : BitVec 32 := 1#32
  let c1_i32_356 : BitVec 32 := 1#32
  let arg17 : BitVec 32 := Scf.iv c1_i32_354 c1_i32_356 k0_t5
  let v1222 : Index := Scalar.indexCast arg17
  let c0_507 : Index := 0#32
  let c0_508 : Index := 0#32
  ![v1221.toNat, v1222.toNat, 0, 0]
@[reducible] def k0_t7_loop (i : grid0.Coords) : Scf.Loop 32 :=
  let c0_i32_484 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1171 : BitVec 32 := Scalar.subi v18 c0_i32_484
  let c1_i32_485 : BitVec 32 := 1#32
  let v1173 : BitVec 32 := Scalar.divsi v1171 c1_i32_485
  let v1174 : BitVec 32 := Scalar.muli v1173 c1_i32_485
  let v1175 : BitVec 32 := Scalar.addi c0_i32_484 v1174
  let v1172 : BitVec 32 := Scalar.addi c0_i32_484 v1171
  let c1_i32_487 : BitVec 32 := 1#32
  ⟨v1175, v1172, c1_i32_487⟩
def k0_off108 (i : grid0.Coords) (k0_t7 : Fin (k0_t7_loop i).trips) : Fin 3 → Nat :=
  let c0_i32_484 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1171 : BitVec 32 := Scalar.subi v18 c0_i32_484
  let c1_i32_485 : BitVec 32 := 1#32
  let v1173 : BitVec 32 := Scalar.divsi v1171 c1_i32_485
  let v1174 : BitVec 32 := Scalar.muli v1173 c1_i32_485
  let v1175 : BitVec 32 := Scalar.addi c0_i32_484 v1174
  let c1_i32_487 : BitVec 32 := 1#32
  let arg21 : BitVec 32 := Scf.iv v1175 c1_i32_487 k0_t7
  let v1198 : Index := Scalar.indexCast arg21
  let c0_497 : Index := 0#32
  let c0_498 : Index := 0#32
  ![v1198.toNat, 0, 0]
def k0_off109 (i : grid0.Coords) (k0_t5 : Fin k0_t5_loop.trips) (k0_t7 : Fin (k0_t7_loop i).trips) : Fin 4 → Nat :=
  let c0_i32_484 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1171 : BitVec 32 := Scalar.subi v18 c0_i32_484
  let c1_i32_485 : BitVec 32 := 1#32
  let v1173 : BitVec 32 := Scalar.divsi v1171 c1_i32_485
  let v1174 : BitVec 32 := Scalar.muli v1173 c1_i32_485
  let v1175 : BitVec 32 := Scalar.addi c0_i32_484 v1174
  let c1_i32_487 : BitVec 32 := 1#32
  let arg21 : BitVec 32 := Scf.iv v1175 c1_i32_487 k0_t7
  let v1201 : Index := Scalar.indexCast arg21
  let c1_i32_354 : BitVec 32 := 1#32
  let c1_i32_356 : BitVec 32 := 1#32
  let arg17 : BitVec 32 := Scf.iv c1_i32_354 c1_i32_356 k0_t5
  let c1_i32_496 : BitVec 32 := 1#32
  let v1197 : BitVec 32 := Scalar.subi arg17 c1_i32_496
  let v1202 : Index := Scalar.indexCast v1197
  let c0_499 : Index := 0#32
  let c0_500 : Index := 0#32
  ![v1201.toNat, v1202.toNat, 0, 0]
def k0_off110 (i : grid0.Coords) (k0_t5 : Fin k0_t5_loop.trips) (k0_t7 : Fin (k0_t7_loop i).trips) : Fin 4 → Nat :=
  let c0_i32_484 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1171 : BitVec 32 := Scalar.subi v18 c0_i32_484
  let c1_i32_485 : BitVec 32 := 1#32
  let v1173 : BitVec 32 := Scalar.divsi v1171 c1_i32_485
  let v1174 : BitVec 32 := Scalar.muli v1173 c1_i32_485
  let v1175 : BitVec 32 := Scalar.addi c0_i32_484 v1174
  let c1_i32_487 : BitVec 32 := 1#32
  let arg21 : BitVec 32 := Scf.iv v1175 c1_i32_487 k0_t7
  let v1221 : Index := Scalar.indexCast arg21
  let c1_i32_354 : BitVec 32 := 1#32
  let c1_i32_356 : BitVec 32 := 1#32
  let arg17 : BitVec 32 := Scf.iv c1_i32_354 c1_i32_356 k0_t5
  let v1222 : Index := Scalar.indexCast arg17
  let c0_507 : Index := 0#32
  let c0_508 : Index := 0#32
  ![v1221.toNat, v1222.toNat, 0, 0]
@[reducible] def k0_t8_loop (i : grid0.Coords) : Scf.Loop 32 :=
  let c0_i32_359 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1014 : BitVec 32 := Scalar.subi v18 c0_i32_359
  let c1_i32_360 : BitVec 32 := 1#32
  let v1016 : BitVec 32 := Scalar.divsi v1014 c1_i32_360
  let v1017 : BitVec 32 := Scalar.muli v1016 c1_i32_360
  let v1018 : BitVec 32 := Scalar.addi c0_i32_359 v1017
  let c1_i32_361 : BitVec 32 := 1#32
  ⟨c0_i32_359, v1018, c1_i32_361⟩
def k0_off111 (i : grid0.Coords) (k0_t8 : Fin (k0_t8_loop i).trips) : Fin 3 → Nat :=
  let c0_i32_359 : BitVec 32 := 0#32
  let c1_i32_361 : BitVec 32 := 1#32
  let arg17 : BitVec 32 := Scf.iv c0_i32_359 c1_i32_361 k0_t8
  let v1170 : Index := Scalar.indexCast arg17
  let c0_483 : Index := 0#32
  let c0_484 : Index := 0#32
  ![v1170.toNat, 0, 0]
def k0_off112 (i : grid0.Coords) (k0_t8 : Fin (k0_t8_loop i).trips) : Fin 4 → Nat :=
  let c0_i32_359 : BitVec 32 := 0#32
  let c1_i32_361 : BitVec 32 := 1#32
  let arg17 : BitVec 32 := Scf.iv c0_i32_359 c1_i32_361 k0_t8
  let v1173 : Index := Scalar.indexCast arg17
  let c31_485 : Index := 31#32
  let c0_486 : Index := 0#32
  let c0_487 : Index := 0#32
  ![v1173.toNat, 31, 0, 0]
@[reducible] def k0_t9_loop (i : grid0.Coords) : Scf.Loop 32 :=
  let c0_i32_359 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1014 : BitVec 32 := Scalar.subi v18 c0_i32_359
  let c1_i32_360 : BitVec 32 := 1#32
  let v1016 : BitVec 32 := Scalar.divsi v1014 c1_i32_360
  let v1017 : BitVec 32 := Scalar.muli v1016 c1_i32_360
  let v1018 : BitVec 32 := Scalar.addi c0_i32_359 v1017
  let v1015 : BitVec 32 := Scalar.addi c0_i32_359 v1014
  let c1_i32_362 : BitVec 32 := 1#32
  ⟨v1018, v1015, c1_i32_362⟩
def k0_off113 (i : grid0.Coords) (k0_t9 : Fin (k0_t9_loop i).trips) : Fin 3 → Nat :=
  let c0_i32_359 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1014 : BitVec 32 := Scalar.subi v18 c0_i32_359
  let c1_i32_360 : BitVec 32 := 1#32
  let v1016 : BitVec 32 := Scalar.divsi v1014 c1_i32_360
  let v1017 : BitVec 32 := Scalar.muli v1016 c1_i32_360
  let v1018 : BitVec 32 := Scalar.addi c0_i32_359 v1017
  let c1_i32_362 : BitVec 32 := 1#32
  let arg17 : BitVec 32 := Scf.iv v1018 c1_i32_362 k0_t9
  let v1170 : Index := Scalar.indexCast arg17
  let c0_483 : Index := 0#32
  let c0_484 : Index := 0#32
  ![v1170.toNat, 0, 0]
def k0_off114 (i : grid0.Coords) (k0_t9 : Fin (k0_t9_loop i).trips) : Fin 4 → Nat :=
  let c0_i32_359 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1014 : BitVec 32 := Scalar.subi v18 c0_i32_359
  let c1_i32_360 : BitVec 32 := 1#32
  let v1016 : BitVec 32 := Scalar.divsi v1014 c1_i32_360
  let v1017 : BitVec 32 := Scalar.muli v1016 c1_i32_360
  let v1018 : BitVec 32 := Scalar.addi c0_i32_359 v1017
  let c1_i32_362 : BitVec 32 := 1#32
  let arg17 : BitVec 32 := Scf.iv v1018 c1_i32_362 k0_t9
  let v1173 : Index := Scalar.indexCast arg17
  let c31_485 : Index := 31#32
  let c0_486 : Index := 0#32
  let c0_487 : Index := 0#32
  ![v1173.toNat, 31, 0, 0]
@[reducible] def k0_t10_loop (i : grid0.Coords) : Scf.Loop 32 :=
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let c1_i32_428 : BitVec 32 := 1#32
  ⟨c0_i32_426, v1105, c1_i32_428⟩
def k0_off115 (i : grid0.Coords) (k0_t10 : Fin (k0_t10_loop i).trips) : Fin 3 → Nat :=
  let c0_i32_426 : BitVec 32 := 0#32
  let c1_i32_428 : BitVec 32 := 1#32
  let arg17 : BitVec 32 := Scf.iv c0_i32_426 c1_i32_428 k0_t10
  let v1170 : Index := Scalar.indexCast arg17
  let c0_483 : Index := 0#32
  let c0_484 : Index := 0#32
  ![v1170.toNat, 0, 0]
def k0_mult4 (i : grid0.Coords) (k0_t10 : Fin (k0_t10_loop i).trips) : BitVec 32 :=
  let c0_i32_426 : BitVec 32 := 0#32
  let c1_i32_428 : BitVec 32 := 1#32
  let arg17 : BitVec 32 := Scf.iv c0_i32_426 c1_i32_428 k0_t10
  let c512_i32_728 : BitVec 32 := 512#32
  let v1646 : BitVec 32 := Scalar.muli arg17 c512_i32_728
  v1646
def k0_off116 (i : grid0.Coords) (k0_t10 : Fin (k0_t10_loop i).trips) : Fin 3 → Nat :=
  let c0_733 : Index := 0#32
  let c0_i32_426 : BitVec 32 := 0#32
  let c1_i32_428 : BitVec 32 := 1#32
  let arg17 : BitVec 32 := Scf.iv c0_i32_426 c1_i32_428 k0_t10
  let c512_i32_728 : BitVec 32 := 512#32
  let v1646 : BitVec 32 := Scalar.muli arg17 c512_i32_728
  let v1647 : BitVec 32 := v1646
  let v1650 : Index := Scalar.indexCast v1647
  let c0_734 : Index := 0#32
  ![0, v1650.toNat, 0]
def k0_off117 (i : grid0.Coords) (k0_t10 : Fin (k0_t10_loop i).trips) : Fin 3 → Nat :=
  let c0_745 : Index := 0#32
  let c0_i32_426 : BitVec 32 := 0#32
  let c1_i32_428 : BitVec 32 := 1#32
  let arg17 : BitVec 32 := Scf.iv c0_i32_426 c1_i32_428 k0_t10
  let c512_i32_728 : BitVec 32 := 512#32
  let v1646 : BitVec 32 := Scalar.muli arg17 c512_i32_728
  let v1647 : BitVec 32 := v1646
  let v1664 : Index := Scalar.indexCast v1647
  let c128_746 : Index := 128#32
  ![0, v1664.toNat, 128]
def k0_off118 (i : grid0.Coords) (k0_t10 : Fin (k0_t10_loop i).trips) : Fin 3 → Nat :=
  let c0_757 : Index := 0#32
  let c0_i32_426 : BitVec 32 := 0#32
  let c1_i32_428 : BitVec 32 := 1#32
  let arg17 : BitVec 32 := Scf.iv c0_i32_426 c1_i32_428 k0_t10
  let c512_i32_728 : BitVec 32 := 512#32
  let v1646 : BitVec 32 := Scalar.muli arg17 c512_i32_728
  let v1647 : BitVec 32 := v1646
  let v1678 : Index := Scalar.indexCast v1647
  let c256_758 : Index := 256#32
  ![0, v1678.toNat, 256]
def k0_off119 (i : grid0.Coords) (k0_t10 : Fin (k0_t10_loop i).trips) : Fin 3 → Nat :=
  let c0_769 : Index := 0#32
  let c0_i32_426 : BitVec 32 := 0#32
  let c1_i32_428 : BitVec 32 := 1#32
  let arg17 : BitVec 32 := Scf.iv c0_i32_426 c1_i32_428 k0_t10
  let c512_i32_728 : BitVec 32 := 512#32
  let v1646 : BitVec 32 := Scalar.muli arg17 c512_i32_728
  let v1647 : BitVec 32 := v1646
  let v1692 : Index := Scalar.indexCast v1647
  let c384_770 : Index := 384#32
  ![0, v1692.toNat, 384]
def k0_off120 (i : grid0.Coords) (k0_t10 : Fin (k0_t10_loop i).trips) : Fin 4 → Nat :=
  let c0_789 : Index := 0#32
  let c0_i32_426 : BitVec 32 := 0#32
  let c1_i32_428 : BitVec 32 := 1#32
  let arg17 : BitVec 32 := Scf.iv c0_i32_426 c1_i32_428 k0_t10
  let v1786 : Index := Scalar.indexCast arg17
  let c0_790 : Index := 0#32
  let c0_791 : Index := 0#32
  ![0, v1786.toNat, 0, 0]
def k0_off121 (i : grid0.Coords) (k0_t10 : Fin (k0_t10_loop i).trips) : Fin 4 → Nat :=
  let c0_793 : Index := 0#32
  let c0_i32_426 : BitVec 32 := 0#32
  let c1_i32_428 : BitVec 32 := 1#32
  let arg17 : BitVec 32 := Scf.iv c0_i32_426 c1_i32_428 k0_t10
  let v1791 : Index := Scalar.indexCast arg17
  let c64_794 : Index := 64#32
  let c0_795 : Index := 0#32
  ![0, v1791.toNat, 64, 0]
def k0_off122 (i : grid0.Coords) (k0_t10 : Fin (k0_t10_loop i).trips) : Fin 4 → Nat :=
  let c0_797 : Index := 0#32
  let c0_i32_426 : BitVec 32 := 0#32
  let c1_i32_428 : BitVec 32 := 1#32
  let arg17 : BitVec 32 := Scf.iv c0_i32_426 c1_i32_428 k0_t10
  let v1796 : Index := Scalar.indexCast arg17
  let c128_798 : Index := 128#32
  let c0_799 : Index := 0#32
  ![0, v1796.toNat, 128, 0]
def k0_off123 (i : grid0.Coords) (k0_t10 : Fin (k0_t10_loop i).trips) : Fin 4 → Nat :=
  let c0_801 : Index := 0#32
  let c0_i32_426 : BitVec 32 := 0#32
  let c1_i32_428 : BitVec 32 := 1#32
  let arg17 : BitVec 32 := Scf.iv c0_i32_426 c1_i32_428 k0_t10
  let v1801 : Index := Scalar.indexCast arg17
  let c192_802 : Index := 192#32
  let c0_803 : Index := 0#32
  ![0, v1801.toNat, 192, 0]
def k0_off124 (i : grid0.Coords) (k0_t10 : Fin (k0_t10_loop i).trips) : Fin 4 → Nat :=
  let c0_805 : Index := 0#32
  let c0_i32_426 : BitVec 32 := 0#32
  let c1_i32_428 : BitVec 32 := 1#32
  let arg17 : BitVec 32 := Scf.iv c0_i32_426 c1_i32_428 k0_t10
  let v1806 : Index := Scalar.indexCast arg17
  let c256_806 : Index := 256#32
  let c0_807 : Index := 0#32
  ![0, v1806.toNat, 256, 0]
def k0_off125 (i : grid0.Coords) (k0_t10 : Fin (k0_t10_loop i).trips) : Fin 4 → Nat :=
  let c0_809 : Index := 0#32
  let c0_i32_426 : BitVec 32 := 0#32
  let c1_i32_428 : BitVec 32 := 1#32
  let arg17 : BitVec 32 := Scf.iv c0_i32_426 c1_i32_428 k0_t10
  let v1811 : Index := Scalar.indexCast arg17
  let c320_810 : Index := 320#32
  let c0_811 : Index := 0#32
  ![0, v1811.toNat, 320, 0]
def k0_off126 (i : grid0.Coords) (k0_t10 : Fin (k0_t10_loop i).trips) : Fin 4 → Nat :=
  let c0_813 : Index := 0#32
  let c0_i32_426 : BitVec 32 := 0#32
  let c1_i32_428 : BitVec 32 := 1#32
  let arg17 : BitVec 32 := Scf.iv c0_i32_426 c1_i32_428 k0_t10
  let v1816 : Index := Scalar.indexCast arg17
  let c384_814 : Index := 384#32
  let c0_815 : Index := 0#32
  ![0, v1816.toNat, 384, 0]
def k0_off127 (i : grid0.Coords) (k0_t10 : Fin (k0_t10_loop i).trips) : Fin 4 → Nat :=
  let c0_817 : Index := 0#32
  let c0_i32_426 : BitVec 32 := 0#32
  let c1_i32_428 : BitVec 32 := 1#32
  let arg17 : BitVec 32 := Scf.iv c0_i32_426 c1_i32_428 k0_t10
  let v1821 : Index := Scalar.indexCast arg17
  let c448_818 : Index := 448#32
  let c0_819 : Index := 0#32
  ![0, v1821.toNat, 448, 0]
@[reducible] def k0_t11_loop (i : grid0.Coords) : Scf.Loop 32 :=
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let v1102 : BitVec 32 := Scalar.addi c0_i32_426 v1101
  let c1_i32_429 : BitVec 32 := 1#32
  ⟨v1105, v1102, c1_i32_429⟩
def k0_off128 (i : grid0.Coords) (k0_t11 : Fin (k0_t11_loop i).trips) : Fin 3 → Nat :=
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let c1_i32_429 : BitVec 32 := 1#32
  let arg17 : BitVec 32 := Scf.iv v1105 c1_i32_429 k0_t11
  let v1170 : Index := Scalar.indexCast arg17
  let c0_483 : Index := 0#32
  let c0_484 : Index := 0#32
  ![v1170.toNat, 0, 0]
def k0_mult5 (i : grid0.Coords) (k0_t11 : Fin (k0_t11_loop i).trips) : BitVec 32 :=
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let c1_i32_429 : BitVec 32 := 1#32
  let arg17 : BitVec 32 := Scf.iv v1105 c1_i32_429 k0_t11
  let c512_i32_728 : BitVec 32 := 512#32
  let v1646 : BitVec 32 := Scalar.muli arg17 c512_i32_728
  v1646
def k0_off129 (i : grid0.Coords) (k0_t11 : Fin (k0_t11_loop i).trips) : Fin 3 → Nat :=
  let c0_733 : Index := 0#32
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let c1_i32_429 : BitVec 32 := 1#32
  let arg17 : BitVec 32 := Scf.iv v1105 c1_i32_429 k0_t11
  let c512_i32_728 : BitVec 32 := 512#32
  let v1646 : BitVec 32 := Scalar.muli arg17 c512_i32_728
  let v1647 : BitVec 32 := v1646
  let v1650 : Index := Scalar.indexCast v1647
  let c0_734 : Index := 0#32
  ![0, v1650.toNat, 0]
def k0_off130 (i : grid0.Coords) (k0_t11 : Fin (k0_t11_loop i).trips) : Fin 3 → Nat :=
  let c0_745 : Index := 0#32
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let c1_i32_429 : BitVec 32 := 1#32
  let arg17 : BitVec 32 := Scf.iv v1105 c1_i32_429 k0_t11
  let c512_i32_728 : BitVec 32 := 512#32
  let v1646 : BitVec 32 := Scalar.muli arg17 c512_i32_728
  let v1647 : BitVec 32 := v1646
  let v1664 : Index := Scalar.indexCast v1647
  let c128_746 : Index := 128#32
  ![0, v1664.toNat, 128]
def k0_off131 (i : grid0.Coords) (k0_t11 : Fin (k0_t11_loop i).trips) : Fin 3 → Nat :=
  let c0_757 : Index := 0#32
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let c1_i32_429 : BitVec 32 := 1#32
  let arg17 : BitVec 32 := Scf.iv v1105 c1_i32_429 k0_t11
  let c512_i32_728 : BitVec 32 := 512#32
  let v1646 : BitVec 32 := Scalar.muli arg17 c512_i32_728
  let v1647 : BitVec 32 := v1646
  let v1678 : Index := Scalar.indexCast v1647
  let c256_758 : Index := 256#32
  ![0, v1678.toNat, 256]
def k0_off132 (i : grid0.Coords) (k0_t11 : Fin (k0_t11_loop i).trips) : Fin 3 → Nat :=
  let c0_769 : Index := 0#32
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let c1_i32_429 : BitVec 32 := 1#32
  let arg17 : BitVec 32 := Scf.iv v1105 c1_i32_429 k0_t11
  let c512_i32_728 : BitVec 32 := 512#32
  let v1646 : BitVec 32 := Scalar.muli arg17 c512_i32_728
  let v1647 : BitVec 32 := v1646
  let v1692 : Index := Scalar.indexCast v1647
  let c384_770 : Index := 384#32
  ![0, v1692.toNat, 384]
def k0_off133 (i : grid0.Coords) (k0_t11 : Fin (k0_t11_loop i).trips) : Fin 4 → Nat :=
  let c0_789 : Index := 0#32
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let c1_i32_429 : BitVec 32 := 1#32
  let arg17 : BitVec 32 := Scf.iv v1105 c1_i32_429 k0_t11
  let v1786 : Index := Scalar.indexCast arg17
  let c0_790 : Index := 0#32
  let c0_791 : Index := 0#32
  ![0, v1786.toNat, 0, 0]
def k0_off134 (i : grid0.Coords) (k0_t11 : Fin (k0_t11_loop i).trips) : Fin 4 → Nat :=
  let c0_793 : Index := 0#32
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let c1_i32_429 : BitVec 32 := 1#32
  let arg17 : BitVec 32 := Scf.iv v1105 c1_i32_429 k0_t11
  let v1791 : Index := Scalar.indexCast arg17
  let c64_794 : Index := 64#32
  let c0_795 : Index := 0#32
  ![0, v1791.toNat, 64, 0]
def k0_off135 (i : grid0.Coords) (k0_t11 : Fin (k0_t11_loop i).trips) : Fin 4 → Nat :=
  let c0_797 : Index := 0#32
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let c1_i32_429 : BitVec 32 := 1#32
  let arg17 : BitVec 32 := Scf.iv v1105 c1_i32_429 k0_t11
  let v1796 : Index := Scalar.indexCast arg17
  let c128_798 : Index := 128#32
  let c0_799 : Index := 0#32
  ![0, v1796.toNat, 128, 0]
def k0_off136 (i : grid0.Coords) (k0_t11 : Fin (k0_t11_loop i).trips) : Fin 4 → Nat :=
  let c0_801 : Index := 0#32
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let c1_i32_429 : BitVec 32 := 1#32
  let arg17 : BitVec 32 := Scf.iv v1105 c1_i32_429 k0_t11
  let v1801 : Index := Scalar.indexCast arg17
  let c192_802 : Index := 192#32
  let c0_803 : Index := 0#32
  ![0, v1801.toNat, 192, 0]
def k0_off137 (i : grid0.Coords) (k0_t11 : Fin (k0_t11_loop i).trips) : Fin 4 → Nat :=
  let c0_805 : Index := 0#32
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let c1_i32_429 : BitVec 32 := 1#32
  let arg17 : BitVec 32 := Scf.iv v1105 c1_i32_429 k0_t11
  let v1806 : Index := Scalar.indexCast arg17
  let c256_806 : Index := 256#32
  let c0_807 : Index := 0#32
  ![0, v1806.toNat, 256, 0]
def k0_off138 (i : grid0.Coords) (k0_t11 : Fin (k0_t11_loop i).trips) : Fin 4 → Nat :=
  let c0_809 : Index := 0#32
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let c1_i32_429 : BitVec 32 := 1#32
  let arg17 : BitVec 32 := Scf.iv v1105 c1_i32_429 k0_t11
  let v1811 : Index := Scalar.indexCast arg17
  let c320_810 : Index := 320#32
  let c0_811 : Index := 0#32
  ![0, v1811.toNat, 320, 0]
def k0_off139 (i : grid0.Coords) (k0_t11 : Fin (k0_t11_loop i).trips) : Fin 4 → Nat :=
  let c0_813 : Index := 0#32
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let c1_i32_429 : BitVec 32 := 1#32
  let arg17 : BitVec 32 := Scf.iv v1105 c1_i32_429 k0_t11
  let v1816 : Index := Scalar.indexCast arg17
  let c384_814 : Index := 384#32
  let c0_815 : Index := 0#32
  ![0, v1816.toNat, 384, 0]
def k0_off140 (i : grid0.Coords) (k0_t11 : Fin (k0_t11_loop i).trips) : Fin 4 → Nat :=
  let c0_817 : Index := 0#32
  let c0_i32_426 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v1101 : BitVec 32 := Scalar.subi v18 c0_i32_426
  let c1_i32_427 : BitVec 32 := 1#32
  let v1103 : BitVec 32 := Scalar.divsi v1101 c1_i32_427
  let v1104 : BitVec 32 := Scalar.muli v1103 c1_i32_427
  let v1105 : BitVec 32 := Scalar.addi c0_i32_426 v1104
  let c1_i32_429 : BitVec 32 := 1#32
  let arg17 : BitVec 32 := Scf.iv v1105 c1_i32_429 k0_t11
  let v1821 : Index := Scalar.indexCast arg17
  let c448_818 : Index := 448#32
  let c0_819 : Index := 0#32
  ![0, v1821.toNat, 448, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8192x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x16x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x8192x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proj.lean ====
abbrev S4x8192x1024 : Shape := ⟨3, ![4, 8192, 1024]⟩
abbrev S1024 : Shape := ⟨1, ![1024]⟩
abbrev S1024x3140 : Shape := ⟨2, ![1024, 3140]⟩
abbrev S4x8192x32 : Shape := ⟨3, ![4, 8192, 32]⟩
abbrev S31x256 : Shape := ⟨2, ![31, 256]⟩
abbrev S256 : Shape := ⟨1, ![256]⟩
abbrev S3x256 : Shape := ⟨2, ![3, 256]⟩
abbrev S32768x32 : Shape := ⟨2, ![32768, 32]⟩
abbrev S32768x128 : Shape := ⟨2, ![32768, 128]⟩
abbrev S32768x1024 : Shape := ⟨2, ![32768, 1024]⟩
abbrev S1x1024 : Shape := ⟨2, ![1, 1024]⟩
abbrev S_ : Shape := ⟨0, ![]⟩
abbrev S1024x3200 : Shape := ⟨2, ![1024, 3200]⟩
abbrev S1x256 : Shape := ⟨2, ![1, 256]⟩
abbrev S4x8192x512 : Shape := ⟨3, ![4, 8192, 512]⟩
abbrev S4x512x8192 : Shape := ⟨3, ![4, 512, 8192]⟩
abbrev S4x16x512x512 : Shape := ⟨4, ![4, 16, 512, 512]⟩
abbrev S4x256x8192 : Shape := ⟨3, ![4, 256, 8192]⟩
abbrev S4x8192x128 : Shape := ⟨3, ![4, 8192, 128]⟩
abbrev S4x128x8192 : Shape := ⟨3, ![4, 128, 8192]⟩
abbrev S512x1024 : Shape := ⟨2, ![512, 1024]⟩
abbrev S512x128 : Shape := ⟨2, ![512, 128]⟩
abbrev S1x512x512 : Shape := ⟨3, ![1, 512, 512]⟩
abbrev S1x1x512x512 : Shape := ⟨4, ![1, 1, 512, 512]⟩
abbrev S1x256x512 : Shape := ⟨3, ![1, 256, 512]⟩
abbrev S1x512x128 : Shape := ⟨3, ![1, 512, 128]⟩
abbrev S1x128x512 : Shape := ⟨3, ![1, 128, 512]⟩
abbrev S544x256 : Shape := ⟨2, ![544, 256]⟩
abbrev S520x256 : Shape := ⟨2, ![520, 256]⟩
abbrev S7x536x256 : Shape := ⟨3, ![7, 536, 256]⟩
abbrev S32x256 : Shape := ⟨2, ![32, 256]⟩
abbrev S8x256 : Shape := ⟨2, ![8, 256]⟩
abbrev S512 : Shape := ⟨1, ![512]⟩
abbrev S512x1 : Shape := ⟨2, ![512, 1]⟩
abbrev S1024x1280 : Shape := ⟨2, ![1024, 1280]⟩
abbrev S512x1280 : Shape := ⟨2, ![512, 1280]⟩
abbrev S512x256 : Shape := ⟨2, ![512, 256]⟩
abbrev S536x256 : Shape := ⟨2, ![536, 256]⟩
abbrev S1x536x256 : Shape := ⟨3, ![1, 536, 256]⟩
abbrev S64x256 : Shape := ⟨2, ![64, 256]⟩
abbrev S1x64x256 : Shape := ⟨3, ![1, 64, 256]⟩
abbrev S64 : Shape := ⟨1, ![64]⟩
abbrev S64x1 : Shape := ⟨2, ![64, 1]⟩
abbrev S1024x512 : Shape := ⟨2, ![1024, 512]⟩
abbrev S512x512 : Shape := ⟨2, ![512, 512]⟩
abbrev S128x512 : Shape := ⟨2, ![128, 512]⟩
abbrev S1024x256 : Shape := ⟨2, ![1024, 256]⟩
abbrev S1024x128 : Shape := ⟨2, ![1024, 128]⟩

abbrev nBuf : Space → Nat
  | .hbm => 31
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3140, .f32⟩
  | .hbm, ⟨3, _⟩ => ⟨S4x8192x32, .f32⟩
  | .hbm, ⟨4, _⟩ => ⟨S4x8192x32, .f32⟩
  | .hbm, ⟨5, _⟩ => ⟨S31x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S3x256, .f32⟩
  | .hbm, ⟨10, _⟩ => ⟨S32768x32, .f32⟩
  | .hbm, ⟨11, _⟩ => ⟨S32768x32, .f32⟩
  | .hbm, ⟨12, _⟩ => ⟨S32768x128, .f32⟩
  | .hbm, ⟨13, _⟩ => ⟨S32768x32, .f32⟩
  | .hbm, ⟨14, _⟩ => ⟨S32768x128, .f32⟩
  | .hbm, ⟨15, _⟩ => ⟨S32768x1024, .f32⟩
  | .hbm, ⟨16, _⟩ => ⟨S1x1024, .f32⟩
  | .hbm, ⟨17, _⟩ => ⟨S1024x3140, .bf16⟩
  | .hbm, ⟨18, _⟩ => ⟨S_, .i32⟩
  | .hbm, ⟨19, _⟩ => ⟨S_, .bf16⟩
  | .hbm, ⟨20, _⟩ => ⟨S1024x3200, .bf16⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S4x8192x512, .bf16⟩
  | .hbm, ⟨25, _⟩ => ⟨S4x512x8192, .bf16⟩
  | .hbm, ⟨26, _⟩ => ⟨S4x8192x512, .bf16⟩
  | .hbm, ⟨27, _⟩ => ⟨S4x16x512x512, .bf16⟩
  | .hbm, ⟨28, _⟩ => ⟨S4x256x8192, .bf16⟩
  | .hbm, ⟨29, _⟩ => ⟨S4x8192x128, .bf16⟩
  | .hbm, ⟨30, _⟩ => ⟨S4x128x8192, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S31x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S3x256, .f32⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x1x512x512, .bf16⟩
  | .local _ .vmem, ⟨20, _⟩ => ⟨S1x1x512x512, .bf16⟩
  | .local _ .vmem, ⟨21, _⟩ => ⟨S1x256x512, .bf16⟩
  | .local _ .vmem, ⟨22, _⟩ => ⟨S1x256x512, .bf16⟩
  | .local _ .vmem, ⟨23, _⟩ => ⟨S1x512x128, .bf16⟩
  | .local _ .vmem, ⟨24, _⟩ => ⟨S1x512x128, .bf16⟩
  | .local _ .vmem, ⟨25, _⟩ => ⟨S1x128x512, .f32⟩
  | .local _ .vmem, ⟨26, _⟩ => ⟨S1x128x512, .f32⟩
  | .local _ .vmem, ⟨27, _⟩ => ⟨S544x256, .f32⟩
  | .local _ .vmem, ⟨28, _⟩ => ⟨S520x256, .f32⟩
  | .local _ .vmem, ⟨29, _⟩ => ⟨S7x536x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ProjRefIdeal.lean ====
abbrev S4x8192x1024 : Shape := ⟨3, ![4, 8192, 1024]⟩
abbrev S1024 : Shape := ⟨1, ![1024]⟩
abbrev S1024x3140 : Shape := ⟨2, ![1024, 3140]⟩
abbrev S4x8192x32 : Shape := ⟨3, ![4, 8192, 32]⟩
abbrev S31x256 : Shape := ⟨2, ![31, 256]⟩
abbrev S256 : Shape := ⟨1, ![256]⟩
abbrev S3x256 : Shape := ⟨2, ![3, 256]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3140 : Shape := ⟨3, ![4, 8192, 3140]⟩
abbrev S4x8192x256 : Shape := ⟨3, ![4, 8192, 256]⟩
abbrev S4x8192x512 : Shape := ⟨3, ![4, 8192, 512]⟩
abbrev S4x8192x64 : Shape := ⟨3, ![4, 8192, 64]⟩
abbrev S4x8192x4 : Shape := ⟨3, ![4, 8192, 4]⟩
abbrev S4x8192x8x64 : Shape := ⟨4, ![4, 8192, 8, 64]⟩
abbrev S4x8192x8x32 : Shape := ⟨4, ![4, 8192, 8, 32]⟩
abbrev S4x8192x1x32 : Shape := ⟨4, ![4, 8192, 1, 32]⟩
abbrev S4x8192x4x64 : Shape := ⟨4, ![4, 8192, 4, 64]⟩
abbrev S4x8192x4x32 : Shape := ⟨4, ![4, 8192, 4, 32]⟩
abbrev S4x8192x1x64 : Shape := ⟨4, ![4, 8192, 1, 64]⟩
abbrev S4x8192x60 : Shape := ⟨3, ![4, 8192, 60]⟩
abbrev S4x8192x128 : Shape := ⟨3, ![4, 8192, 128]⟩
abbrev S4x512x8192 : Shape := ⟨3, ![4, 512, 8192]⟩
abbrev S4x16x512x512 : Shape := ⟨4, ![4, 16, 512, 512]⟩
abbrev S4x256x8192 : Shape := ⟨3, ![4, 256, 8192]⟩
abbrev S4x128x8192 : Shape := ⟨3, ![4, 128, 8192]⟩

abbrev nBuf : Space → Nat
  | .hbm => 118
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3140, .f32⟩
  | .hbm, ⟨3, _⟩ => ⟨S4x8192x32, .f32⟩
  | .hbm, ⟨4, _⟩ => ⟨S4x8192x32, .f32⟩
  | .hbm, ⟨5, _⟩ => ⟨S31x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S3x256, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S4x8192x3140, .f32⟩
  | .hbm, ⟨27, _⟩ => ⟨S4x8192x256, .f32⟩
  | .hbm, ⟨28, _⟩ => ⟨S4x8192x256, .f32⟩
  | .hbm, ⟨29, _⟩ => ⟨S4x8192x256, .f32⟩
  | .hbm, ⟨30, _⟩ => ⟨S4x8192x256, .f32⟩
  | .hbm, ⟨31, _⟩ => ⟨S4x8192x256, .f32⟩
  | .hbm, ⟨32, _⟩ => ⟨S4x8192x512, .f32⟩
  | .hbm, ⟨33, _⟩ => ⟨S4x8192x512, .f32⟩
  | .hbm, ⟨34, _⟩ => ⟨S4x8192x512, .f32⟩
  | .hbm, ⟨35, _⟩ => ⟨S4x8192x256, .f32⟩
  | .hbm, ⟨36, _⟩ => ⟨S4x8192x64, .f32⟩
  | .hbm, ⟨37, _⟩ => ⟨S4x8192x4, .f32⟩
  | .hbm, ⟨38, _⟩ => ⟨S4x8192x8x64, .f32⟩
  | .hbm, ⟨39, _⟩ => ⟨S4x8192x8x32, .f32⟩
  | .hbm, ⟨40, _⟩ => ⟨S4x8192x8x32, .f32⟩
  | .hbm, ⟨41, _⟩ => ⟨S4x8192x1x32, .f32⟩
  | .hbm, ⟨42, _⟩ => ⟨S4x8192x1x32, .f32⟩
  | .hbm, ⟨43, _⟩ => ⟨S4x8192x8x32, .f32⟩
  | .hbm, ⟨44, _⟩ => ⟨S4x8192x8x32, .f32⟩
  | .hbm, ⟨45, _⟩ => ⟨S4x8192x8x32, .f32⟩
  | .hbm, ⟨46, _⟩ => ⟨S4x8192x8x32, .f32⟩
  | .hbm, ⟨47, _⟩ => ⟨S4x8192x8x32, .f32⟩
  | .hbm, ⟨48, _⟩ => ⟨S4x8192x8x32, .f32⟩
  | .hbm, ⟨49, _⟩ => ⟨S4x8192x8x32, .f32⟩
  | .hbm, ⟨50, _⟩ => ⟨S4x8192x8x32, .f32⟩
  | .hbm, ⟨51, _⟩ => ⟨S4x8192x8x32, .f32⟩
  | .hbm, ⟨52, _⟩ => ⟨S4x8192x8x32, .f32⟩
  | .hbm, ⟨53, _⟩ => ⟨S4x8192x8x64, .f32⟩
  | .hbm, ⟨54, _⟩ => ⟨S4x8192x8x64, .f32⟩
  | .hbm, ⟨55, _⟩ => ⟨S4x8192x8x32, .f32⟩
  | .hbm, ⟨56, _⟩ => ⟨S4x8192x8x32, .f32⟩
  | .hbm, ⟨57, _⟩ => ⟨S4x8192x1x32, .f32⟩
  | .hbm, ⟨58, _⟩ => ⟨S4x8192x1x32, .f32⟩
  | .hbm, ⟨59, _⟩ => ⟨S4x8192x8x32, .f32⟩
  | .hbm, ⟨60, _⟩ => ⟨S4x8192x8x32, .f32⟩
  | .hbm, ⟨61, _⟩ => ⟨S4x8192x8x32, .f32⟩
  | .hbm, ⟨62, _⟩ => ⟨S4x8192x8x32, .f32⟩
  | .hbm, ⟨63, _⟩ => ⟨S4x8192x8x32, .f32⟩
  | .hbm, ⟨64, _⟩ => ⟨S4x8192x8x32, .f32⟩
  | .hbm, ⟨65, _⟩ => ⟨S4x8192x8x32, .f32⟩
  | .hbm, ⟨66, _⟩ => ⟨S4x8192x8x32, .f32⟩
  | .hbm, ⟨67, _⟩ => ⟨S4x8192x8x32, .f32⟩
  | .hbm, ⟨68, _⟩ => ⟨S4x8192x8x32, .f32⟩
  | .hbm, ⟨69, _⟩ => ⟨S4x8192x8x64, .f32⟩
  | .hbm, ⟨70, _⟩ => ⟨S4x8192x4x64, .f32⟩
  | .hbm, ⟨71, _⟩ => ⟨S4x8192x4x32, .f32⟩
  | .hbm, ⟨72, _⟩ => ⟨S4x8192x4x32, .f32⟩
  | .hbm, ⟨73, _⟩ => ⟨S4x8192x1x32, .f32⟩
  | .hbm, ⟨74, _⟩ => ⟨S4x8192x1x32, .f32⟩
  | .hbm, ⟨75, _⟩ => ⟨S4x8192x4x32, .f32⟩
  | .hbm, ⟨76, _⟩ => ⟨S4x8192x4x32, .f32⟩
  | .hbm, ⟨77, _⟩ => ⟨S4x8192x4x32, .f32⟩
  | .hbm, ⟨78, _⟩ => ⟨S4x8192x4x32, .f32⟩
  | .hbm, ⟨79, _⟩ => ⟨S4x8192x4x32, .f32⟩
  | .hbm, ⟨80, _⟩ => ⟨S4x8192x4x32, .f32⟩
  | .hbm, ⟨81, _⟩ => ⟨S4x8192x4x32, .f32⟩
  | .hbm, ⟨82, _⟩ => ⟨S4x8192x4x32, .f32⟩
  | .hbm, ⟨83, _⟩ => ⟨S4x8192x4x32, .f32⟩
  | .hbm, ⟨84, _⟩ => ⟨S4x8192x4x32, .f32⟩
  | .hbm, ⟨85, _⟩ => ⟨S4x8192x4x64, .f32⟩
  | .hbm, ⟨86, _⟩ => ⟨S4x8192x1x64, .f32⟩
  | .hbm, ⟨87, _⟩ => ⟨S4x8192x1x32, .f32⟩
  | .hbm, ⟨88, _⟩ => ⟨S4x8192x1x32, .f32⟩
  | .hbm, ⟨89, _⟩ => ⟨S4x8192x1x32, .f32⟩
  | .hbm, ⟨90, _⟩ => ⟨S4x8192x1x32, .f32⟩
  | .hbm, ⟨91, _⟩ => ⟨S4x8192x1x32, .f32⟩
  | .hbm, ⟨92, _⟩ => ⟨S4x8192x1x32, .f32⟩
  | .hbm, ⟨93, _⟩ => ⟨S4x8192x1x32, .f32⟩
  | .hbm, ⟨94, _⟩ => ⟨S4x8192x1x32, .f32⟩
  | .hbm, ⟨95, _⟩ => ⟨S4x8192x1x32, .f32⟩
  | .hbm, ⟨96, _⟩ => ⟨S4x8192x1x32, .f32⟩
  | .hbm, ⟨97, _⟩ => ⟨S4x8192x1x64, .f32⟩
  | .hbm, ⟨98, _⟩ => ⟨S4x8192x64, .f32⟩
  | .hbm, ⟨99, _⟩ => ⟨S_, .f32⟩
  | .hbm, ⟨100, _⟩ => ⟨S4x8192x60, .f32⟩
  | .hbm, ⟨101, _⟩ => ⟨S4x8192x128, .f32⟩
  | .hbm, ⟨102, _⟩ => ⟨S4x8192x512, .f32⟩
  | .hbm, ⟨103, _⟩ => ⟨S4x512x8192, .f32⟩
  | .hbm, ⟨104, _⟩ => ⟨S_, .f32⟩
  | .hbm, ⟨105, _⟩ => ⟨S4x512x8192, .f32⟩
  | .hbm, ⟨106, _⟩ => ⟨S4x512x8192, .f32⟩
  | .hbm, ⟨107, _⟩ => ⟨S4x512x8192, .bf16⟩
  | .hbm, ⟨108, _⟩ => ⟨S4x8192x512, .f32⟩
  | .hbm, ⟨109, _⟩ => ⟨S4x8192x512, .bf16⟩
  | .hbm, ⟨110, _⟩ => ⟨S4x16x512x512, .f32⟩
  | .hbm, ⟨111, _⟩ => ⟨S4x16x512x512, .f32⟩
  | .hbm, ⟨112, _⟩ => ⟨S4x16x512x512, .bf16⟩
  | .hbm, ⟨113, _⟩ => ⟨S4x8192x256, .f32⟩
  | .hbm, ⟨114, _⟩ => ⟨S4x256x8192, .f32⟩
  | .hbm, ⟨115, _⟩ => ⟨S4x256x8192, .bf16⟩
  | .hbm, ⟨116, _⟩ => ⟨S4x8192x128, .bf16⟩
  | .hbm, ⟨117, _⟩ => ⟨S4x128x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_2 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_3 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩

abbrev nD : Nat := 1
abbrev τ : Topo := Topo.v7x

variable {F : FTy → Type} [FloatOps F]
-- ==== Rope.lean ====
abbrev S4x8192 : Shape := ⟨2, ![4, 8192]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S32768x1 : Shape := ⟨2, ![32768, 1]⟩
abbrev S32768x128 : Shape := ⟨2, ![32768, 128]⟩
abbrev S1024x128 : Shape := ⟨2, ![1024, 128]⟩

abbrev nBuf : Space → Nat
  | .hbm => 33
  | .vmem => 8
  | .smem => 0
  | _ => 0

abbrev bufTy : (tb : Table) → Fin (tcTables nBuf tb) → BufTy
  | .hbm, ⟨0, _⟩ => ⟨S4x8192, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x32, .f32⟩
  | .hbm, ⟨16, _⟩ => ⟨S4x32, .f32⟩
  | .hbm, ⟨17, _⟩ => ⟨S128, .f32⟩
  | .hbm, ⟨18, _⟩ => ⟨S1x128, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S64, .f32⟩
  | .hbm, ⟨25, _⟩ => ⟨S1x64, .f32⟩
  | .hbm, ⟨26, _⟩ => ⟨S2x64, .f32⟩
  | .hbm, ⟨27, _⟩ => ⟨S128, .f32⟩
  | .hbm, ⟨28, _⟩ => ⟨S1x128, .f32⟩
  | .hbm, ⟨29, _⟩ => ⟨S32768x1, .i32⟩
  | .hbm, ⟨30, _⟩ => ⟨S32768x128, .i32⟩
  | .hbm, ⟨31, _⟩ => ⟨S32768x128, .f32⟩
  | .hbm, ⟨32, _⟩ => ⟨S32768x128, .f32⟩
  | .local _ .vmem, ⟨0, _⟩ => ⟨S1024x128, .i32⟩
  | .local _ .vmem, ⟨1, _⟩ => ⟨S1024x128, .i32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeRefIdeal.lean ====
abbrev S4x8192 : Shape := ⟨2, ![4, 8192]⟩
abbrev S32768 : Shape := ⟨1, ![32768]⟩
abbrev S32 : Shape := ⟨1, ![32]⟩
abbrev S_ : Shape := ⟨0, ![]⟩
abbrev S32768x1 : Shape := ⟨2, ![32768, 1]⟩
abbrev S1x32 : Shape := ⟨2, ![1, 32]⟩
abbrev S32768x32 : Shape := ⟨2, ![32768, 32]⟩
abbrev S32768x128 : Shape := ⟨2, ![32768, 128]⟩

abbrev nBuf : Space → Nat
  | .hbm => 27
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S32768, .i32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32768, .f32⟩
  | .hbm, ⟨17, _⟩ => ⟨S32768x1, .f32⟩
  | .hbm, ⟨18, _⟩ => ⟨S1x32, .f32⟩
  | .hbm, ⟨19, _⟩ => ⟨S32768x32, .f32⟩
  | .hbm, ⟨20, _⟩ => ⟨S32768x32, .f32⟩
  | .hbm, ⟨21, _⟩ => ⟨S32768x32, .f32⟩
  | .hbm, ⟨22, _⟩ => ⟨S32768x32, .f32⟩
  | .hbm, ⟨23, _⟩ => ⟨S32768x32, .f32⟩
  | .hbm, ⟨24, _⟩ => ⟨S32768x128, .f32⟩
  | .hbm, ⟨25, _⟩ => ⟨S32768x32, .f32⟩
  | .hbm, ⟨26, _⟩ => ⟨S32768x128, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Proof.FfnValue.lean ====
/- The SwiGLU half-step `x + ½ · (silu(h W_gate) · (h W_up)) W_down` with `h = rms_norm(x) · g`: the kernel works on blocks
   of 512 rows with all three weight matrices resident, the reference on the whole array. -/
module

public import proofs.«01_k».proof.Defs
public import proofs.«01_k».proof.Proof.Gen.FfnIdeal.Value
public import proofs.«01_k».proof.Proof.Gen.FfnRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnRefIdeal.Hand

open Cert.FfnRefIdeal Cert.FfnRefIdeal.Gen

/-- The reference's normalised rows, scaled by the gain. -/
def norm (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf x x) (constant S_ .f32 0x00000000#32) reducesTo_S4x8192x1024_S4x8192_d2 h_S_))
    (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The reference's `silu`, as the division it is written by. -/
def silu (a : FVec Ideal S4x8192x2816 .f32) : FVec Ideal S4x8192x2816 .f32 :=
  mulf a (Host.divf (broadcastInDim S4x8192x2816 ![] bcast_S_S4x8192x2816 (constant S_ .f32 0x3F800000#32))
    (addf (broadcastInDim S4x8192x2816 ![] bcast_S_S4x8192x2816 (constant S_ .f32 0x3F800000#32)) (Host.exp (Host.negf a))))

/-- The reference's half-step on normalised rows `h`, before the rows are laid end to end. -/
def step (x h : FVec Ideal S4x8192x1024 .f32) (wg wu : FVec Ideal S1024x2816 .f32) (wd : FVec Ideal S2816x1024 .f32) :
    FVec Ideal S4x8192x1024 .f32 :=
  addf x (mulf (broadcastInDim S4x8192x1024 ![] bcast_S_S4x8192x1024 (constant S_ .f32 0x3F000000#32))
    (Host.dotGeneral dot_S4x8192x2816_S2816x1024_S4x8192x1024_2_0_01_1_n_n none
      (mulf (silu (Host.dotGeneral dot_S4x8192x1024_S1024x2816_S4x8192x2816_2_0_01_1_n_n none h wg))
        (Host.dotGeneral dot_S4x8192x1024_S1024x2816_S4x8192x2816_2_0_01_1_n_n none h wu)) wd))

/-- The reference's result: the half-step of every row, the rows laid end to end. -/
def result (x : FVec Ideal S4x8192x1024 .f32) (g : FVec Ideal S1024 .f32) (wg wu : FVec Ideal S1024x2816 .f32)
    (wd : FVec Ideal S2816x1024 .f32) : FVec Ideal S32768x1024 .f32 :=
  shapeCast S32768x1024 (step x (norm x g) wg wu wd) shapeCasts_S4x8192x1024_S32768x1024

end Cert.FfnRefIdeal.Hand

namespace Cert.FfnIdeal.Hand

open Cert.FfnIdeal Cert.FfnIdeal.Gen

variable (m : (ℓ : Loc nD τ sig) → Buf (Elt Ideal) ℓ)

/-- Where each window stands at grid point `t`: the activations' and the result's block `t`, the weights whole. -/
theorem idx : ∀ t : Fin cfg0.N,
    (win0_0.index t 0 = t.val ∧ win0_0.index t 1 = 0) ∧ (win0_1.index t 0 = 0 ∧ win0_1.index t 1 = 0) ∧
    (win0_2.index t 0 = 0 ∧ win0_2.index t 1 = 0) ∧ (win0_3.index t 0 = 0 ∧ win0_3.index t 1 = 0) ∧
    (win0_4.index t 0 = 0 ∧ win0_4.index t 1 = 0) ∧ (win0_6.index t 0 = t.val ∧ win0_6.index t 1 = 0) :=
  (by decide +kernel : ∀ t : Fin grid0.N,
    (win0_0.index t 0 = t.val ∧ win0_0.index t 1 = 0) ∧ (win0_1.index t 0 = 0 ∧ win0_1.index t 1 = 0) ∧
    (win0_2.index t 0 = 0 ∧ win0_2.index t 1 = 0) ∧ (win0_3.index t 0 = 0 ∧ win0_3.index t 1 = 0) ∧
    (win0_4.index t 0 = 0 ∧ win0_4.index t 1 = 0) ∧ (win0_6.index t 0 = t.val ∧ win0_6.index t 1 = 0))

/-- The reference's result on this memory's arguments. -/
def W (c : Dev nD) : FVec Ideal S32768x1024 .f32 :=
  Cert.FfnRefIdeal.Hand.result (m (c.tc.loc main_arg0)) (m (c.tc.loc main_arg1)) (m (c.tc.loc main_arg2))
    (m (c.tc.loc main_arg3)) (m (c.tc.loc main_arg4))

set_option maxHeartbeats 2000000 in
/-- Grid point `t`'s block, entry by entry: what the body computes of its blocks is the reference's result at the entry's
    place in the array. -/
theorem point (c : Dev nD) (t : Fin cfg0.N) (r : Fin 512) (n : Fin 1024) (h : t.val * 512 + r.val < 32768) :
    k0_pay1 (F := Ideal) (iblk m c 0 t) (iblk m c 1 t) (iblk m c 2 t) (iblk m c 3 t) (iblk m c 4 t) (ix2 r n)
      = W m c (ix2 ⟨t.val * 512 + r.val, h⟩ n) := by
  pointwise [k0_pay1, W, Cert.FfnRefIdeal.Hand.result, Cert.FfnRefIdeal.Hand.step, Cert.FfnRefIdeal.Hand.silu, Cert.FfnRefIdeal.Hand.norm]
  simp only [zero_sub]
  blk_point [iblk, V, idx t]

/-- The result array after the run is the reference's result: its 64 blocks cover it. -/
theorem final (c : Dev nD) : (dats m 0 c).arrAt 6 cfg0.N = W m c := by
  refine (dats m 0 c).arrAt_eq_of_covers 6 _ (by decide +kernel) fun t _ y => ?_
  blk_simp
  rw [after0_6]
  frame_out
  have ht : t.val < 64 := t.isLt
  idx_vars y
  have e : ((View.whole main_v6).slice (win0_6.rect t)).emb (ix2 y0 y1) = (ix2 ⟨t.val * 512 + y0.val, by omega⟩ y1 : S32768x1024.Idx) := by
    blk_ext [idx t]
  rw [e]
  exact point m c t _ _ _

/-- The kernel's result is the reference's on every memory, at the extended reals. -/
theorem algebraic : Cert.algebraic_FfnIdeal_FfnRefIdeal := by
  pair_intro
  · run_from Cert.FfnIdeal.Gen.run_main m g
  · run_from Cert.FfnRefIdeal.Value.run m' g'
    exact (final m c).symm

end Cert.FfnIdeal.Hand

end
-- ==== Proof.FfnFinalValue.lean ====
/- The SwiGLU half-step `x + ½ · (silu(h W_gate) · (h W_up)) W_down` with `h = rms_norm(x) · g`: the kernel works on blocks
   of 512 rows with all three weight matrices resident, the reference on the whole array. This is the last half-step of the trunk, and
   the trunk's last normalisation is applied to its rows before they are written. -/
module

public import proofs.«01_k».proof.Defs
public import proofs.«01_k».proof.Proof.Gen.FfnFinalIdeal.Value
public import proofs.«01_k».proof.Proof.Gen.FfnFinalRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnFinalRefIdeal.Hand

open Cert.FfnFinalRefIdeal Cert.FfnFinalRefIdeal.Gen

/-- The reference's normalised rows, scaled by the gain. -/
def norm (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf x x) (constant S_ .f32 0x00000000#32) reducesTo_S4x8192x1024_S4x8192_d2 h_S_))
    (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The reference's `silu`, as the division it is written by. -/
def silu (a : FVec Ideal S4x8192x2816 .f32) : FVec Ideal S4x8192x2816 .f32 :=
  mulf a (Host.divf (broadcastInDim S4x8192x2816 ![] bcast_S_S4x8192x2816 (constant S_ .f32 0x3F800000#32))
    (addf (broadcastInDim S4x8192x2816 ![] bcast_S_S4x8192x2816 (constant S_ .f32 0x3F800000#32)) (Host.exp (Host.negf a))))

/-- The reference's half-step on normalised rows `h`, before the rows are laid end to end. -/
def step (x h : FVec Ideal S4x8192x1024 .f32) (wg wu : FVec Ideal S1024x2816 .f32) (wd : FVec Ideal S2816x1024 .f32) :
    FVec Ideal S4x8192x1024 .f32 :=
  addf x (mulf (broadcastInDim S4x8192x1024 ![] bcast_S_S4x8192x1024 (constant S_ .f32 0x3F000000#32))
    (Host.dotGeneral dot_S4x8192x2816_S2816x1024_S4x8192x1024_2_0_01_1_n_n none
      (mulf (silu (Host.dotGeneral dot_S4x8192x1024_S1024x2816_S4x8192x2816_2_0_01_1_n_n none h wg))
        (Host.dotGeneral dot_S4x8192x1024_S1024x2816_S4x8192x2816_2_0_01_1_n_n none h wu)) wd))

/-- The reference's result: the half-step of every row, normalised again, the rows laid end to end. -/
def result (x : FVec Ideal S4x8192x1024 .f32) (g : FVec Ideal S1024 .f32) (wg wu : FVec Ideal S1024x2816 .f32)
    (wd : FVec Ideal S2816x1024 .f32) (gf : FVec Ideal S1024 .f32) : FVec Ideal S32768x1024 .f32 :=
  shapeCast S32768x1024 (norm (step x (norm x g) wg wu wd) gf) shapeCasts_S4x8192x1024_S32768x1024

/-- What the reference's run leaves in its result is `result` of the arguments. -/
theorem run_eq (m : (ℓ : Loc nD τ sig) → Buf (Elt Ideal) ℓ) (c : Dev nD) :
    Cert.FfnFinalRefIdeal.Value.res_main_v34 m c = result (m (c.tc.loc main_arg0)) (m (c.tc.loc main_arg1))
      (m (c.tc.loc main_arg2)) (m (c.tc.loc main_arg3)) (m (c.tc.loc main_arg4)) (m (c.tc.loc main_arg5)) := rfl

end Cert.FfnFinalRefIdeal.Hand

namespace Cert.FfnFinalIdeal.Hand

open Cert.FfnFinalIdeal Cert.FfnFinalIdeal.Gen

variable (m : (ℓ : Loc nD τ sig) → Buf (Elt Ideal) ℓ)

/-- Where each window stands at grid point `t`: the activations' and the result's block `t`, the weights whole. -/
theorem idx : ∀ t : Fin cfg0.N,
    (win0_0.index t 0 = t.val ∧ win0_0.index t 1 = 0) ∧ (win0_1.index t 0 = 0 ∧ win0_1.index t 1 = 0) ∧
    (win0_2.index t 0 = 0 ∧ win0_2.index t 1 = 0) ∧ (win0_3.index t 0 = 0 ∧ win0_3.index t 1 = 0) ∧
    (win0_4.index t 0 = 0 ∧ win0_4.index t 1 = 0) ∧ (win0_5.index t 0 = 0 ∧ win0_5.index t 1 = 0) ∧ (win0_6.index t 0 = t.val ∧ win0_6.index t 1 = 0) :=
  (by decide +kernel : ∀ t : Fin grid0.N,
    (win0_0.index t 0 = t.val ∧ win0_0.index t 1 = 0) ∧ (win0_1.index t 0 = 0 ∧ win0_1.index t 1 = 0) ∧
    (win0_2.index t 0 = 0 ∧ win0_2.index t 1 = 0) ∧ (win0_3.index t 0 = 0 ∧ win0_3.index t 1 = 0) ∧
    (win0_4.index t 0 = 0 ∧ win0_4.index t 1 = 0) ∧ (win0_5.index t 0 = 0 ∧ win0_5.index t 1 = 0) ∧ (win0_6.index t 0 = t.val ∧ win0_6.index t 1 = 0))

/-- The reference's result on this memory's arguments. -/
def W (c : Dev nD) : FVec Ideal S32768x1024 .f32 :=
  Cert.FfnFinalRefIdeal.Hand.result (m (c.tc.loc main_arg0)) (m (c.tc.loc main_arg1)) (m (c.tc.loc main_arg2))
    (m (c.tc.loc main_arg3)) (m (c.tc.loc main_arg4)) (m (c.tc.loc main_arg5))

/-- The half-step of this memory's arguments, before the last normalisation. -/
def H (c : Dev nD) : FVec Ideal Cert.FfnFinalRefIdeal.S4x8192x1024 .f32 :=
  Cert.FfnFinalRefIdeal.Hand.step (m (c.tc.loc main_arg0)) (Cert.FfnFinalRefIdeal.Hand.norm (m (c.tc.loc main_arg0)) (m (c.tc.loc main_arg1)))
    (m (c.tc.loc main_arg2)) (m (c.tc.loc main_arg3)) (m (c.tc.loc main_arg4))

set_option maxHeartbeats 2000000 in
/-- Grid point `t`'s half-step, entry by entry: what the body computes of its blocks before the last normalisation is the
    reference's half-step at row `512 t + r` of the activations. -/
theorem point_step (c : Dev nD) (t : Fin cfg0.N) (r : Fin 512) (n : Fin 1024) (h : t.val * 512 + r.val < 32768) :
    k0_pay2 (F := Ideal) (iblk m c 0 t) (iblk m c 1 t) (iblk m c 2 t) (iblk m c 3 t) (iblk m c 4 t) (ix2 r n)
      = H m c (ix3 ⟨(t.val * 512 + r.val) / 8192, by omega⟩ ⟨(t.val * 512 + r.val) % 8192, by omega⟩ n) := by
  pointwise [k0_pay2, H, Cert.FfnFinalRefIdeal.Hand.step, Cert.FfnFinalRefIdeal.Hand.silu, Cert.FfnFinalRefIdeal.Hand.norm]
  simp only [zero_sub]
  blk_point [iblk, V, idx t]

/-- Grid point `t`'s block, entry by entry: what the body computes of its blocks is the reference's result at the entry's
    place in the array. -/
theorem point (c : Dev nD) (t : Fin cfg0.N) (r : Fin 512) (n : Fin 1024) (h : t.val * 512 + r.val < 32768) :
    k0_pay1 (F := Ideal) (k0_pay2 (F := Ideal) (iblk m c 0 t) (iblk m c 1 t) (iblk m c 2 t) (iblk m c 3 t) (iblk m c 4 t)) (iblk m c 5 t) (ix2 r n)
      = W m c (ix2 ⟨t.val * 512 + r.val, h⟩ n) := by
  have e : ∀ l : Fin 1024, k0_pay2 (F := Ideal) (iblk m c 0 t) (iblk m c 1 t) (iblk m c 2 t) (iblk m c 3 t) (iblk m c 4 t) (ix2 r l)
      = H m c (ix3 ⟨(t.val * 512 + r.val) / 8192, by omega⟩ ⟨(t.val * 512 + r.val) % 8192, by omega⟩ l) :=
    fun l => point_step m c t r l h
  revert e
  generalize k0_pay2 (F := Ideal) (iblk m c 0 t) (iblk m c 1 t) (iblk m c 2 t) (iblk m c 3 t) (iblk m c 4 t) = v
  intro e
  show _ = shapeCast Cert.FfnFinalRefIdeal.S32768x1024 (Cert.FfnFinalRefIdeal.Hand.norm (H m c) (m (c.tc.loc main_arg5)))
    Cert.FfnFinalRefIdeal.Gen.shapeCasts_S4x8192x1024_S32768x1024 _
  generalize H m c = w at e ⊢
  pointwise [k0_pay1, Cert.FfnFinalRefIdeal.Hand.norm]
  simp only [e]
  blk_point [iblk, V, idx t]

/-- The result array after the run is the reference's result: its 64 blocks cover it. -/
theorem final (c : Dev nD) : (dats m 0 c).arrAt 6 cfg0.N = W m c := by
  refine (dats m 0 c).arrAt_eq_of_covers 6 _ (by decide +kernel) fun t _ y => ?_
  blk_simp
  rw [after0_6]
  frame_out
  have ht : t.val < 64 := t.isLt
  idx_vars y
  have e : ((View.whole main_v6).slice (win0_6.rect t)).emb (ix2 y0 y1) = (ix2 ⟨t.val * 512 + y0.val, by omega⟩ y1 : S32768x1024.Idx) := by
    blk_ext [idx t]
  rw [e]
  exact point m c t _ _ _

/-- The kernel's result is the reference's on every memory, at the extended reals. -/
theorem algebraic : Cert.algebraic_FfnFinalIdeal_FfnFinalRefIdeal := by
  pair_intro
  · run_from Cert.FfnFinalIdeal.Gen.run_main m g
  · run_from Cert.FfnFinalRefIdeal.Value.run m' g'
    refine Eq.trans ?_ (final m c).symm
    obtain ⟨h0, h1, h2, h3, h4, h5⟩ := hagree c
    rw [Cert.FfnFinalRefIdeal.Hand.run_eq, h0, h1, h2, h3, h4, h5]
    rfl

end Cert.FfnFinalIdeal.Hand

end
-- ==== Proof.SoftMath.lean ====
/- Arithmetic of finite extended reals: which operations keep a number finite, the reciprocal root of a mean of squares, and
   the softmax average, whose division may be made before or after the weighted sum. -/
module

public import Idealize.ShloMosaic.PureOps
public import Idealize.ShloMosaic.Lib.IdealHost

@[expose] public section

noncomputable section

open Idealize.ShloMosaic

namespace Cert.SoftMath

/-- The extended real is a real number. -/
def IsNum (a : EReal) : Prop := ∃ r : ℝ, a = (r : EReal)

theorem IsNum.coe (r : ℝ) : IsNum (r : EReal) := ⟨r, rfl⟩

/-- What is neither infinity is a real number. -/
theorem isNum_of_abs_lt {a : EReal} (h : max a (-a) < ⊤) : IsNum a := by
  induction a with
  | bot => simp at h
  | top => simp at h
  | coe r => exact ⟨r, rfl⟩

theorem IsNum.zero : IsNum 0 := ⟨0, rfl⟩

theorem IsNum.add {a b : EReal} (ha : IsNum a) (hb : IsNum b) : IsNum (a + b) := by
  obtain ⟨x, rfl⟩ := ha
  obtain ⟨y, rfl⟩ := hb
  exact ⟨x + y, (EReal.coe_add x y).symm⟩

theorem IsNum.sub {a b : EReal} (ha : IsNum a) (hb : IsNum b) : IsNum (a - b) := by
  obtain ⟨x, rfl⟩ := ha
  obtain ⟨y, rfl⟩ := hb
  exact ⟨x - y, (EReal.coe_sub x y).symm⟩

theorem IsNum.mul {a b : EReal} (ha : IsNum a) (hb : IsNum b) : IsNum (a * b) := by
  obtain ⟨x, rfl⟩ := ha
  obtain ⟨y, rfl⟩ := hb
  exact ⟨x * y, (EReal.coe_mul x y).symm⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsNum.sum {ι : Type} (s : Finset ι) {f : ι → EReal} (h : ∀ i, IsNum (f i)) : IsNum (∑ i ∈ s, f i) := by
  choose g hg using h
  exact ⟨∑ i ∈ s, g i, by rw [coe_sum]; exact Finset.sum_congr rfl fun i _ => hg i⟩

/-- A quotient by 1024 is finite where the dividend is. -/
theorem ofBits_1024 : Ideal.ofBits .f32 0x44800000#32 = ((1024 : ℝ) : EReal) := by
  simp [Ideal.ofBits, Ideal.ieee, -EReal.coe_mul]; norm_num

/-- The scale of the scores is one sixteenth. -/
theorem ofBits_sixteenth : Ideal.ofBits .f32 0x3D800000#32 = ((1 / 16 : ℝ) : EReal) := by
  simp [Ideal.ofBits, Ideal.ieee, -EReal.coe_mul]; norm_num

/-- The infinity of the precondition is the top. -/
theorem ofBits_inf : Ideal.ofBits .f32 0x7F800000#32 = ⊤ := by
  simp [Ideal.ofBits, Ideal.ieee]

/-- A maximum starts from the bottom. -/
theorem ofBits_ninf : Ideal.ofBits .f32 0xFF800000#32 = ⊥ := by
  simp [Ideal.ofBits, Ideal.ieee]

/-- The small number added to a mean of squares is positive. -/
theorem ofBits_eps : ∃ e : ℝ, 0 < e ∧ Ideal.ofBits .f32 0x358637BD#32 = (e : EReal) := by
  refine ⟨_, ?_, by simp [Ideal.ofBits, Ideal.ieee, -EReal.coe_mul]; rfl⟩
  positivity

/-- The reciprocal root of a mean of squares of real numbers is a real number. -/
theorem isNum_rms {n : Nat} (f : Fin n → EReal) (h : ∀ i, IsNum (f i)) :
    IsNum (Ideal.rsqrt (Ideal.div (∑ i, f i * f i) (Ideal.ofBits .f32 0x44800000#32) + Ideal.ofBits .f32 0x358637BD#32)) := by
  choose g hg using h
  obtain ⟨e, he, h2⟩ := ofBits_eps
  have h3 : (∑ i, f i * f i) = ((∑ i, g i * g i : ℝ) : EReal) := by
    rw [coe_sum]; exact Finset.sum_congr rfl fun i _ => by rw [hg, EReal.coe_mul]
  rw [ofBits_1024, h2, h3, Ideal.div_coe (by norm_num), ← EReal.coe_mul, ← EReal.coe_add]
  have h4 : 0 < (∑ i, g i * g i) * (1 / 1024) + e :=
    add_pos_of_nonneg_of_pos (mul_nonneg (Finset.sum_nonneg fun i _ => mul_self_nonneg _) (by norm_num)) he
  refine ⟨(Real.sqrt ((∑ i, g i * g i) * (1 / 1024) + e))⁻¹, ?_⟩
  show (if _ then _ else _) = _
  rw [if_neg (not_lt.mpr h4.le), if_neg h4.ne']

/-- The largest of finitely many real numbers, at least one of them, is a real number. -/
theorem isNum_fold_max {n : Nat} (hn : 0 < n) (f : Fin n → EReal) (h : ∀ i, IsNum (f i)) :
    IsNum (Finset.univ.fold max ⊥ f) := by
  classical
  have key : ∀ s : Finset (Fin n), (s = ∅ ∧ s.fold max ⊥ f = ⊥) ∨ IsNum (s.fold max ⊥ f) := by
    intro s
    induction s using Finset.induction_on with
    | empty => exact .inl ⟨rfl, by simp⟩
    | insert a s ha ih =>
      right
      rw [Finset.fold_insert ha]
      rcases ih with ⟨_, ih⟩ | ih
      · rw [ih, max_bot_right]; exact h a
      · rcases max_choice (f a) (s.fold max ⊥ f) with e | e <;> rw [e]
        · exact h a
        · exact ih
  rcases key Finset.univ with ⟨e, _⟩ | e
  · exact absurd (Finset.mem_univ (⟨0, hn⟩ : Fin n)) (by rw [e]; simp)
  · exact e

/-- A finite factor of a sum of finite products may be taken out of the sum. -/
theorem sum_scale {n : Nat} (q k : Fin n → EReal) (c : ℝ) (hq : ∀ i, IsNum (q i)) (hk : ∀ i, IsNum (k i)) :
    (∑ i, q i * (c : EReal) * k i) = (∑ i, q i * k i) * (c : EReal) := by
  choose a ha using hq
  choose b hb using hk
  simp only [ha, hb, ← EReal.coe_mul, ← coe_sum]
  rw [Finset.sum_mul]
  congr 1
  exact Finset.sum_congr rfl fun i _ => by ring

/-- The softmax average of real values `v` with real scores `s`: dividing the weighted sum by the normaliser is weighting by
    the divided weights. `M` is what the scores are lowered by. -/
theorem softmax {n : Nat} (hn : 0 < n) (s v : Fin n → EReal) (M : EReal) (hs : ∀ i, IsNum (s i)) (hv : ∀ i, IsNum (v i))
    (hM : IsNum M) :
    Ideal.div (∑ i, Ideal.exp (s i - M) * v i) (∑ i, Ideal.exp (s i - M))
      = ∑ i, v i * Ideal.div (Ideal.exp (s i - M)) (∑ i, Ideal.exp (s i - M)) := by
  choose a ha using hs
  choose b hb using hv
  obtain ⟨μ, rfl⟩ := hM
  have e : ∀ i, Ideal.exp (s i - (μ : EReal)) = ((Real.exp (a i - μ) : ℝ) : EReal) := fun i => by
    rw [ha, ← EReal.coe_sub, Ideal.exp_coe]
  have hl : (∑ i, Real.exp (a i - μ)) ≠ 0 :=
    (Finset.sum_pos (fun i _ => Real.exp_pos _) ⟨⟨0, hn⟩, Finset.mem_univ _⟩).ne'
  simp only [e, hb, ← EReal.coe_mul, ← coe_sum]
  rw [Ideal.div_coe hl]
  simp only [Ideal.div_coe hl, ← EReal.coe_mul, ← coe_sum]
  rw [Finset.sum_mul]
  congr 1
  exact Finset.sum_congr rfl fun i _ => by ring

end Cert.SoftMath

end
-- ==== Proof.XattnFinite.lean ====
/- What the precondition says of the arguments: each entry is a real number. -/
module

public import proofs.«01_k».proof.Defs
public import proofs.«01_k».proof.Proof.SoftMath
public import proofs.«01_k».proof.Proof.Gen.XattnIdeal.Value
public import proofs.«01_k».proof.Proof.Gen.XattnRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XattnIdeal.Hand

open Cert.XattnIdeal Cert.XattnIdeal.Gen
open Cert.SoftMath (IsNum)

/-- The shape relations the precondition's operations take. -/
theorem preFacts : Cert.Pre_finite.Facts where
  bitsLt_bf16_f32 := by decide
  bcast_S_S4x8192x1024 := by decide
  bcast_S_S4x8192x512 := by decide
  bcast_S_S1024x1024 := by decide
  bcast_S_S1024 := by decide
  bcast_S_S4x256x1024 := by decide
  bcast_S_S1024x2048 := by decide

attribute [local instance] preFacts

/-- Where every entry's absolute value lies below infinity, every entry is a real number. -/
theorem isNum_of_lt {S : Shape} (a : FVec Ideal S .f32) (hb : Cert.Pre_finite.S_.BroadcastsInDim S ![])
    (h : cmpf .olt (Host.absf a) (broadcastInDim S ![] hb (constant Cert.Pre_finite.S_ .f32 0x7F800000#32)) = fun _ => 1#1) (i : S.Idx) :
    IsNum (a i) := by
  have e := congrFun h i
  refine Cert.SoftMath.isNum_of_abs_lt ?_
  have e2 : BitVec.ofBool (decide (max (a i) (-(a i)) < Ideal.ofBits .f32 0x7F800000#32)) = 1#1 := e
  rw [Cert.SoftMath.ofBits_inf] at e2
  by_contra hn
  rw [decide_eq_false hn] at e2
  exact absurd e2 (by decide)

variable (m : (ℓ : Loc nD τ sig) → Buf (Elt Ideal) ℓ)

/-- Every entry of the nine arrays the claim's precondition names is a real number. -/
structure Finite (c : Dev nD) : Prop where
  x : ∀ i : S4x8192x1024.Idx, IsNum ((m (c.tc.loc main_arg0) : FVec Ideal S4x8192x1024 .f32) i)
  yab : ∀ i : S4x8192x512.Idx, IsNum ((m (c.tc.loc main_arg1) : FVec Ideal S4x8192x512 .bf16) i)
  yc : ∀ i : S4x8192x512.Idx, IsNum ((m (c.tc.loc main_arg2) : FVec Ideal S4x8192x512 .bf16) i)
  w : ∀ i : S1024x1024.Idx, IsNum ((m (c.tc.loc main_arg3) : FVec Ideal S1024x1024 .f32) i)
  g : ∀ i : S1024.Idx, IsNum ((m (c.tc.loc main_arg4) : FVec Ideal S1024 .f32) i)
  wq : ∀ i : S1024x1024.Idx, IsNum ((m (c.tc.loc main_arg5) : FVec Ideal S1024x1024 .f32) i)
  mem : ∀ i : S4x256x1024.Idx, IsNum ((m (c.tc.loc main_arg6) : FVec Ideal S4x256x1024 .f32) i)
  gm : ∀ i : S1024.Idx, IsNum ((m (c.tc.loc main_arg7) : FVec Ideal S1024 .f32) i)
  wkv : ∀ i : S1024x2048.Idx, IsNum ((m (c.tc.loc main_arg8) : FVec Ideal S1024x2048 .f32) i)

/-- The precondition gives it. -/
theorem finite_of_pre (h : Cert.Pre_XattnIdeal_finite m) (c : Dev nD) : Finite m c := by
  obtain ⟨h0, h1, h2, h3, h4, h5, h6, h7, h8⟩ := h c
  exact ⟨isNum_of_lt _ _ h0, isNum_of_lt (extf .f32 (m (c.tc.loc main_arg1)) (by decide)) _ h1, isNum_of_lt (extf .f32 (m (c.tc.loc main_arg2)) (by decide)) _ h2, isNum_of_lt _ _ h3, isNum_of_lt _ _ h4, isNum_of_lt _ _ h5,
    isNum_of_lt _ _ h6, isNum_of_lt _ _ h7, isNum_of_lt _ _ h8⟩

end Cert.XattnIdeal.Hand

end
-- ==== Proof.XattnRef.lean ====
/- The reference's output projection and cross-attention, in steps as the reference writes them. -/
module

public import proofs.«01_k».proof.Defs
public import proofs.«01_k».proof.Proof.Gen.XattnIdeal.Value
public import proofs.«01_k».proof.Proof.Gen.XattnRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XattnRefIdeal.Hand

open Cert.XattnRefIdeal Cert.XattnRefIdeal.Gen

/-- The rows after the output projection: the mixers' outputs laid side by side, through the projection's matrix, added. -/
def rows (x : FVec Ideal S4x8192x1024 .f32) (yab yc : FVec Ideal S4x8192x512 .bf16) (w : FVec Ideal S1024x1024 .f32) : FVec Ideal S4x8192x1024 .f32 :=
  addf x (Host.dotGeneral dot_S4x8192x1024_S1024x1024_S4x8192x1024_2_0_01_1_n_n none
    (concatenate S4x8192x1024 2 [⟨S4x8192x512, (extf .f32 yab bitsLt_bf16_f32)⟩, ⟨S4x8192x512, (extf .f32 yc bitsLt_bf16_f32)⟩] concatenates_S4x8192x512_S4x8192x512_S4x8192x1024_d2) w)

/-- The normalised rows, scaled by the gain. -/
def norm (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf x x) (constant S_ .f32 0x00000000#32) reducesTo_S4x8192x1024_S4x8192_d2 h_S_))
    (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The normalised memory tokens, scaled by their gain. -/
def memNorm (x : FVec Ideal S4x256x1024 .f32) (g : FVec Ideal S1024 .f32) : FVec Ideal S4x256x1024 .f32 :=
  mulf (mulf x (broadcastInDim S4x256x1024 ![0, 1, 2] bcast_S4x256x1_S4x256x1024_0_1_2 (Host.rsqrt (addf (Host.divf
    (broadcastInDim S4x256x1 ![0, 1] bcast_S4x256_S4x256x1_0_1 (Host.reduceAdd (mulf x x) (constant S_ .f32 0x00000000#32) reducesTo_S4x256x1024_S4x256_d2 h_S_))
    (broadcastInDim S4x256x1 ![] bcast_S_S4x256x1 (constant S_ .f32 0x44800000#32)))
    (broadcastInDim S4x256x1 ![] bcast_S_S4x256x1 (constant S_ .f32 0x358637BD#32))))))
    (broadcastInDim S4x256x1024 ![0, 1, 2] bcast_S1x1x1024_S4x256x1024_0_1_2 (broadcastInDim S1x1x1024 ![2] bcast_S1024_S1x1x1024_2 g))

/-- The queries, all heads side by side. -/
def queries (r : FVec Ideal S4x8192x1024 .f32) (g : FVec Ideal S1024 .f32) (wq : FVec Ideal S1024x1024 .f32) : FVec Ideal S4x8192x1024 .f32 :=
  Host.dotGeneral dot_S4x8192x1024_S1024x1024_S4x8192x1024_2_0_01_1_n_n none (norm r g) wq

/-- The keys and, beside them, the values, all heads side by side. -/
def keysValues (x : FVec Ideal S4x256x1024 .f32) (g : FVec Ideal S1024 .f32) (wkv : FVec Ideal S1024x2048 .f32) : FVec Ideal S4x256x2048 .f32 :=
  Host.dotGeneral dot_S4x256x1024_S1024x2048_S4x256x2048_2_0_01_1_n_n none (memNorm x g) wkv

/-- The scaled scores of each head's queries and keys. -/
def scores (q : FVec Ideal S4x8192x1024 .f32) (kv : FVec Ideal S4x256x2048 .f32) : FVec Ideal S4x4x8192x256 .f32 :=
  mulf (Host.dotGeneral dot_S4x8192x4x256_S4x256x4x256_S4x4x8192x256_3_3_1_1_02_02 none (shapeCast _ q shapeCasts_S4x8192x1024_S4x8192x4x256)
    (shapeCast _ (extractStridedSlice S4x256x1024 ![0, 0, 0] kv slices_S4x256x2048_S4x256x1024_0_0_0) shapeCasts_S4x256x1024_S4x256x4x256))
    (broadcastInDim S4x4x8192x256 ![] bcast_S_S4x4x8192x256 (constant S_ .f32 0x3D800000#32))

/-- Each row's largest score. -/
def largest (s : FVec Ideal S4x4x8192x256 .f32) : FVec Ideal S4x4x8192 .f32 :=
  Host.reduce FloatOps.maximumf s (constant S_ .f32 0xFF800000#32) reducesTo_S4x4x8192x256_S4x4x8192_d3 h_S_

/-- The larger of minus infinity and an entry. -/
def floored (a : FVec Ideal S4x4x8192 .f32) : FVec Ideal S4x4x8192 .f32 :=
  maximumf (broadcastInDim S4x4x8192 ![] bcast_S_S4x4x8192 (constant S_ .f32 0xFF800000#32)) a

/-- The exponentials of scores lowered by their row's largest. -/
def lifted (s : FVec Ideal S4x4x8192x256 .f32) : FVec Ideal S4x4x8192x256 .f32 :=
  Host.exp (subf s (broadcastInDim S4x4x8192x256 ![0, 1, 2, 3] bcast_S4x4x8192x1_S4x4x8192x256_0_1_2_3 (broadcastInDim S4x4x8192x1 ![0, 1, 2] bcast_S4x4x8192_S4x4x8192x1_0_1_2
    (floored (largest s)))))

/-- The softmax of scores, from their lifted exponentials: each divided by its row's sum. -/
def weights (p : FVec Ideal S4x4x8192x256 .f32) : FVec Ideal S4x4x8192x256 .f32 :=
  Host.divf p (broadcastInDim S4x4x8192x256 ![0, 1, 2, 3] bcast_S4x4x8192x1_S4x4x8192x256_0_1_2_3 (broadcastInDim S4x4x8192x1 ![0, 1, 2] bcast_S4x4x8192_S4x4x8192x1_0_1_2
    (Host.reduceAdd p (constant S_ .f32 0x00000000#32) reducesTo_S4x4x8192x256_S4x4x8192_d3 h_S_)))

/-- The heads' outputs side by side: the values averaged by the weights. -/
def heads (kv : FVec Ideal S4x256x2048 .f32) (w : FVec Ideal S4x4x8192x256 .f32) : FVec Ideal S4x8192x1024 .f32 :=
  shapeCast _ (transpose S4x8192x4x256 [0, 3, 1, 2] (Host.dotGeneral dot_S4x256x4x256_S4x4x8192x256_S4x4x256x8192_1_3_3_2_02_01 none
    (shapeCast _ (extractStridedSlice S4x256x1024 ![0, 0, 1024] kv slices_S4x256x2048_S4x256x1024_0_0_1024) shapeCasts_S4x256x1024_S4x256x4x256) w)
    transposes_S4x4x256x8192_S4x8192x4x256_0_3_1_2) shapeCasts_S4x8192x4x256_S4x8192x1024

/-- The result from the rows after the output projection, the queries, the keys and values, and the last matrix. -/
def attend (r q : FVec Ideal S4x8192x1024 .f32) (kv : FVec Ideal S4x256x2048 .f32) (wo : FVec Ideal S1024x1024 .f32) : FVec Ideal S4x8192x1024 .f32 :=
  addf r (Host.dotGeneral dot_S4x8192x1024_S1024x1024_S4x8192x1024_2_0_01_1_n_n none (heads kv (weights (lifted (scores q kv)))) wo)

/-- The reference's result: the rows laid end to end. -/
def result (x : FVec Ideal S4x8192x1024 .f32) (yab yc : FVec Ideal S4x8192x512 .bf16) (w : FVec Ideal S1024x1024 .f32) (g : FVec Ideal S1024 .f32)
    (wq : FVec Ideal S1024x1024 .f32) (mem : FVec Ideal S4x256x1024 .f32) (gm : FVec Ideal S1024 .f32) (wkv : FVec Ideal S1024x2048 .f32)
    (wo : FVec Ideal S1024x1024 .f32) : FVec Ideal S32768x1024 .f32 :=
  shapeCast _ (attend (rows x yab yc w) (queries (rows x yab yc w) g wq) (keysValues mem gm wkv) wo) shapeCasts_S4x8192x1024_S32768x1024

set_option maxHeartbeats 1000000 in
/-- What the run leaves is that result of the arguments. -/
theorem run_eq (m : (ℓ : Loc nD τ sig) → Buf (Elt Ideal) ℓ) (c : Dev nD) :
    Cert.XattnRefIdeal.Value.res_main_v57 m c = result (m (c.tc.loc main_arg0)) (m (c.tc.loc main_arg1)) (m (c.tc.loc main_arg2))
      (m (c.tc.loc main_arg3)) (m (c.tc.loc main_arg4)) (m (c.tc.loc main_arg5)) (m (c.tc.loc main_arg6)) (m (c.tc.loc main_arg7))
      (m (c.tc.loc main_arg8)) (m (c.tc.loc main_arg9)) := rfl

end Cert.XattnRefIdeal.Hand

end
-- ==== Proof.XattnRefAt.lean ====
/- The scores, weights and heads of the reference's cross-attention, entry by entry. -/
module

public import proofs.«01_k».proof.Defs
public import proofs.«01_k».proof.Proof.XattnRef
public import proofs.«01_k».proof.Proof.SoftMath
public import proofs.«01_k».proof.Proof.Gen.XattnIdeal.Value
public import proofs.«01_k».proof.Proof.Gen.XattnRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XattnRefIdeal.Hand

open Cert.XattnRefIdeal Cert.XattnRefIdeal.Gen

/-- A score, entry by entry. -/
theorem scores_apply (q : FVec Ideal S4x8192x1024 .f32) (kv : FVec Ideal S4x256x2048 .f32) (b : Fin 4) (h : Fin 4) (s : Fin 8192) (j : Fin 256) :
    scores q kv (ix4 b h s j) = (∑ d : Fin 256, q (ix3 b s (⟨h.val * 256 + d.val, by omega⟩ : Fin 1024))
      * kv (ix3 b j (⟨h.val * 256 + d.val, by omega⟩ : Fin 2048))) * Ideal.ofBits .f32 0x3D800000#32 := by
  pointwise [scores]

/-- A row's largest score, entry by entry. -/
theorem largest_apply (x : FVec Ideal S4x4x8192x256 .f32) (b : Fin 4) (h : Fin 4) (s : Fin 8192) :
    largest x (ix3 b h s) = Finset.univ.fold max (Ideal.ofBits .f32 0xFF800000#32) fun j => x (ix4 b h s j) := by
  pointwise [largest]

/-- Nothing is below minus infinity. -/
theorem floored_apply (a : FVec Ideal S4x4x8192 .f32) (i : S4x4x8192.Idx) : floored a i = a i := by
  have e : floored a i = max (Ideal.ofBits .f32 0xFF800000#32) (a i) := rfl
  rw [e, Cert.SoftMath.ofBits_ninf]
  exact max_eq_right bot_le

/-- A lifted exponential, entry by entry. -/
theorem lifted_apply (x : FVec Ideal S4x4x8192x256 .f32) (b : Fin 4) (h : Fin 4) (s : Fin 8192) (j : Fin 256) :
    lifted x (ix4 b h s j) = Ideal.exp (x (ix4 b h s j) - Finset.univ.fold max (Ideal.ofBits .f32 0xFF800000#32) fun j => x (ix4 b h s j)) := by
  have e : floored (largest x) (ix3 b h s) = Finset.univ.fold max (Ideal.ofBits .f32 0xFF800000#32) fun j => x (ix4 b h s j) := by
    rw [floored_apply, largest_apply]
  unfold lifted
  revert e
  generalize floored (largest x) = M
  intro e
  pointwise []
  rw [e]

/-- A weight, entry by entry. -/
theorem weights_apply (p : FVec Ideal S4x4x8192x256 .f32) (b : Fin 4) (h : Fin 4) (s : Fin 8192) (j : Fin 256) :
    weights p (ix4 b h s j) = Ideal.div (p (ix4 b h s j)) (∑ j, p (ix4 b h s j)) := by
  pointwise [weights]

/-- A head's output, entry by entry. -/
theorem heads_apply (kv : FVec Ideal S4x256x2048 .f32) (w : FVec Ideal S4x4x8192x256 .f32) (b : Fin 4) (s : Fin 8192) (k : Fin 1024) :
    heads kv w (ix3 b s k) = ∑ j : Fin 256, kv (ix3 b j (⟨1024 + k.val, by omega⟩ : Fin 2048)) * w (ix4 b (⟨k.val / 256, by omega⟩ : Fin 4) s j) := by
  pointwise [heads]

end Cert.XattnRefIdeal.Hand

end
-- ==== Proof.XattnRefRows.lean ====
/- The rows, queries, keys and values of the reference's cross-attention, entry by entry; on numbers they are numbers. -/
module

public import proofs.«01_k».proof.Defs
public import proofs.«01_k».proof.Proof.XattnRef
public import proofs.«01_k».proof.Proof.SoftMath
public import proofs.«01_k».proof.Proof.Gen.XattnIdeal.Value
public import proofs.«01_k».proof.Proof.Gen.XattnRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XattnRefIdeal.Hand

open Cert.XattnRefIdeal Cert.XattnRefIdeal.Gen
open Cert.SoftMath (IsNum)

set_option maxHeartbeats 1000000 in
/-- A row after the output projection, entry by entry: the product splits at the seam of the two mixers' outputs. -/
theorem rows_apply (x : FVec Ideal S4x8192x1024 .f32) (yab yc : FVec Ideal S4x8192x512 .bf16) (w : FVec Ideal S1024x1024 .f32)
    (b : Fin 4) (s : Fin 8192) (n : Fin 1024) :
    rows x yab yc w (ix3 b s n) = x (ix3 b s n) + (∑ k : Fin 512, yab (ix3 b s k) * w (ix2 (⟨k.val, by omega⟩ : Fin 1024) n)
      + ∑ k : Fin 512, yc (ix3 b s k) * w (ix2 (⟨512 + k.val, by omega⟩ : Fin 1024) n)) := by
  pointwise [rows]

set_option maxHeartbeats 1000000 in
/-- A query, entry by entry. -/
theorem queries_apply (r : FVec Ideal S4x8192x1024 .f32) (g : FVec Ideal S1024 .f32) (wq : FVec Ideal S1024x1024 .f32)
    (b : Fin 4) (s : Fin 8192) (n : Fin 1024) :
    queries r g wq (ix3 b s n) = ∑ k : Fin 1024, r (ix3 b s k) * Ideal.rsqrt (Ideal.div (∑ i : Fin 1024, r (ix3 b s i) * r (ix3 b s i)) (Ideal.ofBits .f32 0x44800000#32)
      + Ideal.ofBits .f32 0x358637BD#32) * g (ix1 k) * wq (ix2 k n) := by
  pointwise [queries, norm]

set_option maxHeartbeats 1000000 in
/-- A key or value, entry by entry. -/
theorem keysValues_apply (x : FVec Ideal S4x256x1024 .f32) (g : FVec Ideal S1024 .f32) (wkv : FVec Ideal S1024x2048 .f32)
    (b : Fin 4) (s : Fin 256) (n : Fin 2048) :
    keysValues x g wkv (ix3 b s n) = ∑ k : Fin 1024, x (ix3 b s k) * Ideal.rsqrt (Ideal.div (∑ i : Fin 1024, x (ix3 b s i) * x (ix3 b s i)) (Ideal.ofBits .f32 0x44800000#32)
      + Ideal.ofBits .f32 0x358637BD#32) * g (ix1 k) * wkv (ix2 k n) := by
  pointwise [keysValues, memNorm]

/-- Of numbers, the rows are numbers. -/
theorem isNum_rows {x : FVec Ideal S4x8192x1024 .f32} {yab yc : FVec Ideal S4x8192x512 .bf16} {w : FVec Ideal S1024x1024 .f32}
    (hx : ∀ i, IsNum (x i)) (ha : ∀ i, IsNum (yab i)) (hc : ∀ i, IsNum (yc i)) (hw : ∀ i, IsNum (w i))
    (b : Fin 4) (s : Fin 8192) (n : Fin 1024) : IsNum (rows x yab yc w (ix3 b s n)) := by
  rw [rows_apply]
  exact (hx _).add ((IsNum.sum _ fun k => (ha _).mul (hw _)).add (IsNum.sum _ fun k => (hc _).mul (hw _)))

/-- Of numbers, the queries are numbers. -/
theorem isNum_queries {r : FVec Ideal S4x8192x1024 .f32} {g : FVec Ideal S1024 .f32} {wq : FVec Ideal S1024x1024 .f32}
    (hr : ∀ b s n, IsNum (r (ix3 b s n))) (hg : ∀ i, IsNum (g i)) (hw : ∀ i, IsNum (wq i))
    (b : Fin 4) (s : Fin 8192) (n : Fin 1024) : IsNum (queries r g wq (ix3 b s n)) := by
  rw [queries_apply]
  exact IsNum.sum _ fun k => (((hr _ _ _).mul (Cert.SoftMath.isNum_rms _ fun i => hr b s i)).mul (hg _)).mul (hw _)

/-- Of numbers, the keys and values are numbers. -/
theorem isNum_keysValues {x : FVec Ideal S4x256x1024 .f32} {g : FVec Ideal S1024 .f32} {wkv : FVec Ideal S1024x2048 .f32}
    (hx : ∀ i, IsNum (x i)) (hg : ∀ i, IsNum (g i)) (hw : ∀ i, IsNum (wkv i))
    (b : Fin 4) (s : Fin 256) (n : Fin 2048) : IsNum (keysValues x g wkv (ix3 b s n)) := by
  rw [keysValues_apply]
  exact IsNum.sum _ fun k => (((hx _).mul (Cert.SoftMath.isNum_rms _ fun i => hx (ix3 b s i))).mul (hg _)).mul (hw _)

end Cert.XattnRefIdeal.Hand

end
-- ==== Proof.XattnBlock.lean ====
/- The output projection joined with the cross-attention into the memory tokens, as the kernel computes it: what one grid point
   leaves in its output block and in the two carried buffers, which hold the keys (transposed) and the values of the
   sequence at hand and are written by the first of each sequence's eight points. -/
module

public import proofs.«01_k».proof.Defs
public import proofs.«01_k».proof.Proof.Gen.XattnIdeal.Value
public import proofs.«01_k».proof.Proof.Gen.XattnRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XattnIdeal.Hand

open Cert.XattnIdeal Cert.XattnIdeal.Gen

variable (m : (ℓ : Loc nD τ sig) → Buf (Elt Ideal) ℓ)

/-- The rows after the output projection, from the blocks of activations, mixer outputs and the projection's matrix. -/
def rows (x : Vec Ideal S1024x1024 .f32) (yab yc : Vec Ideal S1024x512 .bf16) (w : Vec Ideal S1024x1024 .bf16) :
    FVec Ideal S1024x1024 .f32 :=
  k0_pay5 x yab (View.ld w (Rect.unit ![0, 0] ![512, 1024] inb_S1024x1024_S512x1024_0_0)) yc
    (View.ld w (Rect.unit ![512, 0] ![512, 1024] inb_S1024x1024_S512x1024_512_0))

/-- The queries of these rows, before they are scaled. -/
def queries (x : Vec Ideal S1024x1024 .f32) (yab yc : Vec Ideal S1024x512 .bf16) (w : Vec Ideal S1024x1024 .bf16)
    (g : Vec Ideal S1x1024 .f32) (wq : Vec Ideal S1024x1024 .bf16) : FVec Ideal S1024x1024 .f32 :=
  k0_pay6 x yab (View.ld w (Rect.unit ![0, 0] ![512, 1024] inb_S1024x1024_S512x1024_0_0)) yc
    (View.ld w (Rect.unit ![512, 0] ![512, 1024] inb_S1024x1024_S512x1024_512_0)) g wq

/-- The block a point writes, from its rows `r` after the projection, its queries `q`, the transposed keys `kt`, the values `v` and
    the matrix the heads' outputs go through. -/
def block (r q : FVec Ideal S1024x1024 .f32) (kt : Vec Ideal S1024x256 .bf16) (v : Vec Ideal S256x1024 .bf16)
    (wo : Vec Ideal S1024x1024 .bf16) : FVec Ideal S1024x1024 .f32 :=
  k0_pay1 r (k0_pay7 q)
    (k0_pay8 q (View.ld kt (Rect.unit ![0, 0] ![256, 256] inb_S1024x256_S256x256_0_0)) (View.ld v (Rect.unit ![0, 0] ![256, 256] inb_S256x1024_S256x256_0_0)))
    (k0_pay9 q (View.ld kt (Rect.unit ![256, 0] ![256, 256] inb_S1024x256_S256x256_256_0)) (View.ld v (Rect.unit ![0, 256] ![256, 256] inb_S256x1024_S256x256_0_256)))
    (k0_pay10 q (View.ld kt (Rect.unit ![512, 0] ![256, 256] inb_S1024x256_S256x256_512_0)))
    (k0_pay11 q (View.ld kt (Rect.unit ![512, 0] ![256, 256] inb_S1024x256_S256x256_512_0)))
    (View.ld v (Rect.unit ![0, 512] ![256, 256] inb_S256x1024_S256x256_0_512))
    (View.ld kt (Rect.unit ![768, 0] ![256, 256] inb_S1024x256_S256x256_768_0))
    (View.ld v (Rect.unit ![0, 768] ![256, 256] inb_S256x1024_S256x256_0_768))
    wo

/-- The transposed keys that a point computes where it is the first of its sequence. -/
def keysAt (c : Dev nD) (t : Fin cfg0.N) : Vec Ideal S1024x256 .bf16 := k0_pay3 (iblk m c 6 t) (iblk m c 7 t) (iblk m c 8 t)

/-- The values that a point computes where it is the first of its sequence. -/
def valuesAt (c : Dev nD) (t : Fin cfg0.N) : Vec Ideal S256x1024 .bf16 := k0_pay4 (iblk m c 6 t) (iblk m c 7 t) (iblk m c 8 t)

/-- The first point of a sequence writes the keys. -/
theorem keys_first (c : Dev nD) (t : Fin cfg0.N) (h : t.val % 8 = 0) : (outsAt0 m c t.val t.isLt).2.1 = keysAt m c t := by
  rw [outsAt0_A m c t h]
  frame_out
  rfl

/-- The first point of a sequence writes the values. -/
theorem values_first (c : Dev nD) (t : Fin cfg0.N) (h : t.val % 8 = 0) : (outsAt0 m c t.val t.isLt).2.2 = valuesAt m c t := by
  rw [outsAt0_A m c t h]
  frame_out
  rfl

/-- Each later point of the sequence finds the keys of the sequence's first point. -/
theorem keys_held (c : Dev nD) (t : Fin cfg0.N) :
    (outsAt0 m c t.val t.isLt).2.1 = keysAt m c ⟨8 * (t.val / 8), Pipeline.run_start_lt t⟩ :=
  Pipeline.eq_of_write_hold (fun n h => (outsAt0 m c n h).2.1) 8 (keysAt m c) (keys_first m c)
    (fun t h => by rw [outsAt0_B m c t h]; rfl) t

/-- Each later point of the sequence finds the values of the sequence's first point. -/
theorem values_held (c : Dev nD) (t : Fin cfg0.N) :
    (outsAt0 m c t.val t.isLt).2.2 = valuesAt m c ⟨8 * (t.val / 8), Pipeline.run_start_lt t⟩ :=
  Pipeline.eq_of_write_hold (fun n h => (outsAt0 m c n h).2.2) 8 (valuesAt m c) (values_first m c)
    (fun t h => by rw [outsAt0_B m c t h]; rfl) t

set_option maxHeartbeats 1000000 in
/-- A point's block, the first of a sequence or a later one: its rows' attention into the keys and values of the sequence. -/
theorem out (c : Dev nD) (t : Fin cfg0.N) :
    (outsAt0 m c t.val t.isLt).1 = block (rows (iblk m c 0 t) (iblk m c 1 t) (iblk m c 2 t) (iblk m c 3 t))
      (queries (iblk m c 0 t) (iblk m c 1 t) (iblk m c 2 t) (iblk m c 3 t) (iblk m c 4 t) (iblk m c 5 t))
      (keysAt m c ⟨8 * (t.val / 8), Pipeline.run_start_lt t⟩) (valuesAt m c ⟨8 * (t.val / 8), Pipeline.run_start_lt t⟩)
      (iblk m c 9 t) := by
  rw [← keys_held m c t, ← values_held m c t]
  by_cases h : t.val % 8 = 0
  · rw [keys_first m c t h, values_first m c t h, outsAt0_A m c t h]
    frame_out
    simp (disch := decide) only [View.readCov_fill]
    rfl
  · have hk : (outsAt0 m c t.val t.isLt).2.1 = (outsAt0 m c (t.val - 1) (Nat.lt_of_le_of_lt (Nat.sub_le _ _) t.isLt)).2.1 := by
      rw [outsAt0_B m c t h]; rfl
    have hv : (outsAt0 m c t.val t.isLt).2.2 = (outsAt0 m c (t.val - 1) (Nat.lt_of_le_of_lt (Nat.sub_le _ _) t.isLt)).2.2 := by
      rw [outsAt0_B m c t h]; rfl
    rw [hk, hv, outsAt0_B m c t h]
    frame_out
    simp only [read_unread_whole]
    rfl

end Cert.XattnIdeal.Hand

end
-- ==== Proof.XattnHeads.lean ====
/- The four attention heads of a block, entry by entry: each is a softmax average of the values, the division by the normaliser
   coming last. -/
module

public import proofs.«01_k».proof.Defs
public import proofs.«01_k».proof.Proof.Gen.XattnIdeal.Value
public import proofs.«01_k».proof.Proof.Gen.XattnRefIdeal.Run
public import proofs.«01_k».proof.Proof.XattnBlock
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XattnIdeal.Hand

open Cert.XattnIdeal Cert.XattnIdeal.Gen

/-- The softmax average of the values `v` with scores `s`: the weighted sum, divided by the sum of the weights. -/
def average (s v : Fin 256 → EReal) : EReal :=
  Ideal.div (∑ j, Ideal.exp (s j - Finset.univ.fold max (Ideal.ofBits .f32 0xFF800000#32) s) * v j)
    (∑ j, Ideal.exp (s j - Finset.univ.fold max (Ideal.ofBits .f32 0xFF800000#32) s))

/-- The score of row `a` with memory token `j`, for the head whose columns begin at `o`. -/
def score (o : Nat) (ho : o + 256 ≤ 1024) (q : FVec Ideal S1024x1024 .f32) (kt : Vec Ideal S1024x256 .bf16) (a : Fin 1024)
    (j : Fin 256) : EReal :=
  ∑ d : Fin 256, q (ix2 a (⟨o + d.val, by omega⟩ : Fin 1024)) * Ideal.ofBits .f32 0x3D800000#32 * kt (ix2 (⟨o + d.val, by omega⟩ : Fin 1024) j)

set_option maxHeartbeats 1000000 in
/-- The first head. -/
theorem head0 (q : FVec Ideal S1024x1024 .f32) (kt : Vec Ideal S1024x256 .bf16) (v : Vec Ideal S256x1024 .bf16) (a : Fin 1024) (d : Fin 256) :
    k0_pay8 (F := Ideal) q (View.ld kt (Rect.unit ![0, 0] ![256, 256] inb_S1024x256_S256x256_0_0)) (View.ld v (Rect.unit ![0, 0] ![256, 256] inb_S256x1024_S256x256_0_0))
      (ix2 a d) = average (score 0 (by omega) q kt a) (fun j => v (ix2 j (⟨0 + d.val, by omega⟩ : Fin 1024))) := by
  pointwise [k0_pay8, k0_pay7, average, score]

set_option maxHeartbeats 1000000 in
/-- The second head. -/
theorem head1 (q : FVec Ideal S1024x1024 .f32) (kt : Vec Ideal S1024x256 .bf16) (v : Vec Ideal S256x1024 .bf16) (a : Fin 1024) (d : Fin 256) :
    k0_pay9 (F := Ideal) q (View.ld kt (Rect.unit ![256, 0] ![256, 256] inb_S1024x256_S256x256_256_0)) (View.ld v (Rect.unit ![0, 256] ![256, 256] inb_S256x1024_S256x256_0_256))
      (ix2 a d) = average (score 256 (by omega) q kt a) (fun j => v (ix2 j (⟨256 + d.val, by omega⟩ : Fin 1024))) := by
  pointwise [k0_pay9, k0_pay7, average, score]

/-- Column `k` of the heads' outputs laid side by side belongs to the head whose columns begin at `k / 256 * 256`. -/
theorem average_at (o e : Nat) (ho : o + 256 ≤ 1024) (q : FVec Ideal S1024x1024 .f32) (kt : Vec Ideal S1024x256 .bf16)
    (v : Vec Ideal S256x1024 .bf16) (a k : Fin 1024) (h : o + e < 1024) (hk : o + e = k.val) (hb : k.val / 256 * 256 = o) :
    average (score o ho q kt a) (fun j => v (ix2 j (⟨o + e, h⟩ : Fin 1024)))
      = average (score (k.val / 256 * 256) (by omega) q kt a) (fun j => v (ix2 j k)) := by
  subst hb
  rw [show (⟨k.val / 256 * 256 + e, h⟩ : Fin 1024) = k from Fin.ext hk]

set_option maxHeartbeats 2000000 in
/-- A block's entry: the row before the attention, and the heads' outputs through the last matrix. -/
theorem block_apply (r q : FVec Ideal S1024x1024 .f32) (kt : Vec Ideal S1024x256 .bf16) (v : Vec Ideal S256x1024 .bf16)
    (wo : Vec Ideal S1024x1024 .bf16) (a n : Fin 1024) :
    block r q kt v wo (ix2 a n) = r (ix2 a n) + ∑ k : Fin 1024, average (score (k.val / 256 * 256) (by omega) q kt a) (fun j => v (ix2 j k)) * wo (ix2 k n) := by
  unfold block
  have h0 := head0 q kt v a
  have h1 := head1 q kt v a
  revert h0 h1
  generalize k0_pay8 (F := Ideal) q _ _ = p0
  generalize k0_pay9 (F := Ideal) q _ _ = p1
  intro h0 h1
  pointwise [k0_pay1, k0_pay7, k0_pay10, k0_pay11]
  refine congrArg (r (ix2 a n) + ·) (Finset.sum_congr rfl fun k _ => congrArg (· * wo (ix2 k n)) ?_)
  have hk := k.isLt
  by_cases c0 : k.val < 256
  · rw [dif_pos c0, h0]; exact average_at 0 k.val (by omega) q kt v a k (by omega) (by omega) (by omega)
  · rw [dif_neg c0]
    by_cases c1 : k.val - 256 < 256
    · rw [dif_pos c1, h1]; exact average_at 256 (k.val - 256) (by omega) q kt v a k (by omega) (by omega) (by omega)
    · rw [dif_neg c1]
      by_cases c2 : k.val - 256 - 256 < 256
      · rw [dif_pos c2]; exact average_at 512 (k.val - 256 - 256) (by omega) q kt v a k (by omega) (by omega) (by omega)
      · rw [dif_neg c2]; exact average_at 768 (k.val - 256 - 256 - 256) (by omega) q kt v a k (by omega) (by omega) (by omega)

end Cert.XattnIdeal.Hand

end
-- ==== Proof.XattnAt.lean ====
/- A block's rows, queries, keys and values are the reference's, each at its place in the array. -/
module

public import proofs.«01_k».proof.Defs
public import proofs.«01_k».proof.Proof.XattnRefRows
public import proofs.«01_k».proof.Proof.XattnHeads
public import proofs.«01_k».proof.Proof.Gen.XattnIdeal.Value
public import proofs.«01_k».proof.Proof.Gen.XattnRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XattnIdeal.Hand

open Cert.XattnIdeal Cert.XattnIdeal.Gen

variable (m : (ℓ : Loc nD τ sig) → Buf (Elt Ideal) ℓ)

/-- Where each window stands at grid point `t`: the rows' and the result's block `t`, the memory's block `t / 8`, the weights whole. -/
theorem idx : ∀ t : Fin cfg0.N,
    (win0_0.index t 0 = t.val ∧ win0_0.index t 1 = 0) ∧ (win0_1.index t 0 = t.val ∧ win0_1.index t 1 = 0) ∧
    (win0_2.index t 0 = t.val ∧ win0_2.index t 1 = 0) ∧ (win0_3.index t 0 = 0 ∧ win0_3.index t 1 = 0) ∧
    (win0_4.index t 0 = 0 ∧ win0_4.index t 1 = 0) ∧ (win0_5.index t 0 = 0 ∧ win0_5.index t 1 = 0) ∧
    (win0_6.index t 0 = t.val / 8 ∧ win0_6.index t 1 = 0 ∧ win0_6.index t 2 = 0) ∧
    (win0_7.index t 0 = 0 ∧ win0_7.index t 1 = 0) ∧ (win0_8.index t 0 = 0 ∧ win0_8.index t 1 = 0) ∧
    (win0_9.index t 0 = 0 ∧ win0_9.index t 1 = 0) ∧ (win0_10.index t 0 = t.val ∧ win0_10.index t 1 = 0) :=
  (by decide +kernel : ∀ t : Fin grid0.N,
    (win0_0.index t 0 = t.val ∧ win0_0.index t 1 = 0) ∧ (win0_1.index t 0 = t.val ∧ win0_1.index t 1 = 0) ∧
    (win0_2.index t 0 = t.val ∧ win0_2.index t 1 = 0) ∧ (win0_3.index t 0 = 0 ∧ win0_3.index t 1 = 0) ∧
    (win0_4.index t 0 = 0 ∧ win0_4.index t 1 = 0) ∧ (win0_5.index t 0 = 0 ∧ win0_5.index t 1 = 0) ∧
    (win0_6.index t 0 = t.val / 8 ∧ win0_6.index t 1 = 0 ∧ win0_6.index t 2 = 0) ∧
    (win0_7.index t 0 = 0 ∧ win0_7.index t 1 = 0) ∧ (win0_8.index t 0 = 0 ∧ win0_8.index t 1 = 0) ∧
    (win0_9.index t 0 = 0 ∧ win0_9.index t 1 = 0) ∧ (win0_10.index t 0 = t.val ∧ win0_10.index t 1 = 0))

/-- The reference's rows after the output projection, on this memory's arguments. -/
def R (c : Dev nD) : FVec Ideal S4x8192x1024 .f32 :=
  Cert.XattnRefIdeal.Hand.rows (m (c.tc.loc main_arg0)) (m (c.tc.loc main_arg1)) (m (c.tc.loc main_arg2)) (m (c.tc.loc main_arg3))

/-- The reference's queries, on this memory's arguments. -/
def Q (c : Dev nD) : FVec Ideal S4x8192x1024 .f32 :=
  Cert.XattnRefIdeal.Hand.queries (R m c) (m (c.tc.loc main_arg4)) (m (c.tc.loc main_arg5))

/-- The reference's keys and values, on this memory's arguments. -/
def KV (c : Dev nD) : FVec Ideal Cert.XattnRefIdeal.S4x256x2048 .f32 :=
  Cert.XattnRefIdeal.Hand.keysValues (m (c.tc.loc main_arg6)) (m (c.tc.loc main_arg7)) (m (c.tc.loc main_arg8))

set_option maxHeartbeats 1000000 in
/-- Row `r` of block `t`, after the output projection. -/
theorem rows_at (c : Dev nD) (t : Fin cfg0.N) (r n : Fin 1024) (h0 : (t.val * 1024 + r.val) / 8192 < 4) (h1 : (t.val * 1024 + r.val) % 8192 < 8192) :
    rows (iblk m c 0 t) (iblk m c 1 t) (iblk m c 2 t) (iblk m c 3 t) (ix2 r n) = R m c (ix3 ⟨(t.val * 1024 + r.val) / 8192, h0⟩ ⟨(t.val * 1024 + r.val) % 8192, h1⟩ n) := by
  rw [R, Cert.XattnRefIdeal.Hand.rows_apply]
  pointwise [rows, k0_pay5]
  rw [add_assoc]
  blk_point [iblk, V, idx t]

set_option maxHeartbeats 1000000 in
/-- Row `r` of block `t`'s queries. -/
theorem queries_at (c : Dev nD) (t : Fin cfg0.N) (r n : Fin 1024) (h0 : (t.val * 1024 + r.val) / 8192 < 4) (h1 : (t.val * 1024 + r.val) % 8192 < 8192) :
    queries (iblk m c 0 t) (iblk m c 1 t) (iblk m c 2 t) (iblk m c 3 t) (iblk m c 4 t) (iblk m c 5 t) (ix2 r n)
      = Q m c (ix3 ⟨(t.val * 1024 + r.val) / 8192, h0⟩ ⟨(t.val * 1024 + r.val) % 8192, h1⟩ n) := by
  rw [Q, Cert.XattnRefIdeal.Hand.queries_apply]
  have e := fun k => rows_at m c t r k h0 h1
  revert e
  unfold rows queries k0_pay6
  generalize k0_pay5 (F := Ideal) _ _ _ _ _ = v
  intro e
  pointwise []
  simp only [e]
  blk_point [iblk, V, idx t]

set_option maxHeartbeats 1000000 in
/-- Block `t`'s keys, column by column: those of batch entry `t / 8`. -/
theorem keys_at (c : Dev nD) (t : Fin cfg0.N) (n : Fin 1024) (j : Fin 256) (h : t.val / 8 < 4) :
    keysAt m c t (ix2 n j) = KV m c (ix3 ⟨t.val / 8, h⟩ j (⟨n.val, by omega⟩ : Fin 2048)) := by
  rw [KV, Cert.XattnRefIdeal.Hand.keysValues_apply]
  pointwise [keysAt, k0_pay3, k0_pay2]
  blk_point [iblk, V, idx t]

set_option maxHeartbeats 1000000 in
/-- Block `t`'s values, row by row: those of batch entry `t / 8`. -/
theorem values_at (c : Dev nD) (t : Fin cfg0.N) (n : Fin 1024) (j : Fin 256) (h : t.val / 8 < 4) :
    valuesAt m c t (ix2 j n) = KV m c (ix3 ⟨t.val / 8, h⟩ j (⟨1024 + n.val, by omega⟩ : Fin 2048)) := by
  rw [KV, Cert.XattnRefIdeal.Hand.keysValues_apply]
  pointwise [valuesAt, k0_pay4, k0_pay2]
  blk_point [iblk, V, idx t]

end Cert.XattnIdeal.Hand

end
-- ==== Proof.XattnValue.lean ====
/- The kernel's result is the reference's where the arguments are real numbers. -/
module

public import proofs.«01_k».proof.Defs
public import proofs.«01_k».proof.Proof.XattnFinite
public import proofs.«01_k».proof.Proof.XattnRefAt
public import proofs.«01_k».proof.Proof.XattnAt
public import proofs.«01_k».proof.Proof.Gen.XattnIdeal.Value
public import proofs.«01_k».proof.Proof.Gen.XattnRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XattnIdeal.Hand

open Cert.XattnIdeal Cert.XattnIdeal.Gen
open Cert.SoftMath (IsNum)
open Cert.XattnRefIdeal.Hand (scores lifted weights heads attend scores_apply lifted_apply weights_apply heads_apply)

variable (m : (ℓ : Loc nD τ sig) → Buf (Elt Ideal) ℓ)

/-- The rows after the output projection are real numbers. -/
theorem isNum_R {c : Dev nD} (H : Finite m c) (b : Fin 4) (s : Fin 8192) (n : Fin 1024) : IsNum (R m c (ix3 b s n)) :=
  Cert.XattnRefIdeal.Hand.isNum_rows H.x H.yab H.yc H.w b s n

/-- The queries are real numbers. -/
theorem isNum_Q {c : Dev nD} (H : Finite m c) (b : Fin 4) (s : Fin 8192) (n : Fin 1024) : IsNum (Q m c (ix3 b s n)) :=
  Cert.XattnRefIdeal.Hand.isNum_queries (isNum_R m H) H.g H.wq b s n

/-- The keys and values are real numbers. -/
theorem isNum_KV {c : Dev nD} (H : Finite m c) (b : Fin 4) (s : Fin 256) (n : Fin 2048) : IsNum (KV m c (ix3 b s n)) :=
  Cert.XattnRefIdeal.Hand.isNum_keysValues H.mem H.gm H.wkv b s n

/-- The scores are real numbers. -/
theorem isNum_scores {c : Dev nD} (H : Finite m c) (b h : Fin 4) (s : Fin 8192) (j : Fin 256) :
    IsNum (scores (Q m c) (KV m c) (ix4 b h s j)) := by
  rw [scores_apply, Cert.SoftMath.ofBits_sixteenth]
  exact (IsNum.sum _ fun d => (isNum_Q m H _ _ _).mul (isNum_KV m H _ _ _)).mul (IsNum.coe _)

/-- The block's scores are the reference's: the scale comes before the sum in the one and after it in the other. -/
theorem score_at {c : Dev nD} (H : Finite m c) (t : Fin cfg0.N) (r k : Fin 1024) (j : Fin 256) (b : Fin 4) (s : Fin 8192)
    (hb : (t.val * 1024 + r.val) / 8192 = b.val) (hs : (t.val * 1024 + r.val) % 8192 = s.val) :
    score (k.val / 256 * 256) (by omega)
      (queries (iblk m c 0 t) (iblk m c 1 t) (iblk m c 2 t) (iblk m c 3 t) (iblk m c 4 t) (iblk m c 5 t))
      (keysAt m c ⟨8 * (t.val / 8), Pipeline.run_start_lt t⟩) r j
      = scores (Q m c) (KV m c) (ix4 b (⟨k.val / 256, by omega⟩ : Fin 4) s j) := by
  rw [scores_apply, Cert.SoftMath.ofBits_sixteenth, ← Cert.SoftMath.sum_scale _ _ _ (fun d => isNum_Q m H _ _ _) (fun d => isNum_KV m H _ _ _)]
  unfold score
  rw [Cert.SoftMath.ofBits_sixteenth]
  refine Finset.sum_congr rfl fun d _ => ?_
  have ht : t.val < 32 := t.isLt
  rw [queries_at m c t r _ (by omega) (by omega), keys_at m c _ _ _ (by show 8 * (t.val / 8) / 8 < 4; omega)]
  have eb : (⟨(t.val * 1024 + r.val) / 8192, by omega⟩ : Fin 4) = b := Fin.ext hb
  have es : (⟨(t.val * 1024 + r.val) % 8192, by omega⟩ : Fin 8192) = s := Fin.ext hs
  have e : (⟨8 * (t.val / 8) / 8, by omega⟩ : Fin 4) = b := Fin.ext (by show 8 * (t.val / 8) / 8 = _; omega)
  rw [eb, es, e]

/-- The block's values are the reference's. -/
theorem value_at {c : Dev nD} (t : Fin cfg0.N) (r k : Fin 1024) (j : Fin 256) (b : Fin 4) (hb : (t.val * 1024 + r.val) / 8192 = b.val) :
    valuesAt m c ⟨8 * (t.val / 8), Pipeline.run_start_lt t⟩ (ix2 j k) = KV m c (ix3 b j (⟨1024 + k.val, by omega⟩ : Fin 2048)) := by
  have ht : t.val < 32 := t.isLt
  rw [values_at m c _ _ _ (by show 8 * (t.val / 8) / 8 < 4; omega)]
  have e : (⟨8 * (t.val / 8) / 8, by omega⟩ : Fin 4) = b := Fin.ext (by show 8 * (t.val / 8) / 8 = _; omega)
  rw [e]

/-- A block's head outputs are the reference's: dividing the average once is dividing each weight. -/
theorem head_at {c : Dev nD} (H : Finite m c) (t : Fin cfg0.N) (r k : Fin 1024) (b : Fin 4) (s : Fin 8192)
    (hb : (t.val * 1024 + r.val) / 8192 = b.val) (hs : (t.val * 1024 + r.val) % 8192 = s.val) :
    average (score (k.val / 256 * 256) (by omega)
      (queries (iblk m c 0 t) (iblk m c 1 t) (iblk m c 2 t) (iblk m c 3 t) (iblk m c 4 t) (iblk m c 5 t))
      (keysAt m c ⟨8 * (t.val / 8), Pipeline.run_start_lt t⟩) r) (fun j => valuesAt m c ⟨8 * (t.val / 8), Pipeline.run_start_lt t⟩ (ix2 j k))
      = heads (KV m c) (weights (lifted (scores (Q m c) (KV m c)))) (ix3 b s k) := by
  rw [heads_apply]
  simp only [weights_apply, lifted_apply]
  have e1 := funext fun j => score_at m H t r k j b s hb hs
  have e2 := funext fun j => value_at m (c := c) t r k j b hb
  have eta : ∀ f : Fin 256 → EReal, (fun j => f j) = f := fun _ => rfl
  rw [eta] at e1
  rw [e1, e2]
  unfold average
  have hM : IsNum (Finset.univ.fold max (Ideal.ofBits .f32 0xFF800000#32) fun j : Fin 256 => scores (Q m c) (KV m c) (ix4 b (⟨k.val / 256, by omega⟩ : Fin 4) s j)) := by
    rw [Cert.SoftMath.ofBits_ninf]
    exact Cert.SoftMath.isNum_fold_max (by decide) _ fun j => isNum_scores m H _ _ _ _
  exact Cert.SoftMath.softmax (by decide) _ _ _ (fun j => isNum_scores m H _ _ _ _) (fun j => isNum_KV m H _ _ _) hM

/-- The reference's result on this memory's arguments. -/
def W (c : Dev nD) : FVec Ideal S32768x1024 .f32 :=
  shapeCast _ (attend (R m c) (Q m c) (KV m c) (m (c.tc.loc main_arg9))) Cert.XattnRefIdeal.Gen.shapeCasts_S4x8192x1024_S32768x1024

set_option maxHeartbeats 1000000 in
/-- The reference's result, entry by entry. -/
theorem W_apply (c : Dev nD) (i : Fin 32768) (n : Fin 1024) (h0 : i.val / 8192 < 4) (h1 : i.val % 8192 < 8192) :
    W m c (ix2 i n) = R m c (ix3 ⟨i.val / 8192, h0⟩ ⟨i.val % 8192, h1⟩ n)
      + ∑ k : Fin 1024, heads (KV m c) (weights (lifted (scores (Q m c) (KV m c)))) (ix3 ⟨i.val / 8192, h0⟩ ⟨i.val % 8192, h1⟩ k)
        * (m (c.tc.loc main_arg9) : FVec Ideal S1024x1024 .f32) (ix2 k n) := by
  unfold W attend
  generalize heads (KV m c) (weights (lifted (scores (Q m c) (KV m c)))) = a
  generalize R m c = b
  pointwise []

/-- The last matrix's block is the matrix. -/
theorem wo_at (c : Dev nD) (t : Fin cfg0.N) (k n : Fin 1024) :
    iblk m c 9 t (ix2 k n) = (m (c.tc.loc main_arg9) : FVec Ideal S1024x1024 .f32) (ix2 k n) := by
  blk_point [iblk, V, idx t]

set_option maxHeartbeats 1000000 in
/-- Grid point `t`'s block, entry by entry: what the body leaves is the reference's result at the entry's place in the array. -/
theorem point {c : Dev nD} (H : Finite m c) (t : Fin cfg0.N) (r n : Fin 1024) (h : t.val * 1024 + r.val < 32768) :
    (outsAt0 m c t.val t.isLt).1 (ix2 r n) = W m c (ix2 ⟨t.val * 1024 + r.val, h⟩ n) := by
  have ht : t.val < 32 := t.isLt
  rw [out]
  refine (block_apply _ _ _ _ _ r n).trans ?_
  rw [W_apply m c _ _ (by show (t.val * 1024 + r.val) / 8192 < 4; omega) (by show (t.val * 1024 + r.val) % 8192 < 8192; omega)]
  rw [rows_at m c t r n (by omega) (by omega)]
  refine congrArg₂ (· + ·) rfl (Finset.sum_congr rfl fun k _ => ?_)
  rw [head_at m H t r k ⟨(t.val * 1024 + r.val) / 8192, by omega⟩ ⟨(t.val * 1024 + r.val) % 8192, by omega⟩ rfl rfl, wo_at]

/-- The result array after the run is the reference's result: its 32 blocks cover it. -/
theorem final {c : Dev nD} (H : Finite m c) : (dats m 0 c).arrAt 10 cfg0.N = W m c := by
  refine (dats m 0 c).arrAt_eq_of_covers 10 _ (by decide +kernel) fun t _ y => ?_
  blk_simp
  rw [after0_10]
  have ht : t.val < 32 := t.isLt
  idx_vars y
  have e : ((View.whole main_v9).slice (win0_10.rect t)).emb (ix2 y0 y1) = (ix2 ⟨t.val * 1024 + y0.val, by omega⟩ y1 : S32768x1024.Idx) := by
    blk_ext [idx t]
  rw [e]
  exact point m H t _ _ _

attribute [local instance] preFacts

/-- The kernel's result is the reference's wherever the arguments are real numbers. -/
theorem algebraic : Cert.algebraic_XattnIdeal_XattnRefIdeal_pre_finite := by
  pair_intro
  · run_from Cert.XattnIdeal.Gen.run_main m g
  · run_from Cert.XattnRefIdeal.Value.run m' g'
    refine Eq.trans ?_ (final m (finite_of_pre m hpre c)).symm
    obtain ⟨h0, h1, h2, h3, h4, h5, h6, h7, h8, h9⟩ := hagree c
    rw [Cert.XattnRefIdeal.Hand.run_eq, h0, h1, h2, h3, h4, h5, h6, h7, h8, h9]
    rfl

end Cert.XattnIdeal.Hand

end
-- ==== Proof.DsaKeeps.lean ====
/- The sparse attention call's memory discipline, for programs of loads, stores and counted loops. A region's operands
   are held by one assertion; a program KEEPS the assertion when it runs from it and hands it back, whatever the operands
   then hold. Nothing is said of the values. -/
module

public import proofs.«01_k».proof.Proof.Gen.Dsa.Skeleton
public import proofs.«01_k».proof.Proof.Gen.Dsa.Frame
public import Idealize.ShloMosaic.Lib.Pipeline.Kit

@[expose] public section

noncomputable section

namespace Cert.Dsa.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Dsa Cert.Dsa.Gen

variable {F : FTy → Type} [BitOps F]

/-- The assertions of the run. -/
abbrev Asn (F : FTy → Type) : Type := sProp (MT nD τ sig Unit (Elt F) ℕ (UR sig nD τ) ℕ)

/-- The assertion hands out the memref's elements, and takes them back unchanged. -/
def Reads (c : Dev nD) (H : Asn F) {s : Shape} {e : EltTy} (m : Memref sig .tc .vmem s e) : Prop :=
  H ⊢ iprop(∃ f, (m.view.loc (c : Thread nD τ) ↦[m.view.set]{fullShare} f)
    ∗ ((m.view.loc (c : Thread nD τ) ↦[m.view.set]{fullShare} f) -∗ H))

/-- The assertion hands out the memref's elements, and takes them back at any contents. -/
def Writes (c : Dev nD) (H : Asn F) {s : Shape} {e : EltTy} (m : Memref sig .tc .vmem s e) : Prop :=
  H ⊢ iprop(∃ f, (m.view.loc (c : Thread nD τ) ↦[m.view.set]{fullShare} f)
    ∗ (∀ g, (m.view.loc (c : Thread nD τ) ↦[m.view.set]{fullShare} g) -∗ H))

/-- The program runs from the assertion and hands it back. -/
def Keeps (c : Dev nD) (H : Asn F) {α : Type} (p : Prog (TpuEff nD τ sig (Elt F) Λ₀ .tc) α) : Prop :=
  H ⊢ wp frame (wpE (defs₀ (F := F)) Variants.none (c : Thread nD τ) none) Set.univ p (fun _ => H)

variable {c : Dev nD} {H : Asn F} {α β : Type}

/-- What is taken back at any contents is taken back unchanged. -/
theorem Writes.reads {s : Shape} {e : EltTy} {m : Memref sig .tc .vmem s e} (h : Writes c H m) : Reads c H m := by
  unfold Writes at h
  unfold Reads
  refine h.trans ?_
  iintro ⟨%f, Hf, Hk⟩
  iexists f
  isplitl [Hf]
  · iexact Hf
  iintro Hf
  iapply Hk
  iexact Hf

/-- A program that only yields keeps the assertion. -/
theorem keeps_pure (a : α) : Keeps c H (pure a) := by
  unfold Keeps
  rw [wp_pure]
  iintro HH
  imodintro
  iexact HH

/-- A program after another. -/
theorem keeps_bind {p : Prog (TpuEff nD τ sig (Elt F) Λ₀ .tc) α} {k : α → Prog (TpuEff nD τ sig (Elt F) Λ₀ .tc) β}
    (hp : Keeps c H p) (hk : ∀ a, Keeps c H (k a)) : Keeps c H (p >>= k) := by
  unfold Keeps at *
  rw [wp_bind]
  exact hp.trans (wp_mono _ _ _ hk)

/-- A load from an operand the assertion hands out. -/
theorem keeps_load {s : Shape} {e : EltTy} {m : Memref sig .tc .vmem s e} (h : Reads c H m) {r : LoadRect s}
    {hl : m.view.LoadsAt r} : Keeps c H (Prog.lift (.load m r hl)) := by
  unfold Reads at h
  unfold Keeps
  refine h.trans ?_
  iintro ⟨%f, Hf, Hk⟩
  iapply (wp_load (defs := defs₀ (F := F)) Variants.none (c : Thread nD τ) none Set.univ (m := m) (r := r) (hl := hl)
    (S := m.view.set) (q := fullShare) (f := f) (View.setOn_subset_set _ _)) $$ Hf
  iintro Hf
  rw [wp_ret]
  imodintro
  iapply Hk
  iexact Hf

/-- A store, of the whole of a rectangle, into an operand the assertion takes back at any contents. -/
theorem keeps_store {s : Shape} {e : EltTy} {m : Memref sig .tc .vmem s e} (h : Writes c H m) {r : Rect s}
    {w : r.shape.Idx → Elt F e} {Mk : Finset r.shape.Idx} {hx : (m.access r).Stores Mk}
    {hm : Mk = Finset.univ ∨ ∀ a, r.stride a = 1} : Keeps c H (Prog.lift (.store m r w Mk hx hm)) := by
  unfold Writes at h
  unfold Keeps
  refine h.trans ?_
  iintro ⟨%f, Hf, Hk⟩
  iapply (wp_store (defs := defs₀ (F := F)) Variants.none (c : Thread nD τ) none Set.univ (m := m) (r := r) (w := w) (Mk := Mk)
    (hx := hx) (hm := hm) (S := m.view.set) (f := f) ((View.setOn_subset_set _ _).trans (View.set_slice_subset _ _))) $$ Hf
  iintro Hf
  rw [wp_ret]
  imodintro
  iapply Hk
  iexact Hf

/-- A counted loop whose every trip keeps the assertion. -/
theorem keeps_for {w : Nat} (l : Scf.Loop w) (hok : l.OK) (init : α) {body : Fin l.trips → α → Prog (TpuEff nD τ sig (Elt F) Λ₀ .tc) α}
    (h : ∀ k acc, Keeps c H (body k acc)) : Keeps c H (Scf.Loop.for l hok init body) := by
  unfold Keeps at *
  iintro HH
  iapply (Scf.wp_for frame (wpE (defs₀ (F := F)) Variants.none (c : Thread nD τ) none) Set.univ l.lb l.ub l.st hok init body
    (fun _ _ => H) h)
  isplitl [HH]
  · iexact HH
  iintro %acc HH
  iexact HH

end Cert.Dsa.Run

end
-- ==== Proof.DsaParts.lean ====
/- The sparse attention call's body keeps its operands: the index scores of one chunk of keys. -/
module

public import proofs.«01_k».proof.Proof.DsaKeeps

@[expose] public section

set_option maxRecDepth 65536

noncomputable section

namespace Cert.Dsa.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Dsa Cert.Dsa.Gen

variable {F : FTy → Type} [BitOps F]
/-- The assertion holds the call's operands: the inputs to be read, the output and the scratch to be written. -/
structure Held (c : Dev nD) (H : Asn F) (arg2 : Memref sig .tc .vmem S1x512x512 .bf16) (arg3 : Memref sig .tc .vmem S1x256x512 .bf16) (arg4 : Memref sig .tc .vmem S1x8x512 .f32) (arg5 : Memref sig .tc .vmem S1x8192x512 .bf16) (arg6 : Memref sig .tc .vmem S1x16x512x512 .bf16) (arg7 : Memref sig .tc .vmem S1x8192x128 .bf16) (arg8 : Memref sig .tc .vmem S1x512x512 .bf16) (arg9 : Memref sig .tc .vmem S16x32x16x512 .i32) (arg10 : Memref sig .tc .vmem S16x16x512 .i32) (arg11 : Memref sig .tc .vmem S16x16x512 .i32) (arg12 : Memref sig .tc .vmem S512x512 .f32) (arg13 : Memref sig .tc .vmem S8x128x512 .bf16) (arg14 : Memref sig .tc .vmem S8x512 .f32) (arg15 : Memref sig .tc .vmem S8x512 .f32) (arg16 : Memref sig .tc .vmem S256x256 .bf16) : Prop where
  r2 : Reads c H arg2
  r3 : Reads c H arg3
  r4 : Reads c H arg4
  r5 : Reads c H arg5
  r6 : Reads c H arg6
  r7 : Reads c H arg7
  w8 : Writes c H arg8
  w9 : Writes c H arg9
  w10 : Writes c H arg10
  w11 : Writes c H arg11
  w12 : Writes c H arg12
  w13 : Writes c H arg13
  w14 : Writes c H arg14
  w15 : Writes c H arg15
  w16 : Writes c H arg16

variable {c : Dev nD} {H : Asn F} {i : grid0.Coords}
variable {arg2 : Memref sig .tc .vmem S1x512x512 .bf16} {harg2 : arg2.IsWhole} {arg3 : Memref sig .tc .vmem S1x256x512 .bf16} {harg3 : arg3.IsWhole} {arg4 : Memref sig .tc .vmem S1x8x512 .f32} {harg4 : arg4.IsWhole} {arg5 : Memref sig .tc .vmem S1x8192x512 .bf16} {harg5 : arg5.IsWhole} {arg6 : Memref sig .tc .vmem S1x16x512x512 .bf16} {harg6 : arg6.IsWhole} {arg7 : Memref sig .tc .vmem S1x8192x128 .bf16} {harg7 : arg7.IsWhole} {arg8 : Memref sig .tc .vmem S1x512x512 .bf16} {harg8 : arg8.IsWhole} {arg9 : Memref sig .tc .vmem S16x32x16x512 .i32} {harg9 : arg9.IsWhole} {arg10 : Memref sig .tc .vmem S16x16x512 .i32} {harg10 : arg10.IsWhole} {arg11 : Memref sig .tc .vmem S16x16x512 .i32} {harg11 : arg11.IsWhole} {arg12 : Memref sig .tc .vmem S512x512 .f32} {harg12 : arg12.IsWhole} {arg13 : Memref sig .tc .vmem S8x128x512 .bf16} {harg13 : arg13.IsWhole} {arg14 : Memref sig .tc .vmem S8x512 .f32} {harg14 : arg14.IsWhole} {arg15 : Memref sig .tc .vmem S8x512 .f32} {harg15 : arg15.IsWhole} {arg16 : Memref sig .tc .vmem S256x256 .bf16} {harg16 : arg16.IsWhole}

variable (h : Held c H arg2 arg3 arg4 arg5 arg6 arg7 arg8 arg9 arg10 arg11 arg12 arg13 arg14 arg15 arg16)

include h

/-- Part 1 keeps the operands. -/
theorem keeps_part1 {v27 : FVec F S8x512 .f32} {v31 : FVec F S128x512 .bf16} {v34 : FVec F S128x512 .bf16} {v37 : FVec F S128x512 .bf16} {v40 : FVec F S128x512 .bf16} {c0_i32_21 : BitVec 32} {c1_i32_23 : BitVec 32} {k0_t1 : Fin (k0_t1_loop i).trips} : Keeps c H (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v27 v31 v34 v37 v40 c0_i32_21 c1_i32_23 k0_t1) := by
  rw [k0_part1_eq_skeleton]
  unfold k0_part1_skel
  refine keeps_bind (keeps_load h.r7) fun _ => ?_
  exact keeps_pure _

/-- Part 2 keeps the operands. -/
theorem keeps_part2 {v1209 : IVec S512x512 32} {v1210 : IVec S16x512 32} {v1211 : IVec S16x512 32} {v1212 : IVec S16x512 32} : Keeps c H (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1209 v1210 v1211 v1212) := by
  rw [k0_part2_eq_skeleton]
  unfold k0_part2_skel
  exact keeps_pure _

/-- Part 3 keeps the operands. -/
theorem keeps_part3 {v1213 : IVec S16x512 32} {v1214 : IVec S16x512 32} {v1215 : IVec S16x512 32} {v1216 : IVec S16x512 32} {v1217 : IVec S16x512 32} {v1228 : IVec S16x512 32} {v1229 : IVec S16x512 32} {v1230 : IVec S16x512 32} {v1231 : IVec S16x512 32} {v1232 : IVec S16x512 32} {v1233 : IVec S16x512 32} {v1264 : IVec S16x512 32} {c16_i32_505 : BitVec 32} : Keeps c H (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1213 v1214 v1215 v1216 v1217 v1228 v1229 v1230 v1231 v1232 v1233 v1264 c16_i32_505) := by
  rw [k0_part3_eq_skeleton]
  unfold k0_part3_skel
  exact keeps_pure _

/-- Part 4 keeps the operands. -/
theorem keeps_part4 {v1218 : IVec S16x512 32} {v1219 : IVec S16x512 32} {v1220 : IVec S16x512 32} {v1221 : IVec S16x512 32} {v1222 : IVec S16x512 32} {v1233 : IVec S16x512 32} {v1234 : IVec S16x512 32} {v1235 : IVec S16x512 32} {v1236 : IVec S16x512 32} {v1237 : IVec S16x512 32} {v1238 : IVec S16x512 32} {v1309 : IVec S16x512 32} {c16_i32_520 : BitVec 32} : Keeps c H (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1218 v1219 v1220 v1221 v1222 v1233 v1234 v1235 v1236 v1237 v1238 v1309 c16_i32_520) := by
  rw [k0_part4_eq_skeleton]
  unfold k0_part4_skel
  exact keeps_pure _

/-- Part 5 keeps the operands. -/
theorem keeps_part5 {v1223 : IVec S16x512 32} {v1224 : IVec S16x512 32} {v1225 : IVec S16x512 32} {v1238 : IVec S16x512 32} {v1239 : IVec S16x512 32} {v1240 : IVec S16x512 32} {v1241 : IVec S16x512 32} {v1247 : IVec S16x512 32} {v1256 : IVec S16x512 32} {v1319 : IVec S16x512 32} {v1328 : IVec S16x512 32} {v1354 : IVec S16x512 32} {c16_i32_535 : BitVec 32} : Keeps c H (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1223 v1224 v1225 v1238 v1239 v1240 v1241 v1247 v1256 v1319 v1328 v1354 c16_i32_535) := by
  rw [k0_part5_eq_skeleton]
  unfold k0_part5_skel
  exact keeps_pure _

/-- Part 6 keeps the operands. -/
theorem keeps_part6 {v1265 : IVec S16x512 32} {v1274 : IVec S16x512 32} {v1283 : IVec S16x512 32} {v1292 : IVec S16x512 32} {v1301 : IVec S16x512 32} {v1328 : IVec S16x512 32} {v1337 : IVec S16x512 32} {v1346 : IVec S16x512 32} {v1355 : IVec S16x512 32} {v1364 : IVec S16x512 32} {v1373 : IVec S16x512 32} {v1399 : IVec S16x512 32} {c8_i32_550 : BitVec 32} : Keeps c H (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1265 v1274 v1283 v1292 v1301 v1328 v1337 v1346 v1355 v1364 v1373 v1399 c8_i32_550) := by
  rw [k0_part6_eq_skeleton]
  unfold k0_part6_skel
  exact keeps_pure _

/-- Part 7 keeps the operands. -/
theorem keeps_part7 {v1250 : IVec S16x512 32} {v1259 : IVec S16x512 32} {v1268 : IVec S16x512 32} {v1277 : IVec S16x512 32} {v1310 : IVec S16x512 32} {v1322 : IVec S16x512 32} {v1331 : IVec S16x512 32} {v1340 : IVec S16x512 32} {v1349 : IVec S16x512 32} {v1373 : IVec S16x512 32} {v1382 : IVec S16x512 32} {v1444 : IVec S16x512 32} {c8_i32_565 : BitVec 32} : Keeps c H (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1250 v1259 v1268 v1277 v1310 v1322 v1331 v1340 v1349 v1373 v1382 v1444 c8_i32_565) := by
  rw [k0_part7_eq_skeleton]
  unfold k0_part7_skel
  exact keeps_pure _

/-- Part 8 keeps the operands. -/
theorem keeps_part8 {v1286 : IVec S16x512 32} {v1295 : IVec S16x512 32} {v1304 : IVec S16x512 32} {v1313 : IVec S16x512 32} {v1349 : IVec S16x512 32} {v1358 : IVec S16x512 32} {v1367 : IVec S16x512 32} {v1376 : IVec S16x512 32} {v1385 : IVec S16x512 32} {v1391 : IVec S16x512 32} {v1427 : IVec S16x512 32} {v1489 : IVec S16x512 32} {c8_i32_580 : BitVec 32} : Keeps c H (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1286 v1295 v1304 v1313 v1349 v1358 v1367 v1376 v1385 v1391 v1427 v1489 c8_i32_580) := by
  rw [k0_part8_eq_skeleton]
  unfold k0_part8_skel
  exact keeps_pure _

/-- Part 9 keeps the operands. -/
theorem keeps_part9 {v1394 : IVec S16x512 32} {v1400 : IVec S16x512 32} {v1403 : IVec S16x512 32} {v1409 : IVec S16x512 32} {v1418 : IVec S16x512 32} {v1427 : IVec S16x512 32} {v1430 : IVec S16x512 32} {v1436 : IVec S16x512 32} {v1439 : IVec S16x512 32} {v1445 : IVec S16x512 32} {v1454 : IVec S16x512 32} {v1534 : IVec S16x512 32} {c4_i32_595 : BitVec 32} : Keeps c H (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1394 v1400 v1403 v1409 v1418 v1427 v1430 v1436 v1439 v1445 v1454 v1534 c4_i32_595) := by
  rw [k0_part9_eq_skeleton]
  unfold k0_part9_skel
  exact keeps_pure _

/-- Part 10 keeps the operands. -/
theorem keeps_part10 {v1412 : IVec S16x512 32} {v1421 : IVec S16x512 32} {v1439 : IVec S16x512 32} {v1448 : IVec S16x512 32} {v1457 : IVec S16x512 32} {v1463 : IVec S16x512 32} {v1472 : IVec S16x512 32} {v1481 : IVec S16x512 32} {v1499 : IVec S16x512 32} {v1508 : IVec S16x512 32} {v1517 : IVec S16x512 32} {v1579 : IVec S16x512 32} {c4_i32_610 : BitVec 32} : Keeps c H (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1412 v1421 v1439 v1448 v1457 v1463 v1472 v1481 v1499 v1508 v1517 v1579 c4_i32_610) := by
  rw [k0_part10_eq_skeleton]
  unfold k0_part10_skel
  exact keeps_pure _

/-- Part 11 keeps the operands. -/
theorem keeps_part11 {v1466 : IVec S16x512 32} {v1475 : IVec S16x512 32} {v1484 : IVec S16x512 32} {v1490 : IVec S16x512 32} {v1493 : IVec S16x512 32} {v1502 : IVec S16x512 32} {v1511 : IVec S16x512 32} {v1517 : IVec S16x512 32} {v1520 : IVec S16x512 32} {v1526 : IVec S16x512 32} {v1529 : IVec S16x512 32} {v1624 : IVec S16x512 32} {c4_i32_625 : BitVec 32} : Keeps c H (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1466 v1475 v1484 v1490 v1493 v1502 v1511 v1517 v1520 v1526 v1529 v1624 c4_i32_625) := by
  rw [k0_part11_eq_skeleton]
  unfold k0_part11_skel
  exact keeps_pure _

/-- Part 12 keeps the operands. -/
theorem keeps_part12 {v1529 : IVec S16x512 32} {v1535 : IVec S16x512 32} {v1538 : IVec S16x512 32} {v1544 : IVec S16x512 32} {v1547 : IVec S16x512 32} {v1553 : IVec S16x512 32} {v1556 : IVec S16x512 32} {v1562 : IVec S16x512 32} {v1565 : IVec S16x512 32} {v1571 : IVec S16x512 32} {v1589 : IVec S16x512 32} {v1669 : IVec S16x512 32} {c4_i32_640 : BitVec 32} : Keeps c H (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1529 v1535 v1538 v1544 v1547 v1553 v1556 v1562 v1565 v1571 v1589 v1669 c4_i32_640) := by
  rw [k0_part12_eq_skeleton]
  unfold k0_part12_skel
  exact keeps_pure _

/-- Part 13 keeps the operands. -/
theorem keeps_part13 {v1574 : IVec S16x512 32} {v1580 : IVec S16x512 32} {v1583 : IVec S16x512 32} {v1589 : IVec S16x512 32} {v1592 : IVec S16x512 32} {v1598 : IVec S16x512 32} {v1601 : IVec S16x512 32} {v1607 : IVec S16x512 32} {v1616 : IVec S16x512 32} {v1625 : IVec S16x512 32} {v1634 : IVec S16x512 32} {v1714 : IVec S16x512 32} {c2_i32_655 : BitVec 32} : Keeps c H (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1574 v1580 v1583 v1589 v1592 v1598 v1601 v1607 v1616 v1625 v1634 v1714 c2_i32_655) := by
  rw [k0_part13_eq_skeleton]
  unfold k0_part13_skel
  exact keeps_pure _

/-- Part 14 keeps the operands. -/
theorem keeps_part14 {v1610 : IVec S16x512 32} {v1619 : IVec S16x512 32} {v1628 : IVec S16x512 32} {v1634 : IVec S16x512 32} {v1637 : IVec S16x512 32} {v1643 : IVec S16x512 32} {v1646 : IVec S16x512 32} {v1652 : IVec S16x512 32} {v1661 : IVec S16x512 32} {v1664 : IVec S16x512 32} {v1670 : IVec S16x512 32} {v1759 : IVec S16x512 32} {c2_i32_670 : BitVec 32} : Keeps c H (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1610 v1619 v1628 v1634 v1637 v1643 v1646 v1652 v1661 v1664 v1670 v1759 c2_i32_670) := by
  rw [k0_part14_eq_skeleton]
  unfold k0_part14_skel
  exact keeps_pure _

/-- Part 15 keeps the operands. -/
theorem keeps_part15 {v1655 : IVec S16x512 32} {v1664 : IVec S16x512 32} {v1673 : IVec S16x512 32} {v1679 : IVec S16x512 32} {v1682 : IVec S16x512 32} {v1688 : IVec S16x512 32} {v1691 : IVec S16x512 32} {v1697 : IVec S16x512 32} {v1700 : IVec S16x512 32} {v1706 : IVec S16x512 32} {v1709 : IVec S16x512 32} {v1804 : IVec S16x512 32} {c2_i32_685 : BitVec 32} : Keeps c H (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1655 v1664 v1673 v1679 v1682 v1688 v1691 v1697 v1700 v1706 v1709 v1804 c2_i32_685) := by
  rw [k0_part15_eq_skeleton]
  unfold k0_part15_skel
  exact keeps_pure _

/-- Part 16 keeps the operands. -/
theorem keeps_part16 {v1709 : IVec S16x512 32} {v1715 : IVec S16x512 32} {v1718 : IVec S16x512 32} {v1724 : IVec S16x512 32} {v1727 : IVec S16x512 32} {v1733 : IVec S16x512 32} {v1736 : IVec S16x512 32} {v1742 : IVec S16x512 32} {v1745 : IVec S16x512 32} {v1751 : IVec S16x512 32} {v1760 : IVec S16x512 32} {v1849 : IVec S16x512 32} {c1_i32_700 : BitVec 32} : Keeps c H (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1709 v1715 v1718 v1724 v1727 v1733 v1736 v1742 v1745 v1751 v1760 v1849 c1_i32_700) := by
  rw [k0_part16_eq_skeleton]
  unfold k0_part16_skel
  exact keeps_pure _

/-- Part 17 keeps the operands. -/
theorem keeps_part17 {v1754 : IVec S16x512 32} {v1760 : IVec S16x512 32} {v1763 : IVec S16x512 32} {v1769 : IVec S16x512 32} {v1772 : IVec S16x512 32} {v1778 : IVec S16x512 32} {v1781 : IVec S16x512 32} {v1787 : IVec S16x512 32} {v1790 : IVec S16x512 32} {v1796 : IVec S16x512 32} {v1799 : IVec S16x512 32} {v1894 : IVec S16x512 32} {c1_i32_715 : BitVec 32} : Keeps c H (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1754 v1760 v1763 v1769 v1772 v1778 v1781 v1787 v1790 v1796 v1799 v1894 c1_i32_715) := by
  rw [k0_part17_eq_skeleton]
  unfold k0_part17_skel
  exact keeps_pure _

/-- Part 18 keeps the operands. -/
theorem keeps_part18 {k0_t1 : Fin (k0_t1_loop i).trips} {arg17 : BitVec 32} {v1799 : IVec S16x512 32} {v1805 : IVec S16x512 32} {v1808 : IVec S16x512 32} {v1814 : IVec S16x512 32} {v1817 : IVec S16x512 32} {v1823 : IVec S16x512 32} {v1826 : IVec S16x512 32} {v1832 : IVec S16x512 32} {v1835 : IVec S16x512 32} {v1939 : IVec S16x512 32} {c1_i32_730 : BitVec 32} : Keeps c H (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t1 arg17 v1799 v1805 v1808 v1814 v1817 v1823 v1826 v1832 v1835 v1939 c1_i32_730) := by
  rw [k0_part18_eq_skeleton]
  unfold k0_part18_skel
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  exact keeps_pure _

/-- Part 19 keeps the operands. -/
theorem keeps_part19 {k0_t1 : Fin (k0_t1_loop i).trips} {arg17 : BitVec 32} {v1841 : IVec S16x512 32} {v1844 : IVec S16x512 32} {v1850 : IVec S16x512 32} {v1853 : IVec S16x512 32} {v1859 : IVec S16x512 32} {v1862 : IVec S16x512 32} {v1868 : IVec S16x512 32} : Keeps c H (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t1 arg17 v1841 v1844 v1850 v1853 v1859 v1862 v1868) := by
  rw [k0_part19_eq_skeleton]
  unfold k0_part19_skel
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  exact keeps_pure _

/-- Part 20 keeps the operands. -/
theorem keeps_part20 {k0_t1 : Fin (k0_t1_loop i).trips} {arg17 : BitVec 32} {v1871 : IVec S16x512 32} {v1877 : IVec S16x512 32} {v1880 : IVec S16x512 32} {v1886 : IVec S16x512 32} {v1889 : IVec S16x512 32} {v1895 : IVec S16x512 32} {v1898 : IVec S16x512 32} {v1904 : IVec S16x512 32} {v2007 : Vec F S1x1x16x512 .i32} : Keeps c H (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t1 arg17 v1871 v1877 v1880 v1886 v1889 v1895 v1898 v1904 v2007) := by
  rw [k0_part20_eq_skeleton]
  unfold k0_part20_skel
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  exact keeps_pure _

/-- Part 21 keeps the operands. -/
theorem keeps_part21 {k0_t1 : Fin (k0_t1_loop i).trips} {arg17 : BitVec 32} {v1907 : IVec S16x512 32} {v1913 : IVec S16x512 32} {v1916 : IVec S16x512 32} {v1922 : IVec S16x512 32} {v1925 : IVec S16x512 32} {v1931 : IVec S16x512 32} {v1934 : IVec S16x512 32} : Keeps c H (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t1 arg17 v1907 v1913 v1916 v1922 v1925 v1931 v1934) := by
  rw [k0_part21_eq_skeleton]
  unfold k0_part21_skel
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  exact keeps_pure _

/-- Part 22 keeps the operands. -/
theorem keeps_part22 {k0_t1 : Fin (k0_t1_loop i).trips} {arg17 : BitVec 32} {v1940 : IVec S16x512 32} {v1943 : IVec S16x512 32} {v1949 : IVec S16x512 32} {v1952 : IVec S16x512 32} {v1958 : IVec S16x512 32} {v1961 : IVec S16x512 32} {v2067 : Vec F S1x1x16x512 .i32} : Keeps c H (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t1 arg17 v1940 v1943 v1949 v1952 v1958 v1961 v2067) := by
  rw [k0_part22_eq_skeleton]
  unfold k0_part22_skel
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w10.reads) fun _ => ?_
  refine keeps_bind (keeps_store h.w10) fun _ => ?_
  refine keeps_bind (keeps_load h.w11.reads) fun _ => ?_
  exact keeps_pure _

/-- A trip of loop 1 keeps the operands. -/
theorem keeps_t1 {v18 : BitVec 32} {v27 : FVec F S8x512 .f32} {v28 : FVec F S64x512 .bf16} {v31 : FVec F S128x512 .bf16} {v34 : FVec F S128x512 .bf16} {v35 : Vec F S1x64x512 .bf16} {v38 : Vec F S1x64x512 .bf16} : ∀ k acc, Keeps c H (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v27 v28 v31 v34 v35 v38 k acc) := by
  intro k acc
  unfold k0_t1_body
  refine keeps_bind (keeps_part1 h) fun _ => ?_
  refine keeps_bind (keeps_part2 h) fun _ => ?_
  refine keeps_bind (keeps_part3 h) fun _ => ?_
  refine keeps_bind (keeps_part4 h) fun _ => ?_
  refine keeps_bind (keeps_part5 h) fun _ => ?_
  refine keeps_bind (keeps_part6 h) fun _ => ?_
  refine keeps_bind (keeps_part7 h) fun _ => ?_
  refine keeps_bind (keeps_part8 h) fun _ => ?_
  refine keeps_bind (keeps_part9 h) fun _ => ?_
  refine keeps_bind (keeps_part10 h) fun _ => ?_
  refine keeps_bind (keeps_part11 h) fun _ => ?_
  refine keeps_bind (keeps_part12 h) fun _ => ?_
  refine keeps_bind (keeps_part13 h) fun _ => ?_
  refine keeps_bind (keeps_part14 h) fun _ => ?_
  refine keeps_bind (keeps_part15 h) fun _ => ?_
  refine keeps_bind (keeps_part16 h) fun _ => ?_
  refine keeps_bind (keeps_part17 h) fun _ => ?_
  refine keeps_bind (keeps_part18 h) fun _ => ?_
  refine keeps_bind (keeps_part19 h) fun _ => ?_
  refine keeps_bind (keeps_part20 h) fun _ => ?_
  refine keeps_bind (keeps_part21 h) fun _ => ?_
  refine keeps_bind (keeps_part22 h) fun _ => ?_
  refine keeps_bind (keeps_store h.w11) fun _ => ?_
  exact keeps_pure _

end Cert.Dsa.Run

end
-- ==== Proof.DsaPartsB.lean ====
/- The sparse attention call's body keeps its operands: the same in the second loop. -/
module

public import proofs.«01_k».proof.Proof.DsaParts

@[expose] public section

set_option maxRecDepth 65536

noncomputable section

namespace Cert.Dsa.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Dsa Cert.Dsa.Gen

variable {F : FTy → Type} [BitOps F]
variable {c : Dev nD} {H : Asn F} {i : grid0.Coords}
variable {arg2 : Memref sig .tc .vmem S1x512x512 .bf16} {harg2 : arg2.IsWhole} {arg3 : Memref sig .tc .vmem S1x256x512 .bf16} {harg3 : arg3.IsWhole} {arg4 : Memref sig .tc .vmem S1x8x512 .f32} {harg4 : arg4.IsWhole} {arg5 : Memref sig .tc .vmem S1x8192x512 .bf16} {harg5 : arg5.IsWhole} {arg6 : Memref sig .tc .vmem S1x16x512x512 .bf16} {harg6 : arg6.IsWhole} {arg7 : Memref sig .tc .vmem S1x8192x128 .bf16} {harg7 : arg7.IsWhole} {arg8 : Memref sig .tc .vmem S1x512x512 .bf16} {harg8 : arg8.IsWhole} {arg9 : Memref sig .tc .vmem S16x32x16x512 .i32} {harg9 : arg9.IsWhole} {arg10 : Memref sig .tc .vmem S16x16x512 .i32} {harg10 : arg10.IsWhole} {arg11 : Memref sig .tc .vmem S16x16x512 .i32} {harg11 : arg11.IsWhole} {arg12 : Memref sig .tc .vmem S512x512 .f32} {harg12 : arg12.IsWhole} {arg13 : Memref sig .tc .vmem S8x128x512 .bf16} {harg13 : arg13.IsWhole} {arg14 : Memref sig .tc .vmem S8x512 .f32} {harg14 : arg14.IsWhole} {arg15 : Memref sig .tc .vmem S8x512 .f32} {harg15 : arg15.IsWhole} {arg16 : Memref sig .tc .vmem S256x256 .bf16} {harg16 : arg16.IsWhole}

variable (h : Held c H arg2 arg3 arg4 arg5 arg6 arg7 arg8 arg9 arg10 arg11 arg12 arg13 arg14 arg15 arg16)

include h

/-- Part 23 keeps the operands. -/
theorem keeps_part23 {v27 : FVec F S8x512 .f32} {v31 : FVec F S128x512 .bf16} {v34 : FVec F S128x512 .bf16} {v37 : FVec F S128x512 .bf16} {v40 : FVec F S128x512 .bf16} {v46 : BitVec 32} {c1_i32_24 : BitVec 32} {k0_t2 : Fin (k0_t2_loop i).trips} : Keeps c H (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v27 v31 v34 v37 v40 v46 c1_i32_24 k0_t2) := by
  rw [k0_part23_eq_skeleton]
  unfold k0_part23_skel
  refine keeps_bind (keeps_load h.r7) fun _ => ?_
  exact keeps_pure _

/-- Part 24 keeps the operands. -/
theorem keeps_part24 {v1209 : IVec S512x512 32} {v1210 : IVec S16x512 32} {v1211 : IVec S16x512 32} {v1212 : IVec S16x512 32} : Keeps c H (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1209 v1210 v1211 v1212) := by
  rw [k0_part24_eq_skeleton]
  unfold k0_part24_skel
  exact keeps_pure _

/-- Part 25 keeps the operands. -/
theorem keeps_part25 {v1213 : IVec S16x512 32} {v1214 : IVec S16x512 32} {v1215 : IVec S16x512 32} {v1216 : IVec S16x512 32} {v1217 : IVec S16x512 32} {v1228 : IVec S16x512 32} {v1229 : IVec S16x512 32} {v1230 : IVec S16x512 32} {v1231 : IVec S16x512 32} {v1232 : IVec S16x512 32} {v1233 : IVec S16x512 32} {v1264 : IVec S16x512 32} {c16_i32_505 : BitVec 32} : Keeps c H (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1213 v1214 v1215 v1216 v1217 v1228 v1229 v1230 v1231 v1232 v1233 v1264 c16_i32_505) := by
  rw [k0_part25_eq_skeleton]
  unfold k0_part25_skel
  exact keeps_pure _

/-- Part 26 keeps the operands. -/
theorem keeps_part26 {v1218 : IVec S16x512 32} {v1219 : IVec S16x512 32} {v1220 : IVec S16x512 32} {v1221 : IVec S16x512 32} {v1222 : IVec S16x512 32} {v1233 : IVec S16x512 32} {v1234 : IVec S16x512 32} {v1235 : IVec S16x512 32} {v1236 : IVec S16x512 32} {v1237 : IVec S16x512 32} {v1238 : IVec S16x512 32} {v1309 : IVec S16x512 32} {c16_i32_520 : BitVec 32} : Keeps c H (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1218 v1219 v1220 v1221 v1222 v1233 v1234 v1235 v1236 v1237 v1238 v1309 c16_i32_520) := by
  rw [k0_part26_eq_skeleton]
  unfold k0_part26_skel
  exact keeps_pure _

/-- Part 27 keeps the operands. -/
theorem keeps_part27 {v1223 : IVec S16x512 32} {v1224 : IVec S16x512 32} {v1225 : IVec S16x512 32} {v1238 : IVec S16x512 32} {v1239 : IVec S16x512 32} {v1240 : IVec S16x512 32} {v1241 : IVec S16x512 32} {v1247 : IVec S16x512 32} {v1256 : IVec S16x512 32} {v1319 : IVec S16x512 32} {v1328 : IVec S16x512 32} {v1354 : IVec S16x512 32} {c16_i32_535 : BitVec 32} : Keeps c H (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1223 v1224 v1225 v1238 v1239 v1240 v1241 v1247 v1256 v1319 v1328 v1354 c16_i32_535) := by
  rw [k0_part27_eq_skeleton]
  unfold k0_part27_skel
  exact keeps_pure _

/-- Part 28 keeps the operands. -/
theorem keeps_part28 {v1265 : IVec S16x512 32} {v1274 : IVec S16x512 32} {v1283 : IVec S16x512 32} {v1292 : IVec S16x512 32} {v1301 : IVec S16x512 32} {v1328 : IVec S16x512 32} {v1337 : IVec S16x512 32} {v1346 : IVec S16x512 32} {v1355 : IVec S16x512 32} {v1364 : IVec S16x512 32} {v1373 : IVec S16x512 32} {v1399 : IVec S16x512 32} {c8_i32_550 : BitVec 32} : Keeps c H (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1265 v1274 v1283 v1292 v1301 v1328 v1337 v1346 v1355 v1364 v1373 v1399 c8_i32_550) := by
  rw [k0_part28_eq_skeleton]
  unfold k0_part28_skel
  exact keeps_pure _

/-- Part 29 keeps the operands. -/
theorem keeps_part29 {v1250 : IVec S16x512 32} {v1259 : IVec S16x512 32} {v1268 : IVec S16x512 32} {v1277 : IVec S16x512 32} {v1310 : IVec S16x512 32} {v1322 : IVec S16x512 32} {v1331 : IVec S16x512 32} {v1340 : IVec S16x512 32} {v1349 : IVec S16x512 32} {v1373 : IVec S16x512 32} {v1382 : IVec S16x512 32} {v1444 : IVec S16x512 32} {c8_i32_565 : BitVec 32} : Keeps c H (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1250 v1259 v1268 v1277 v1310 v1322 v1331 v1340 v1349 v1373 v1382 v1444 c8_i32_565) := by
  rw [k0_part29_eq_skeleton]
  unfold k0_part29_skel
  exact keeps_pure _

/-- Part 30 keeps the operands. -/
theorem keeps_part30 {v1286 : IVec S16x512 32} {v1295 : IVec S16x512 32} {v1304 : IVec S16x512 32} {v1313 : IVec S16x512 32} {v1349 : IVec S16x512 32} {v1358 : IVec S16x512 32} {v1367 : IVec S16x512 32} {v1376 : IVec S16x512 32} {v1385 : IVec S16x512 32} {v1391 : IVec S16x512 32} {v1427 : IVec S16x512 32} {v1489 : IVec S16x512 32} {c8_i32_580 : BitVec 32} : Keeps c H (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1286 v1295 v1304 v1313 v1349 v1358 v1367 v1376 v1385 v1391 v1427 v1489 c8_i32_580) := by
  rw [k0_part30_eq_skeleton]
  unfold k0_part30_skel
  exact keeps_pure _

/-- Part 31 keeps the operands. -/
theorem keeps_part31 {v1394 : IVec S16x512 32} {v1400 : IVec S16x512 32} {v1403 : IVec S16x512 32} {v1409 : IVec S16x512 32} {v1418 : IVec S16x512 32} {v1427 : IVec S16x512 32} {v1430 : IVec S16x512 32} {v1436 : IVec S16x512 32} {v1439 : IVec S16x512 32} {v1445 : IVec S16x512 32} {v1454 : IVec S16x512 32} {v1534 : IVec S16x512 32} {c4_i32_595 : BitVec 32} : Keeps c H (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1394 v1400 v1403 v1409 v1418 v1427 v1430 v1436 v1439 v1445 v1454 v1534 c4_i32_595) := by
  rw [k0_part31_eq_skeleton]
  unfold k0_part31_skel
  exact keeps_pure _

/-- Part 32 keeps the operands. -/
theorem keeps_part32 {v1412 : IVec S16x512 32} {v1421 : IVec S16x512 32} {v1439 : IVec S16x512 32} {v1448 : IVec S16x512 32} {v1457 : IVec S16x512 32} {v1463 : IVec S16x512 32} {v1472 : IVec S16x512 32} {v1481 : IVec S16x512 32} {v1499 : IVec S16x512 32} {v1508 : IVec S16x512 32} {v1517 : IVec S16x512 32} {v1579 : IVec S16x512 32} {c4_i32_610 : BitVec 32} : Keeps c H (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1412 v1421 v1439 v1448 v1457 v1463 v1472 v1481 v1499 v1508 v1517 v1579 c4_i32_610) := by
  rw [k0_part32_eq_skeleton]
  unfold k0_part32_skel
  exact keeps_pure _

/-- Part 33 keeps the operands. -/
theorem keeps_part33 {v1466 : IVec S16x512 32} {v1475 : IVec S16x512 32} {v1484 : IVec S16x512 32} {v1490 : IVec S16x512 32} {v1493 : IVec S16x512 32} {v1502 : IVec S16x512 32} {v1511 : IVec S16x512 32} {v1517 : IVec S16x512 32} {v1520 : IVec S16x512 32} {v1526 : IVec S16x512 32} {v1529 : IVec S16x512 32} {v1624 : IVec S16x512 32} {c4_i32_625 : BitVec 32} : Keeps c H (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1466 v1475 v1484 v1490 v1493 v1502 v1511 v1517 v1520 v1526 v1529 v1624 c4_i32_625) := by
  rw [k0_part33_eq_skeleton]
  unfold k0_part33_skel
  exact keeps_pure _

/-- Part 34 keeps the operands. -/
theorem keeps_part34 {v1529 : IVec S16x512 32} {v1535 : IVec S16x512 32} {v1538 : IVec S16x512 32} {v1544 : IVec S16x512 32} {v1547 : IVec S16x512 32} {v1553 : IVec S16x512 32} {v1556 : IVec S16x512 32} {v1562 : IVec S16x512 32} {v1565 : IVec S16x512 32} {v1571 : IVec S16x512 32} {v1589 : IVec S16x512 32} {v1669 : IVec S16x512 32} {c4_i32_640 : BitVec 32} : Keeps c H (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1529 v1535 v1538 v1544 v1547 v1553 v1556 v1562 v1565 v1571 v1589 v1669 c4_i32_640) := by
  rw [k0_part34_eq_skeleton]
  unfold k0_part34_skel
  exact keeps_pure _

/-- Part 35 keeps the operands. -/
theorem keeps_part35 {v1574 : IVec S16x512 32} {v1580 : IVec S16x512 32} {v1583 : IVec S16x512 32} {v1589 : IVec S16x512 32} {v1592 : IVec S16x512 32} {v1598 : IVec S16x512 32} {v1601 : IVec S16x512 32} {v1607 : IVec S16x512 32} {v1616 : IVec S16x512 32} {v1625 : IVec S16x512 32} {v1634 : IVec S16x512 32} {v1714 : IVec S16x512 32} {c2_i32_655 : BitVec 32} : Keeps c H (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1574 v1580 v1583 v1589 v1592 v1598 v1601 v1607 v1616 v1625 v1634 v1714 c2_i32_655) := by
  rw [k0_part35_eq_skeleton]
  unfold k0_part35_skel
  exact keeps_pure _

/-- Part 36 keeps the operands. -/
theorem keeps_part36 {v1610 : IVec S16x512 32} {v1619 : IVec S16x512 32} {v1628 : IVec S16x512 32} {v1634 : IVec S16x512 32} {v1637 : IVec S16x512 32} {v1643 : IVec S16x512 32} {v1646 : IVec S16x512 32} {v1652 : IVec S16x512 32} {v1661 : IVec S16x512 32} {v1664 : IVec S16x512 32} {v1670 : IVec S16x512 32} {v1759 : IVec S16x512 32} {c2_i32_670 : BitVec 32} : Keeps c H (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1610 v1619 v1628 v1634 v1637 v1643 v1646 v1652 v1661 v1664 v1670 v1759 c2_i32_670) := by
  rw [k0_part36_eq_skeleton]
  unfold k0_part36_skel
  exact keeps_pure _

/-- Part 37 keeps the operands. -/
theorem keeps_part37 {v1655 : IVec S16x512 32} {v1664 : IVec S16x512 32} {v1673 : IVec S16x512 32} {v1679 : IVec S16x512 32} {v1682 : IVec S16x512 32} {v1688 : IVec S16x512 32} {v1691 : IVec S16x512 32} {v1697 : IVec S16x512 32} {v1700 : IVec S16x512 32} {v1706 : IVec S16x512 32} {v1709 : IVec S16x512 32} {v1804 : IVec S16x512 32} {c2_i32_685 : BitVec 32} : Keeps c H (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1655 v1664 v1673 v1679 v1682 v1688 v1691 v1697 v1700 v1706 v1709 v1804 c2_i32_685) := by
  rw [k0_part37_eq_skeleton]
  unfold k0_part37_skel
  exact keeps_pure _

/-- Part 38 keeps the operands. -/
theorem keeps_part38 {v1709 : IVec S16x512 32} {v1715 : IVec S16x512 32} {v1718 : IVec S16x512 32} {v1724 : IVec S16x512 32} {v1727 : IVec S16x512 32} {v1733 : IVec S16x512 32} {v1736 : IVec S16x512 32} {v1742 : IVec S16x512 32} {v1745 : IVec S16x512 32} {v1751 : IVec S16x512 32} {v1760 : IVec S16x512 32} {v1849 : IVec S16x512 32} {c1_i32_700 : BitVec 32} : Keeps c H (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1709 v1715 v1718 v1724 v1727 v1733 v1736 v1742 v1745 v1751 v1760 v1849 c1_i32_700) := by
  rw [k0_part38_eq_skeleton]
  unfold k0_part38_skel
  exact keeps_pure _

/-- Part 39 keeps the operands. -/
theorem keeps_part39 {v1754 : IVec S16x512 32} {v1760 : IVec S16x512 32} {v1763 : IVec S16x512 32} {v1769 : IVec S16x512 32} {v1772 : IVec S16x512 32} {v1778 : IVec S16x512 32} {v1781 : IVec S16x512 32} {v1787 : IVec S16x512 32} {v1790 : IVec S16x512 32} {v1796 : IVec S16x512 32} {v1799 : IVec S16x512 32} {v1894 : IVec S16x512 32} {c1_i32_715 : BitVec 32} : Keeps c H (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1754 v1760 v1763 v1769 v1772 v1778 v1781 v1787 v1790 v1796 v1799 v1894 c1_i32_715) := by
  rw [k0_part39_eq_skeleton]
  unfold k0_part39_skel
  exact keeps_pure _

/-- Part 40 keeps the operands. -/
theorem keeps_part40 {k0_t2 : Fin (k0_t2_loop i).trips} {arg17 : BitVec 32} {v1799 : IVec S16x512 32} {v1805 : IVec S16x512 32} {v1808 : IVec S16x512 32} {v1814 : IVec S16x512 32} {v1817 : IVec S16x512 32} {v1823 : IVec S16x512 32} {v1826 : IVec S16x512 32} {v1832 : IVec S16x512 32} {v1835 : IVec S16x512 32} {v1939 : IVec S16x512 32} {c1_i32_730 : BitVec 32} : Keeps c H (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t2 arg17 v1799 v1805 v1808 v1814 v1817 v1823 v1826 v1832 v1835 v1939 c1_i32_730) := by
  rw [k0_part40_eq_skeleton]
  unfold k0_part40_skel
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  exact keeps_pure _

/-- Part 41 keeps the operands. -/
theorem keeps_part41 {k0_t2 : Fin (k0_t2_loop i).trips} {arg17 : BitVec 32} {v1841 : IVec S16x512 32} {v1844 : IVec S16x512 32} {v1850 : IVec S16x512 32} {v1853 : IVec S16x512 32} {v1859 : IVec S16x512 32} {v1862 : IVec S16x512 32} {v1868 : IVec S16x512 32} : Keeps c H (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t2 arg17 v1841 v1844 v1850 v1853 v1859 v1862 v1868) := by
  rw [k0_part41_eq_skeleton]
  unfold k0_part41_skel
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  exact keeps_pure _

/-- Part 42 keeps the operands. -/
theorem keeps_part42 {k0_t2 : Fin (k0_t2_loop i).trips} {arg17 : BitVec 32} {v1871 : IVec S16x512 32} {v1877 : IVec S16x512 32} {v1880 : IVec S16x512 32} {v1886 : IVec S16x512 32} {v1889 : IVec S16x512 32} {v1895 : IVec S16x512 32} {v1898 : IVec S16x512 32} {v1904 : IVec S16x512 32} {v2007 : Vec F S1x1x16x512 .i32} : Keeps c H (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t2 arg17 v1871 v1877 v1880 v1886 v1889 v1895 v1898 v1904 v2007) := by
  rw [k0_part42_eq_skeleton]
  unfold k0_part42_skel
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  exact keeps_pure _

/-- Part 43 keeps the operands. -/
theorem keeps_part43 {k0_t2 : Fin (k0_t2_loop i).trips} {arg17 : BitVec 32} {v1907 : IVec S16x512 32} {v1913 : IVec S16x512 32} {v1916 : IVec S16x512 32} {v1922 : IVec S16x512 32} {v1925 : IVec S16x512 32} {v1931 : IVec S16x512 32} {v1934 : IVec S16x512 32} : Keeps c H (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t2 arg17 v1907 v1913 v1916 v1922 v1925 v1931 v1934) := by
  rw [k0_part43_eq_skeleton]
  unfold k0_part43_skel
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  exact keeps_pure _

/-- Part 44 keeps the operands. -/
theorem keeps_part44 {k0_t2 : Fin (k0_t2_loop i).trips} {arg17 : BitVec 32} {v1940 : IVec S16x512 32} {v1943 : IVec S16x512 32} {v1949 : IVec S16x512 32} {v1952 : IVec S16x512 32} {v1958 : IVec S16x512 32} {v1961 : IVec S16x512 32} {v2067 : Vec F S1x1x16x512 .i32} : Keeps c H (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t2 arg17 v1940 v1943 v1949 v1952 v1958 v1961 v2067) := by
  rw [k0_part44_eq_skeleton]
  unfold k0_part44_skel
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w10.reads) fun _ => ?_
  refine keeps_bind (keeps_store h.w10) fun _ => ?_
  refine keeps_bind (keeps_load h.w11.reads) fun _ => ?_
  exact keeps_pure _

/-- A trip of loop 2 keeps the operands. -/
theorem keeps_t2 {v18 : BitVec 32} {v27 : FVec F S8x512 .f32} {v28 : FVec F S64x512 .bf16} {v31 : FVec F S128x512 .bf16} {v34 : FVec F S128x512 .bf16} {v35 : Vec F S1x64x512 .bf16} {v38 : Vec F S1x64x512 .bf16} {v46 : BitVec 32} : ∀ k acc, Keeps c H (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v27 v28 v31 v34 v35 v38 v46 k acc) := by
  intro k acc
  unfold k0_t2_body
  refine keeps_bind (keeps_part23 h) fun _ => ?_
  refine keeps_bind (keeps_part24 h) fun _ => ?_
  refine keeps_bind (keeps_part25 h) fun _ => ?_
  refine keeps_bind (keeps_part26 h) fun _ => ?_
  refine keeps_bind (keeps_part27 h) fun _ => ?_
  refine keeps_bind (keeps_part28 h) fun _ => ?_
  refine keeps_bind (keeps_part29 h) fun _ => ?_
  refine keeps_bind (keeps_part30 h) fun _ => ?_
  refine keeps_bind (keeps_part31 h) fun _ => ?_
  refine keeps_bind (keeps_part32 h) fun _ => ?_
  refine keeps_bind (keeps_part33 h) fun _ => ?_
  refine keeps_bind (keeps_part34 h) fun _ => ?_
  refine keeps_bind (keeps_part35 h) fun _ => ?_
  refine keeps_bind (keeps_part36 h) fun _ => ?_
  refine keeps_bind (keeps_part37 h) fun _ => ?_
  refine keeps_bind (keeps_part38 h) fun _ => ?_
  refine keeps_bind (keeps_part39 h) fun _ => ?_
  refine keeps_bind (keeps_part40 h) fun _ => ?_
  refine keeps_bind (keeps_part41 h) fun _ => ?_
  refine keeps_bind (keeps_part42 h) fun _ => ?_
  refine keeps_bind (keeps_part43 h) fun _ => ?_
  refine keeps_bind (keeps_part44 h) fun _ => ?_
  refine keeps_bind (keeps_store h.w11) fun _ => ?_
  exact keeps_pure _

end Cert.Dsa.Run

end
-- ==== Proof.DsaPartsC.lean ====
/- The sparse attention call's body keeps its operands: the attention over the selected keys. -/
module

public import proofs.«01_k».proof.Proof.DsaParts

@[expose] public section

set_option maxRecDepth 65536

noncomputable section

namespace Cert.Dsa.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Dsa Cert.Dsa.Gen

variable {F : FTy → Type} [BitOps F]
variable {c : Dev nD} {H : Asn F} {i : grid0.Coords}
variable {arg2 : Memref sig .tc .vmem S1x512x512 .bf16} {harg2 : arg2.IsWhole} {arg3 : Memref sig .tc .vmem S1x256x512 .bf16} {harg3 : arg3.IsWhole} {arg4 : Memref sig .tc .vmem S1x8x512 .f32} {harg4 : arg4.IsWhole} {arg5 : Memref sig .tc .vmem S1x8192x512 .bf16} {harg5 : arg5.IsWhole} {arg6 : Memref sig .tc .vmem S1x16x512x512 .bf16} {harg6 : arg6.IsWhole} {arg7 : Memref sig .tc .vmem S1x8192x128 .bf16} {harg7 : arg7.IsWhole} {arg8 : Memref sig .tc .vmem S1x512x512 .bf16} {harg8 : arg8.IsWhole} {arg9 : Memref sig .tc .vmem S16x32x16x512 .i32} {harg9 : arg9.IsWhole} {arg10 : Memref sig .tc .vmem S16x16x512 .i32} {harg10 : arg10.IsWhole} {arg11 : Memref sig .tc .vmem S16x16x512 .i32} {harg11 : arg11.IsWhole} {arg12 : Memref sig .tc .vmem S512x512 .f32} {harg12 : arg12.IsWhole} {arg13 : Memref sig .tc .vmem S8x128x512 .bf16} {harg13 : arg13.IsWhole} {arg14 : Memref sig .tc .vmem S8x512 .f32} {harg14 : arg14.IsWhole} {arg15 : Memref sig .tc .vmem S8x512 .f32} {harg15 : arg15.IsWhole} {arg16 : Memref sig .tc .vmem S256x256 .bf16} {harg16 : arg16.IsWhole}

variable (h : Held c H arg2 arg3 arg4 arg5 arg6 arg7 arg8 arg9 arg10 arg11 arg12 arg13 arg14 arg15 arg16)

include h

/-- Part 45 keeps the operands. -/
theorem keeps_part45 {c0_i32_426 : BitVec 32} {c1_i32_428 : BitVec 32} {k0_t10 : Fin (k0_t10_loop i).trips} : Keeps c H (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 c0_i32_426 c1_i32_428 k0_t10) := by
  rw [k0_part45_eq_skeleton]
  unfold k0_part45_skel
  refine keeps_bind (keeps_load h.w11.reads) fun _ => ?_
  refine keeps_bind (keeps_load h.w10.reads) fun _ => ?_
  exact keeps_pure _

/-- Part 46 keeps the operands. -/
theorem keeps_part46 {v1172 : IVec S16x512 32} {v1175 : IVec S16x512 32} {v1205 : IVec S16x512 32} {v1206 : IVec S16x512 32} : Keeps c H (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1205 v1206) := by
  rw [k0_part46_eq_skeleton]
  unfold k0_part46_skel
  exact keeps_pure _

/-- Part 47 keeps the operands. -/
theorem keeps_part47 {v1172 : IVec S16x512 32} {v1175 : IVec S16x512 32} {v1242 : IVec S16x512 1} {v1243 : FVec F S16x512 .f32} {v1244 : FVec F S16x512 .f32} : Keeps c H (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1242 v1243 v1244) := by
  rw [k0_part47_eq_skeleton]
  unfold k0_part47_skel
  exact keeps_pure _

/-- Part 48 keeps the operands. -/
theorem keeps_part48 {v1172 : IVec S16x512 32} {v1175 : IVec S16x512 32} {v1282 : IVec S16x512 32} {c0_i32_541 : BitVec 32} : Keeps c H (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1282 c0_i32_541) := by
  rw [k0_part48_eq_skeleton]
  unfold k0_part48_skel
  exact keeps_pure _

/-- Part 49 keeps the operands. -/
theorem keeps_part49 {v1172 : IVec S16x512 32} {v1175 : IVec S16x512 32} {v1319 : IVec S16x512 1} {cst_560 : F .f32} {v1320 : FVec F S16x512 .f32} : Keeps c H (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1319 cst_560 v1320) := by
  rw [k0_part49_eq_skeleton]
  unfold k0_part49_skel
  exact keeps_pure _

/-- Part 50 keeps the operands. -/
theorem keeps_part50 {v1172 : IVec S16x512 32} {v1175 : IVec S16x512 32} {v1359 : IVec S16x512 32} : Keeps c H (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1359) := by
  rw [k0_part50_eq_skeleton]
  unfold k0_part50_skel
  exact keeps_pure _

/-- Part 51 keeps the operands. -/
theorem keeps_part51 {v1172 : IVec S16x512 32} {v1175 : IVec S16x512 32} {v1396 : IVec S16x512 1} {cst_598 : F .f32} {cst_599 : F .f32} : Keeps c H (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1396 cst_598 cst_599) := by
  rw [k0_part51_eq_skeleton]
  unfold k0_part51_skel
  exact keeps_pure _

/-- Part 52 keeps the operands. -/
theorem keeps_part52 {v1172 : IVec S16x512 32} {v1175 : IVec S16x512 32} {v1435 : IVec S16x512 32} : Keeps c H (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1435) := by
  rw [k0_part52_eq_skeleton]
  unfold k0_part52_skel
  exact keeps_pure _

/-- Part 53 keeps the operands. -/
theorem keeps_part53 {v1172 : IVec S16x512 32} {v1175 : IVec S16x512 32} {v1473 : IVec S16x512 1} {cst_636 : F .f32} : Keeps c H (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1473 cst_636) := by
  rw [k0_part53_eq_skeleton]
  unfold k0_part53_skel
  exact keeps_pure _

/-- Part 54 keeps the operands. -/
theorem keeps_part54 {v1172 : IVec S16x512 32} {v1175 : IVec S16x512 32} {c128_i32 : BitVec 32} : Keeps c H (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 c128_i32) := by
  rw [k0_part54_eq_skeleton]
  unfold k0_part54_skel
  exact keeps_pure _

/-- Part 55 keeps the operands. -/
theorem keeps_part55 {v1172 : IVec S16x512 32} {v1175 : IVec S16x512 32} {v1550 : IVec S16x512 1} : Keeps c H (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1550) := by
  rw [k0_part55_eq_skeleton]
  unfold k0_part55_skel
  exact keeps_pure _

/-- Part 56 keeps the operands. -/
theorem keeps_part56 {v1172 : IVec S16x512 32} {v1175 : IVec S16x512 32} {v1189 : FVec F S16x512 .f32} {v1203 : FVec F S16x512 .f32} {v1217 : FVec F S16x512 .f32} {v1231 : FVec F S16x512 .f32} {v1245 : FVec F S16x512 .f32} {v1259 : FVec F S16x512 .f32} {v1273 : FVec F S16x512 .f32} {v1287 : FVec F S16x512 .f32} {v1301 : FVec F S16x512 .f32} {v1315 : FVec F S16x512 .f32} {v1329 : FVec F S16x512 .f32} {v1343 : FVec F S16x512 .f32} {v1357 : FVec F S16x512 .f32} {v1371 : FVec F S16x512 .f32} {v1385 : FVec F S16x512 .f32} {v1399 : FVec F S16x512 .f32} {v1413 : FVec F S16x512 .f32} {v1427 : FVec F S16x512 .f32} {v1441 : FVec F S16x512 .f32} {v1455 : FVec F S16x512 .f32} {v1469 : FVec F S16x512 .f32} {v1483 : FVec F S16x512 .f32} {v1497 : FVec F S16x512 .f32} {v1511 : FVec F S16x512 .f32} {v1525 : FVec F S16x512 .f32} {v1539 : FVec F S16x512 .f32} {v1553 : FVec F S16x512 .f32} {v1567 : FVec F S16x512 .f32} {v1581 : FVec F S16x512 .f32} : Keeps c H (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1189 v1203 v1217 v1231 v1245 v1259 v1273 v1287 v1301 v1315 v1329 v1343 v1357 v1371 v1385 v1399 v1413 v1427 v1441 v1455 v1469 v1483 v1497 v1511 v1525 v1539 v1553 v1567 v1581) := by
  rw [k0_part56_eq_skeleton]
  unfold k0_part56_skel
  refine keeps_bind (keeps_load h.w16.reads) fun _ => ?_
  exact keeps_pure _

/-- Part 57 keeps the operands. -/
theorem keeps_part57 {v1027 : FVec F S1x512 .f32} {k0_t10 : Fin (k0_t10_loop i).trips} {arg18 : FVec F S1x512 .f32} {arg17 : BitVec 32} {v1182 : FVec F S16x512 .f32} {v1196 : FVec F S16x512 .f32} {v1210 : FVec F S16x512 .f32} {v1224 : FVec F S16x512 .f32} {v1238 : FVec F S16x512 .f32} {v1252 : FVec F S16x512 .f32} {v1266 : FVec F S16x512 .f32} {v1280 : FVec F S16x512 .f32} {v1294 : FVec F S16x512 .f32} {v1308 : FVec F S16x512 .f32} {v1322 : FVec F S16x512 .f32} {v1336 : FVec F S16x512 .f32} {v1350 : FVec F S16x512 .f32} {v1364 : FVec F S16x512 .f32} {v1378 : FVec F S16x512 .f32} {v1392 : FVec F S16x512 .f32} {v1406 : FVec F S16x512 .f32} {v1420 : FVec F S16x512 .f32} {v1434 : FVec F S16x512 .f32} {v1448 : FVec F S16x512 .f32} {v1462 : FVec F S16x512 .f32} {v1476 : FVec F S16x512 .f32} {v1490 : FVec F S16x512 .f32} {v1504 : FVec F S16x512 .f32} {v1518 : FVec F S16x512 .f32} {v1532 : FVec F S16x512 .f32} {v1546 : FVec F S16x512 .f32} {v1560 : FVec F S16x512 .f32} {v1574 : FVec F S16x512 .f32} {v1588 : FVec F S16x512 .f32} {v1602 : FVec F S16x512 .f32} {v1616 : FVec F S16x512 .f32} {v1624 : FVec F S512x512 .f32} {v1625 : FVec F S512x512 .bf16} {v1626 : Vec F S256x256 .bf16} : Keeps c H (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1027 k0_t10 arg18 arg17 v1182 v1196 v1210 v1224 v1238 v1252 v1266 v1280 v1294 v1308 v1322 v1336 v1350 v1364 v1378 v1392 v1406 v1420 v1434 v1448 v1462 v1476 v1490 v1504 v1518 v1532 v1546 v1560 v1574 v1588 v1602 v1616 v1624 v1625 v1626) := by
  rw [k0_part57_eq_skeleton]
  unfold k0_part57_skel
  refine keeps_bind (keeps_load h.w16.reads) fun _ => ?_
  refine keeps_bind (keeps_load h.w14.reads) fun _ => ?_
  refine keeps_bind (keeps_load h.w15.reads) fun _ => ?_
  refine keeps_bind (keeps_load h.r5) fun _ => ?_
  refine keeps_bind (keeps_load h.w13.reads) fun _ => ?_
  refine keeps_bind (keeps_load h.r5) fun _ => ?_
  refine keeps_bind (keeps_load h.w13.reads) fun _ => ?_
  exact keeps_pure _

/-- Part 58 keeps the operands. -/
theorem keeps_part58 {k0_t10 : Fin (k0_t10_loop i).trips} {v1645 : FVec F S512x512 .f32} {v1647 : BitVec 32} {v1662 : FVec F S512x512 .f32} : Keeps c H (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t10 v1645 v1647 v1662) := by
  rw [k0_part58_eq_skeleton]
  unfold k0_part58_skel
  refine keeps_bind (keeps_load h.r5) fun _ => ?_
  refine keeps_bind (keeps_load h.w13.reads) fun _ => ?_
  refine keeps_bind (keeps_load h.r5) fun _ => ?_
  refine keeps_bind (keeps_load h.w13.reads) fun _ => ?_
  refine keeps_bind (keeps_load h.r5) fun _ => ?_
  refine keeps_bind (keeps_load h.w13.reads) fun _ => ?_
  refine keeps_bind (keeps_load h.r5) fun _ => ?_
  refine keeps_bind (keeps_load h.w13.reads) fun _ => ?_
  refine keeps_bind (keeps_load h.r5) fun _ => ?_
  exact keeps_pure _

/-- Part 59 keeps the operands. -/
theorem keeps_part59 {k0_t10 : Fin (k0_t10_loop i).trips} {v1645 : FVec F S512x512 .f32} {v1647 : BitVec 32} {v1648 : Vec F S8x512 .f32} {v1656 : FVec F S512x512 .f32} {v1663 : FVec F S512x512 .f32} {v1670 : FVec F S512x512 .f32} {v1677 : FVec F S512x512 .f32} {v1694 : FVec F S512x128 .bf16} : Keeps c H (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t10 v1645 v1647 v1648 v1656 v1663 v1670 v1677 v1694) := by
  rw [k0_part59_eq_skeleton]
  unfold k0_part59_skel
  refine keeps_bind (keeps_load h.w13.reads) fun _ => ?_
  refine keeps_bind (keeps_load h.r5) fun _ => ?_
  refine keeps_bind (keeps_load h.w13.reads) fun _ => ?_
  exact keeps_pure _

/-- Part 60 keeps the operands. -/
theorem keeps_part60 {v1099 : FVec F S16x512 .bf16} {k0_t10 : Fin (k0_t10_loop i).trips} {arg17 : BitVec 32} {v1648 : Vec F S8x512 .f32} {v1684 : FVec F S512x512 .f32} {v1691 : FVec F S512x512 .f32} {v1698 : FVec F S512x512 .f32} {v1705 : FVec F S512x512 .f32} {v1713 : FVec F S512x512 .bf16} {v1736 : FVec F S1x512 .f32} {v1739 : FVec F S1x512 .f32} {v1742 : FVec F S512x512 .f32} : Keeps c H (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1099 k0_t10 arg17 v1648 v1684 v1691 v1698 v1705 v1713 v1736 v1739 v1742) := by
  rw [k0_part60_eq_skeleton]
  unfold k0_part60_skel
  refine keeps_bind (keeps_load h.r6) fun _ => ?_
  exact keeps_pure _

/-- Part 61 keeps the operands. -/
theorem keeps_part61 {v1099 : FVec F S16x512 .bf16} {k0_t10 : Fin (k0_t10_loop i).trips} {arg17 : BitVec 32} {v1715 : FVec F S1x512 .f32} {v1723 : FVec F S512x512 .bf16} {v1733 : FVec F S512x512 .bf16} {v1743 : FVec F S512x512 .bf16} {v1753 : FVec F S512x512 .bf16} {v1763 : FVec F S512x512 .bf16} {v1773 : FVec F S512x512 .bf16} {v1783 : FVec F S512x512 .bf16} : Keeps c H (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1099 k0_t10 arg17 v1715 v1723 v1733 v1743 v1753 v1763 v1773 v1783) := by
  rw [k0_part61_eq_skeleton]
  unfold k0_part61_skel
  refine keeps_bind (keeps_load h.r6) fun _ => ?_
  refine keeps_bind (keeps_load h.r6) fun _ => ?_
  refine keeps_bind (keeps_load h.r6) fun _ => ?_
  refine keeps_bind (keeps_load h.r6) fun _ => ?_
  refine keeps_bind (keeps_load h.r6) fun _ => ?_
  refine keeps_bind (keeps_load h.r6) fun _ => ?_
  refine keeps_bind (keeps_load h.r6) fun _ => ?_
  exact keeps_pure _

/-- Part 62 keeps the operands. -/
theorem keeps_part62 {v1649 : Vec F S8x512 .f32} {v1709 : FVec F S1x512 .f32} {v1715 : FVec F S1x512 .f32} {v1719 : FVec F S1x512 .f32} {v1725 : FVec F S1x512 .f32} {v1729 : FVec F S1x512 .f32} {v1735 : FVec F S1x512 .f32} {v1739 : FVec F S1x512 .f32} {v1745 : FVec F S1x512 .f32} {v1749 : FVec F S1x512 .f32} {v1755 : FVec F S1x512 .f32} {v1759 : FVec F S1x512 .f32} {v1765 : FVec F S1x512 .f32} {v1769 : FVec F S1x512 .f32} {v1775 : FVec F S1x512 .f32} {v1779 : FVec F S1x512 .f32} {v1785 : FVec F S1x512 .f32} {v1790 : FVec F S80x512 .f32} {v1795 : FVec F S80x512 .f32} {v1800 : FVec F S80x512 .f32} {v1805 : FVec F S80x512 .f32} {v1810 : FVec F S80x512 .f32} {v1815 : FVec F S80x512 .f32} {v1820 : FVec F S80x512 .f32} {v1825 : FVec F S80x512 .f32} {v1826 : FVec F S1x512 .f32} : Keeps c H (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1649 v1709 v1715 v1719 v1725 v1729 v1735 v1739 v1745 v1749 v1755 v1759 v1765 v1769 v1775 v1779 v1785 v1790 v1795 v1800 v1805 v1810 v1815 v1820 v1825 v1826) := by
  rw [k0_part62_eq_skeleton]
  unfold k0_part62_skel
  refine keeps_bind (keeps_load h.w12.reads) fun _ => ?_
  refine keeps_bind (keeps_load h.w12.reads) fun _ => ?_
  refine keeps_bind (keeps_store h.w12) fun _ => ?_
  refine keeps_bind (keeps_load h.w14.reads) fun _ => ?_
  refine keeps_bind (keeps_store h.w14) fun _ => ?_
  refine keeps_bind (keeps_load h.w15.reads) fun _ => ?_
  exact keeps_pure _

/-- A trip of loop 10 keeps the operands. -/
theorem keeps_t10 {v18 : BitVec 32} {v1027 : FVec F S1x512 .f32} {v1091 : FVec F S8x512 .f32} : ∀ k acc, Keeps c H (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v1027 v1091 k acc) := by
  intro k acc
  unfold k0_t10_body
  refine keeps_bind (keeps_part45 h) fun _ => ?_
  refine keeps_bind (keeps_part46 h) fun _ => ?_
  refine keeps_bind (keeps_part47 h) fun _ => ?_
  refine keeps_bind (keeps_part48 h) fun _ => ?_
  refine keeps_bind (keeps_part49 h) fun _ => ?_
  refine keeps_bind (keeps_part50 h) fun _ => ?_
  refine keeps_bind (keeps_part51 h) fun _ => ?_
  refine keeps_bind (keeps_part52 h) fun _ => ?_
  refine keeps_bind (keeps_part53 h) fun _ => ?_
  refine keeps_bind (keeps_part54 h) fun _ => ?_
  refine keeps_bind (keeps_part55 h) fun _ => ?_
  refine keeps_bind (keeps_part56 h) fun _ => ?_
  refine keeps_bind (keeps_part57 h) fun _ => ?_
  refine keeps_bind (keeps_part58 h) fun _ => ?_
  refine keeps_bind (keeps_part59 h) fun _ => ?_
  refine keeps_bind (keeps_part60 h) fun _ => ?_
  refine keeps_bind (keeps_part61 h) fun _ => ?_
  refine keeps_bind (keeps_part62 h) fun _ => ?_
  refine keeps_bind (keeps_store h.w15) fun _ => ?_
  exact keeps_pure _

/-- Part 63 keeps the operands. -/
theorem keeps_part63 {v1105 : BitVec 32} {c1_i32_429 : BitVec 32} {k0_t11 : Fin (k0_t11_loop i).trips} : Keeps c H (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1105 c1_i32_429 k0_t11) := by
  rw [k0_part63_eq_skeleton]
  unfold k0_part63_skel
  refine keeps_bind (keeps_load h.w11.reads) fun _ => ?_
  refine keeps_bind (keeps_load h.w10.reads) fun _ => ?_
  exact keeps_pure _

/-- Part 64 keeps the operands. -/
theorem keeps_part64 {v1172 : IVec S16x512 32} {v1175 : IVec S16x512 32} {v1205 : IVec S16x512 32} {v1206 : IVec S16x512 32} : Keeps c H (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1205 v1206) := by
  rw [k0_part64_eq_skeleton]
  unfold k0_part64_skel
  exact keeps_pure _

/-- Part 65 keeps the operands. -/
theorem keeps_part65 {v1172 : IVec S16x512 32} {v1175 : IVec S16x512 32} {v1242 : IVec S16x512 1} {v1243 : FVec F S16x512 .f32} {v1244 : FVec F S16x512 .f32} : Keeps c H (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1242 v1243 v1244) := by
  rw [k0_part65_eq_skeleton]
  unfold k0_part65_skel
  exact keeps_pure _

/-- Part 66 keeps the operands. -/
theorem keeps_part66 {v1172 : IVec S16x512 32} {v1175 : IVec S16x512 32} {v1282 : IVec S16x512 32} {c0_i32_541 : BitVec 32} : Keeps c H (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1282 c0_i32_541) := by
  rw [k0_part66_eq_skeleton]
  unfold k0_part66_skel
  exact keeps_pure _

/-- Part 67 keeps the operands. -/
theorem keeps_part67 {v1172 : IVec S16x512 32} {v1175 : IVec S16x512 32} {v1319 : IVec S16x512 1} {cst_560 : F .f32} {v1320 : FVec F S16x512 .f32} : Keeps c H (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1319 cst_560 v1320) := by
  rw [k0_part67_eq_skeleton]
  unfold k0_part67_skel
  exact keeps_pure _

/-- Part 68 keeps the operands. -/
theorem keeps_part68 {v1172 : IVec S16x512 32} {v1175 : IVec S16x512 32} {v1359 : IVec S16x512 32} : Keeps c H (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1359) := by
  rw [k0_part68_eq_skeleton]
  unfold k0_part68_skel
  exact keeps_pure _

/-- Part 69 keeps the operands. -/
theorem keeps_part69 {v1172 : IVec S16x512 32} {v1175 : IVec S16x512 32} {v1396 : IVec S16x512 1} {cst_598 : F .f32} {cst_599 : F .f32} : Keeps c H (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1396 cst_598 cst_599) := by
  rw [k0_part69_eq_skeleton]
  unfold k0_part69_skel
  exact keeps_pure _

/-- Part 70 keeps the operands. -/
theorem keeps_part70 {v1172 : IVec S16x512 32} {v1175 : IVec S16x512 32} {v1435 : IVec S16x512 32} : Keeps c H (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1435) := by
  rw [k0_part70_eq_skeleton]
  unfold k0_part70_skel
  exact keeps_pure _

/-- Part 71 keeps the operands. -/
theorem keeps_part71 {v1172 : IVec S16x512 32} {v1175 : IVec S16x512 32} {v1473 : IVec S16x512 1} {cst_636 : F .f32} : Keeps c H (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1473 cst_636) := by
  rw [k0_part71_eq_skeleton]
  unfold k0_part71_skel
  exact keeps_pure _

/-- Part 72 keeps the operands. -/
theorem keeps_part72 {v1172 : IVec S16x512 32} {v1175 : IVec S16x512 32} {c128_i32 : BitVec 32} : Keeps c H (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 c128_i32) := by
  rw [k0_part72_eq_skeleton]
  unfold k0_part72_skel
  exact keeps_pure _

/-- Part 73 keeps the operands. -/
theorem keeps_part73 {v1172 : IVec S16x512 32} {v1175 : IVec S16x512 32} {v1550 : IVec S16x512 1} : Keeps c H (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1550) := by
  rw [k0_part73_eq_skeleton]
  unfold k0_part73_skel
  exact keeps_pure _

/-- Part 74 keeps the operands. -/
theorem keeps_part74 {v1172 : IVec S16x512 32} {v1175 : IVec S16x512 32} {v1189 : FVec F S16x512 .f32} {v1203 : FVec F S16x512 .f32} {v1217 : FVec F S16x512 .f32} {v1231 : FVec F S16x512 .f32} {v1245 : FVec F S16x512 .f32} {v1259 : FVec F S16x512 .f32} {v1273 : FVec F S16x512 .f32} {v1287 : FVec F S16x512 .f32} {v1301 : FVec F S16x512 .f32} {v1315 : FVec F S16x512 .f32} {v1329 : FVec F S16x512 .f32} {v1343 : FVec F S16x512 .f32} {v1357 : FVec F S16x512 .f32} {v1371 : FVec F S16x512 .f32} {v1385 : FVec F S16x512 .f32} {v1399 : FVec F S16x512 .f32} {v1413 : FVec F S16x512 .f32} {v1427 : FVec F S16x512 .f32} {v1441 : FVec F S16x512 .f32} {v1455 : FVec F S16x512 .f32} {v1469 : FVec F S16x512 .f32} {v1483 : FVec F S16x512 .f32} {v1497 : FVec F S16x512 .f32} {v1511 : FVec F S16x512 .f32} {v1525 : FVec F S16x512 .f32} {v1539 : FVec F S16x512 .f32} {v1553 : FVec F S16x512 .f32} {v1567 : FVec F S16x512 .f32} {v1581 : FVec F S16x512 .f32} : Keeps c H (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1172 v1175 v1189 v1203 v1217 v1231 v1245 v1259 v1273 v1287 v1301 v1315 v1329 v1343 v1357 v1371 v1385 v1399 v1413 v1427 v1441 v1455 v1469 v1483 v1497 v1511 v1525 v1539 v1553 v1567 v1581) := by
  rw [k0_part74_eq_skeleton]
  unfold k0_part74_skel
  refine keeps_bind (keeps_load h.w16.reads) fun _ => ?_
  exact keeps_pure _

/-- Part 75 keeps the operands. -/
theorem keeps_part75 {v1027 : FVec F S1x512 .f32} {k0_t11 : Fin (k0_t11_loop i).trips} {arg18 : FVec F S1x512 .f32} {arg17 : BitVec 32} {v1182 : FVec F S16x512 .f32} {v1196 : FVec F S16x512 .f32} {v1210 : FVec F S16x512 .f32} {v1224 : FVec F S16x512 .f32} {v1238 : FVec F S16x512 .f32} {v1252 : FVec F S16x512 .f32} {v1266 : FVec F S16x512 .f32} {v1280 : FVec F S16x512 .f32} {v1294 : FVec F S16x512 .f32} {v1308 : FVec F S16x512 .f32} {v1322 : FVec F S16x512 .f32} {v1336 : FVec F S16x512 .f32} {v1350 : FVec F S16x512 .f32} {v1364 : FVec F S16x512 .f32} {v1378 : FVec F S16x512 .f32} {v1392 : FVec F S16x512 .f32} {v1406 : FVec F S16x512 .f32} {v1420 : FVec F S16x512 .f32} {v1434 : FVec F S16x512 .f32} {v1448 : FVec F S16x512 .f32} {v1462 : FVec F S16x512 .f32} {v1476 : FVec F S16x512 .f32} {v1490 : FVec F S16x512 .f32} {v1504 : FVec F S16x512 .f32} {v1518 : FVec F S16x512 .f32} {v1532 : FVec F S16x512 .f32} {v1546 : FVec F S16x512 .f32} {v1560 : FVec F S16x512 .f32} {v1574 : FVec F S16x512 .f32} {v1588 : FVec F S16x512 .f32} {v1602 : FVec F S16x512 .f32} {v1616 : FVec F S16x512 .f32} {v1624 : FVec F S512x512 .f32} {v1625 : FVec F S512x512 .bf16} {v1626 : Vec F S256x256 .bf16} : Keeps c H (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1027 k0_t11 arg18 arg17 v1182 v1196 v1210 v1224 v1238 v1252 v1266 v1280 v1294 v1308 v1322 v1336 v1350 v1364 v1378 v1392 v1406 v1420 v1434 v1448 v1462 v1476 v1490 v1504 v1518 v1532 v1546 v1560 v1574 v1588 v1602 v1616 v1624 v1625 v1626) := by
  rw [k0_part75_eq_skeleton]
  unfold k0_part75_skel
  refine keeps_bind (keeps_load h.w16.reads) fun _ => ?_
  refine keeps_bind (keeps_load h.w14.reads) fun _ => ?_
  refine keeps_bind (keeps_load h.w15.reads) fun _ => ?_
  refine keeps_bind (keeps_load h.r5) fun _ => ?_
  refine keeps_bind (keeps_load h.w13.reads) fun _ => ?_
  refine keeps_bind (keeps_load h.r5) fun _ => ?_
  refine keeps_bind (keeps_load h.w13.reads) fun _ => ?_
  exact keeps_pure _

/-- Part 76 keeps the operands. -/
theorem keeps_part76 {k0_t11 : Fin (k0_t11_loop i).trips} {v1645 : FVec F S512x512 .f32} {v1647 : BitVec 32} {v1662 : FVec F S512x512 .f32} : Keeps c H (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t11 v1645 v1647 v1662) := by
  rw [k0_part76_eq_skeleton]
  unfold k0_part76_skel
  refine keeps_bind (keeps_load h.r5) fun _ => ?_
  refine keeps_bind (keeps_load h.w13.reads) fun _ => ?_
  refine keeps_bind (keeps_load h.r5) fun _ => ?_
  refine keeps_bind (keeps_load h.w13.reads) fun _ => ?_
  refine keeps_bind (keeps_load h.r5) fun _ => ?_
  refine keeps_bind (keeps_load h.w13.reads) fun _ => ?_
  refine keeps_bind (keeps_load h.r5) fun _ => ?_
  refine keeps_bind (keeps_load h.w13.reads) fun _ => ?_
  refine keeps_bind (keeps_load h.r5) fun _ => ?_
  exact keeps_pure _

/-- Part 77 keeps the operands. -/
theorem keeps_part77 {k0_t11 : Fin (k0_t11_loop i).trips} {v1645 : FVec F S512x512 .f32} {v1647 : BitVec 32} {v1648 : Vec F S8x512 .f32} {v1656 : FVec F S512x512 .f32} {v1663 : FVec F S512x512 .f32} {v1670 : FVec F S512x512 .f32} {v1677 : FVec F S512x512 .f32} {v1694 : FVec F S512x128 .bf16} : Keeps c H (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t11 v1645 v1647 v1648 v1656 v1663 v1670 v1677 v1694) := by
  rw [k0_part77_eq_skeleton]
  unfold k0_part77_skel
  refine keeps_bind (keeps_load h.w13.reads) fun _ => ?_
  refine keeps_bind (keeps_load h.r5) fun _ => ?_
  refine keeps_bind (keeps_load h.w13.reads) fun _ => ?_
  exact keeps_pure _

/-- Part 78 keeps the operands. -/
theorem keeps_part78 {v1099 : FVec F S16x512 .bf16} {k0_t11 : Fin (k0_t11_loop i).trips} {arg17 : BitVec 32} {v1648 : Vec F S8x512 .f32} {v1684 : FVec F S512x512 .f32} {v1691 : FVec F S512x512 .f32} {v1698 : FVec F S512x512 .f32} {v1705 : FVec F S512x512 .f32} {v1713 : FVec F S512x512 .bf16} {v1736 : FVec F S1x512 .f32} {v1739 : FVec F S1x512 .f32} {v1742 : FVec F S512x512 .f32} : Keeps c H (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1099 k0_t11 arg17 v1648 v1684 v1691 v1698 v1705 v1713 v1736 v1739 v1742) := by
  rw [k0_part78_eq_skeleton]
  unfold k0_part78_skel
  refine keeps_bind (keeps_load h.r6) fun _ => ?_
  exact keeps_pure _

/-- Part 79 keeps the operands. -/
theorem keeps_part79 {v1099 : FVec F S16x512 .bf16} {k0_t11 : Fin (k0_t11_loop i).trips} {arg17 : BitVec 32} {v1715 : FVec F S1x512 .f32} {v1723 : FVec F S512x512 .bf16} {v1733 : FVec F S512x512 .bf16} {v1743 : FVec F S512x512 .bf16} {v1753 : FVec F S512x512 .bf16} {v1763 : FVec F S512x512 .bf16} {v1773 : FVec F S512x512 .bf16} {v1783 : FVec F S512x512 .bf16} : Keeps c H (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1099 k0_t11 arg17 v1715 v1723 v1733 v1743 v1753 v1763 v1773 v1783) := by
  rw [k0_part79_eq_skeleton]
  unfold k0_part79_skel
  refine keeps_bind (keeps_load h.r6) fun _ => ?_
  refine keeps_bind (keeps_load h.r6) fun _ => ?_
  refine keeps_bind (keeps_load h.r6) fun _ => ?_
  refine keeps_bind (keeps_load h.r6) fun _ => ?_
  refine keeps_bind (keeps_load h.r6) fun _ => ?_
  refine keeps_bind (keeps_load h.r6) fun _ => ?_
  refine keeps_bind (keeps_load h.r6) fun _ => ?_
  exact keeps_pure _

/-- Part 80 keeps the operands. -/
theorem keeps_part80 {v1649 : Vec F S8x512 .f32} {v1709 : FVec F S1x512 .f32} {v1715 : FVec F S1x512 .f32} {v1719 : FVec F S1x512 .f32} {v1725 : FVec F S1x512 .f32} {v1729 : FVec F S1x512 .f32} {v1735 : FVec F S1x512 .f32} {v1739 : FVec F S1x512 .f32} {v1745 : FVec F S1x512 .f32} {v1749 : FVec F S1x512 .f32} {v1755 : FVec F S1x512 .f32} {v1759 : FVec F S1x512 .f32} {v1765 : FVec F S1x512 .f32} {v1769 : FVec F S1x512 .f32} {v1775 : FVec F S1x512 .f32} {v1779 : FVec F S1x512 .f32} {v1785 : FVec F S1x512 .f32} {v1790 : FVec F S80x512 .f32} {v1795 : FVec F S80x512 .f32} {v1800 : FVec F S80x512 .f32} {v1805 : FVec F S80x512 .f32} {v1810 : FVec F S80x512 .f32} {v1815 : FVec F S80x512 .f32} {v1820 : FVec F S80x512 .f32} {v1825 : FVec F S80x512 .f32} {v1826 : FVec F S1x512 .f32} : Keeps c H (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1649 v1709 v1715 v1719 v1725 v1729 v1735 v1739 v1745 v1749 v1755 v1759 v1765 v1769 v1775 v1779 v1785 v1790 v1795 v1800 v1805 v1810 v1815 v1820 v1825 v1826) := by
  rw [k0_part80_eq_skeleton]
  unfold k0_part80_skel
  refine keeps_bind (keeps_load h.w12.reads) fun _ => ?_
  refine keeps_bind (keeps_load h.w12.reads) fun _ => ?_
  refine keeps_bind (keeps_store h.w12) fun _ => ?_
  refine keeps_bind (keeps_load h.w14.reads) fun _ => ?_
  refine keeps_bind (keeps_store h.w14) fun _ => ?_
  refine keeps_bind (keeps_load h.w15.reads) fun _ => ?_
  exact keeps_pure _

/-- A trip of loop 11 keeps the operands. -/
theorem keeps_t11 {v18 : BitVec 32} {v1027 : FVec F S1x512 .f32} {v1091 : FVec F S8x512 .f32} {v1105 : BitVec 32} : ∀ k acc, Keeps c H (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v1027 v1091 v1105 k acc) := by
  intro k acc
  unfold k0_t11_body
  refine keeps_bind (keeps_part63 h) fun _ => ?_
  refine keeps_bind (keeps_part64 h) fun _ => ?_
  refine keeps_bind (keeps_part65 h) fun _ => ?_
  refine keeps_bind (keeps_part66 h) fun _ => ?_
  refine keeps_bind (keeps_part67 h) fun _ => ?_
  refine keeps_bind (keeps_part68 h) fun _ => ?_
  refine keeps_bind (keeps_part69 h) fun _ => ?_
  refine keeps_bind (keeps_part70 h) fun _ => ?_
  refine keeps_bind (keeps_part71 h) fun _ => ?_
  refine keeps_bind (keeps_part72 h) fun _ => ?_
  refine keeps_bind (keeps_part73 h) fun _ => ?_
  refine keeps_bind (keeps_part74 h) fun _ => ?_
  refine keeps_bind (keeps_part75 h) fun _ => ?_
  refine keeps_bind (keeps_part76 h) fun _ => ?_
  refine keeps_bind (keeps_part77 h) fun _ => ?_
  refine keeps_bind (keeps_part78 h) fun _ => ?_
  refine keeps_bind (keeps_part79 h) fun _ => ?_
  refine keeps_bind (keeps_part80 h) fun _ => ?_
  refine keeps_bind (keeps_store h.w15) fun _ => ?_
  exact keeps_pure _

end Cert.Dsa.Run

end
-- ==== Proof.DsaPartsD.lean ====
/- The sparse attention call's body keeps its operands: the whole body. -/
module

public import proofs.«01_k».proof.Proof.DsaPartsB
public import proofs.«01_k».proof.Proof.DsaPartsC

@[expose] public section

set_option maxRecDepth 65536

noncomputable section

namespace Cert.Dsa.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Dsa Cert.Dsa.Gen

variable {F : FTy → Type} [BitOps F]
variable {c : Dev nD} {H : Asn F} {i : grid0.Coords}
variable {arg2 : Memref sig .tc .vmem S1x512x512 .bf16} {harg2 : arg2.IsWhole} {arg3 : Memref sig .tc .vmem S1x256x512 .bf16} {harg3 : arg3.IsWhole} {arg4 : Memref sig .tc .vmem S1x8x512 .f32} {harg4 : arg4.IsWhole} {arg5 : Memref sig .tc .vmem S1x8192x512 .bf16} {harg5 : arg5.IsWhole} {arg6 : Memref sig .tc .vmem S1x16x512x512 .bf16} {harg6 : arg6.IsWhole} {arg7 : Memref sig .tc .vmem S1x8192x128 .bf16} {harg7 : arg7.IsWhole} {arg8 : Memref sig .tc .vmem S1x512x512 .bf16} {harg8 : arg8.IsWhole} {arg9 : Memref sig .tc .vmem S16x32x16x512 .i32} {harg9 : arg9.IsWhole} {arg10 : Memref sig .tc .vmem S16x16x512 .i32} {harg10 : arg10.IsWhole} {arg11 : Memref sig .tc .vmem S16x16x512 .i32} {harg11 : arg11.IsWhole} {arg12 : Memref sig .tc .vmem S512x512 .f32} {harg12 : arg12.IsWhole} {arg13 : Memref sig .tc .vmem S8x128x512 .bf16} {harg13 : arg13.IsWhole} {arg14 : Memref sig .tc .vmem S8x512 .f32} {harg14 : arg14.IsWhole} {arg15 : Memref sig .tc .vmem S8x512 .f32} {harg15 : arg15.IsWhole} {arg16 : Memref sig .tc .vmem S256x256 .bf16} {harg16 : arg16.IsWhole}

variable (h : Held c H arg2 arg3 arg4 arg5 arg6 arg7 arg8 arg9 arg10 arg11 arg12 arg13 arg14 arg15 arg16)

include h

/-- Part 81 keeps the operands. -/
theorem keeps_part81  : Keeps c H (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 ) := by
  rw [k0_part81_eq_skeleton]
  unfold k0_part81_skel
  refine keeps_bind (keeps_load h.r4) fun _ => ?_
  refine keeps_bind (keeps_load h.r3) fun _ => ?_
  refine keeps_bind (keeps_load h.r3) fun _ => ?_
  exact keeps_pure _

/-- Part 82 keeps the operands. -/
theorem keeps_part82 {v18 : BitVec 32} {v27 : FVec F S8x512 .f32} {v28 : FVec F S64x512 .bf16} {v31 : FVec F S128x512 .bf16} {v34 : FVec F S128x512 .bf16} : Keeps c H (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v27 v28 v31 v34) := by
  rw [k0_part82_eq_skeleton]
  unfold k0_part82_skel
  refine keeps_bind (keeps_load h.r3) fun _ => ?_
  refine keeps_bind (keeps_load h.r3) fun _ => ?_
  refine keeps_bind (keeps_for _ _ _ (keeps_t1 h)) fun _ => ?_
  refine keeps_bind (keeps_for _ _ _ (keeps_t2 h)) fun _ => ?_
  refine keeps_bind (keeps_load h.r7) fun _ => ?_
  exact keeps_pure _

/-- Part 83 keeps the operands. -/
theorem keeps_part83 {v22 : IVec S1x512 32} {v23 : IVec S512x512 32} {v27 : FVec F S8x512 .f32} {v40 : FVec F S128x512 .bf16} {v47 : BitVec 32} {v52 : FVec F S512x128 .bf16} {v67 : FVec F S512x512 .f32} {v69 : FVec F S1x512 .f32} {v71 : FVec F S512x512 .f32} : Keeps c H (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v22 v23 v27 v40 v47 v52 v67 v69 v71) := by
  rw [k0_part83_eq_skeleton]
  unfold k0_part83_skel
  exact keeps_pure _

/-- Part 84 keeps the operands. -/
theorem keeps_part84 {v94 : IVec S512x512 32} {v95 : IVec S16x512 32} {v96 : IVec S16x512 32} {v97 : IVec S16x512 32} {v98 : IVec S16x512 32} {v99 : IVec S16x512 32} {v111 : IVec S16x512 32} {v112 : IVec S16x512 32} {v113 : IVec S16x512 32} {v114 : IVec S16x512 32} {v115 : IVec S16x512 32} : Keeps c H (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v94 v95 v96 v97 v98 v99 v111 v112 v113 v114 v115) := by
  rw [k0_part84_eq_skeleton]
  unfold k0_part84_skel
  exact keeps_pure _

/-- Part 85 keeps the operands. -/
theorem keeps_part85 {v100 : IVec S16x512 32} {v101 : IVec S16x512 32} {v102 : IVec S16x512 32} {v103 : IVec S16x512 32} {v104 : IVec S16x512 32} {v115 : IVec S16x512 32} {v116 : IVec S16x512 32} {v117 : IVec S16x512 32} {v118 : IVec S16x512 32} {v119 : IVec S16x512 32} {v120 : IVec S16x512 32} {v170 : IVec S16x512 32} : Keeps c H (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v100 v101 v102 v103 v104 v115 v116 v117 v118 v119 v120 v170) := by
  rw [k0_part85_eq_skeleton]
  unfold k0_part85_skel
  exact keeps_pure _

/-- Part 86 keeps the operands. -/
theorem keeps_part86 {v105 : IVec S16x512 32} {v106 : IVec S16x512 32} {v107 : IVec S16x512 32} {v108 : IVec S16x512 32} {v109 : IVec S16x512 32} {v120 : IVec S16x512 32} {v121 : IVec S16x512 32} {v122 : IVec S16x512 32} {v123 : IVec S16x512 32} {v124 : IVec S16x512 32} {v125 : IVec S16x512 32} {v215 : IVec S16x512 32} : Keeps c H (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v105 v106 v107 v108 v109 v120 v121 v122 v123 v124 v125 v215) := by
  rw [k0_part86_eq_skeleton]
  unfold k0_part86_skel
  exact keeps_pure _

/-- Part 87 keeps the operands. -/
theorem keeps_part87 {v110 : IVec S16x512 32} {v125 : IVec S16x512 32} {v126 : IVec S16x512 32} {v132 : IVec S16x512 32} {v141 : IVec S16x512 32} {v150 : IVec S16x512 32} {v159 : IVec S16x512 32} {v204 : IVec S16x512 32} {v213 : IVec S16x512 32} {v222 : IVec S16x512 32} {v231 : IVec S16x512 32} {v260 : IVec S16x512 32} : Keeps c H (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v110 v125 v126 v132 v141 v150 v159 v204 v213 v222 v231 v260) := by
  rw [k0_part87_eq_skeleton]
  unfold k0_part87_skel
  exact keeps_pure _

/-- Part 88 keeps the operands. -/
theorem keeps_part88 {v135 : IVec S16x512 32} {v168 : IVec S16x512 32} {v177 : IVec S16x512 32} {v186 : IVec S16x512 32} {v195 : IVec S16x512 32} {v207 : IVec S16x512 32} {v231 : IVec S16x512 32} {v240 : IVec S16x512 32} {v249 : IVec S16x512 32} {v258 : IVec S16x512 32} {v267 : IVec S16x512 32} {v305 : IVec S16x512 32} : Keeps c H (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v135 v168 v177 v186 v195 v207 v231 v240 v249 v258 v267 v305) := by
  rw [k0_part88_eq_skeleton]
  unfold k0_part88_skel
  exact keeps_pure _

/-- Part 89 keeps the operands. -/
theorem keeps_part89 {v144 : IVec S16x512 32} {v153 : IVec S16x512 32} {v162 : IVec S16x512 32} {v171 : IVec S16x512 32} {v180 : IVec S16x512 32} {v207 : IVec S16x512 32} {v216 : IVec S16x512 32} {v225 : IVec S16x512 32} {v234 : IVec S16x512 32} {v243 : IVec S16x512 32} {v252 : IVec S16x512 32} {v350 : IVec S16x512 32} : Keeps c H (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v144 v153 v162 v171 v180 v207 v216 v225 v234 v243 v252 v350) := by
  rw [k0_part89_eq_skeleton]
  unfold k0_part89_skel
  exact keeps_pure _

/-- Part 90 keeps the operands. -/
theorem keeps_part90 {v189 : IVec S16x512 32} {v198 : IVec S16x512 32} {v252 : IVec S16x512 32} {v261 : IVec S16x512 32} {v270 : IVec S16x512 32} {v276 : IVec S16x512 32} {v285 : IVec S16x512 32} {v294 : IVec S16x512 32} {v312 : IVec S16x512 32} {v321 : IVec S16x512 32} {v330 : IVec S16x512 32} {v395 : IVec S16x512 32} : Keeps c H (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v189 v198 v252 v261 v270 v276 v285 v294 v312 v321 v330 v395) := by
  rw [k0_part90_eq_skeleton]
  unfold k0_part90_skel
  exact keeps_pure _

/-- Part 91 keeps the operands. -/
theorem keeps_part91 {v279 : IVec S16x512 32} {v288 : IVec S16x512 32} {v297 : IVec S16x512 32} {v303 : IVec S16x512 32} {v306 : IVec S16x512 32} {v315 : IVec S16x512 32} {v324 : IVec S16x512 32} {v330 : IVec S16x512 32} {v333 : IVec S16x512 32} {v339 : IVec S16x512 32} {v342 : IVec S16x512 32} {v440 : IVec S16x512 32} : Keeps c H (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v279 v288 v297 v303 v306 v315 v324 v330 v333 v339 v342 v440) := by
  rw [k0_part91_eq_skeleton]
  unfold k0_part91_skel
  exact keeps_pure _

/-- Part 92 keeps the operands. -/
theorem keeps_part92 {v342 : IVec S16x512 32} {v348 : IVec S16x512 32} {v351 : IVec S16x512 32} {v357 : IVec S16x512 32} {v366 : IVec S16x512 32} {v375 : IVec S16x512 32} {v384 : IVec S16x512 32} {v387 : IVec S16x512 32} {v393 : IVec S16x512 32} {v402 : IVec S16x512 32} {v411 : IVec S16x512 32} {v485 : IVec S16x512 32} : Keeps c H (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v342 v348 v351 v357 v366 v375 v384 v387 v393 v402 v411 v485) := by
  rw [k0_part92_eq_skeleton]
  unfold k0_part92_skel
  exact keeps_pure _

/-- Part 93 keeps the operands. -/
theorem keeps_part93 {v360 : IVec S16x512 32} {v369 : IVec S16x512 32} {v378 : IVec S16x512 32} {v387 : IVec S16x512 32} {v396 : IVec S16x512 32} {v405 : IVec S16x512 32} {v414 : IVec S16x512 32} {v420 : IVec S16x512 32} {v429 : IVec S16x512 32} {v438 : IVec S16x512 32} {v447 : IVec S16x512 32} {v530 : IVec S16x512 32} : Keeps c H (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v360 v369 v378 v387 v396 v405 v414 v420 v429 v438 v447 v530) := by
  rw [k0_part93_eq_skeleton]
  unfold k0_part93_skel
  exact keeps_pure _

/-- Part 94 keeps the operands. -/
theorem keeps_part94 {v423 : IVec S16x512 32} {v432 : IVec S16x512 32} {v441 : IVec S16x512 32} {v447 : IVec S16x512 32} {v450 : IVec S16x512 32} {v456 : IVec S16x512 32} {v459 : IVec S16x512 32} {v465 : IVec S16x512 32} {v474 : IVec S16x512 32} {v477 : IVec S16x512 32} {v483 : IVec S16x512 32} {v575 : IVec S16x512 32} : Keeps c H (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v423 v432 v441 v447 v450 v456 v459 v465 v474 v477 v483 v575) := by
  rw [k0_part94_eq_skeleton]
  unfold k0_part94_skel
  exact keeps_pure _

/-- Part 95 keeps the operands. -/
theorem keeps_part95 {v468 : IVec S16x512 32} {v477 : IVec S16x512 32} {v486 : IVec S16x512 32} {v492 : IVec S16x512 32} {v495 : IVec S16x512 32} {v501 : IVec S16x512 32} {v504 : IVec S16x512 32} {v510 : IVec S16x512 32} {v513 : IVec S16x512 32} {v519 : IVec S16x512 32} {v522 : IVec S16x512 32} {v620 : IVec S16x512 32} : Keeps c H (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v468 v477 v486 v492 v495 v501 v504 v510 v513 v519 v522 v620) := by
  rw [k0_part95_eq_skeleton]
  unfold k0_part95_skel
  exact keeps_pure _

/-- Part 96 keeps the operands. -/
theorem keeps_part96 {v522 : IVec S16x512 32} {v528 : IVec S16x512 32} {v531 : IVec S16x512 32} {v537 : IVec S16x512 32} {v540 : IVec S16x512 32} {v546 : IVec S16x512 32} {v549 : IVec S16x512 32} {v555 : IVec S16x512 32} {v558 : IVec S16x512 32} {v564 : IVec S16x512 32} {v573 : IVec S16x512 32} {v665 : IVec S16x512 32} : Keeps c H (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v522 v528 v531 v537 v540 v546 v549 v555 v558 v564 v573 v665) := by
  rw [k0_part96_eq_skeleton]
  unfold k0_part96_skel
  exact keeps_pure _

/-- Part 97 keeps the operands. -/
theorem keeps_part97 {v567 : IVec S16x512 32} {v573 : IVec S16x512 32} {v576 : IVec S16x512 32} {v582 : IVec S16x512 32} {v585 : IVec S16x512 32} {v591 : IVec S16x512 32} {v594 : IVec S16x512 32} {v600 : IVec S16x512 32} {v603 : IVec S16x512 32} {v609 : IVec S16x512 32} {v612 : IVec S16x512 32} {v710 : IVec S16x512 32} : Keeps c H (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v567 v573 v576 v582 v585 v591 v594 v600 v603 v609 v612 v710) := by
  rw [k0_part97_eq_skeleton]
  unfold k0_part97_skel
  exact keeps_pure _

/-- Part 98 keeps the operands. -/
theorem keeps_part98 {v612 : IVec S16x512 32} {v618 : IVec S16x512 32} {v621 : IVec S16x512 32} {v627 : IVec S16x512 32} {v630 : IVec S16x512 32} {v636 : IVec S16x512 32} {v639 : IVec S16x512 32} {v645 : IVec S16x512 32} {v648 : IVec S16x512 32} {v654 : IVec S16x512 32} {v663 : IVec S16x512 32} {v755 : IVec S16x512 32} : Keeps c H (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v612 v618 v621 v627 v630 v636 v639 v645 v648 v654 v663 v755) := by
  rw [k0_part98_eq_skeleton]
  unfold k0_part98_skel
  exact keeps_pure _

/-- Part 99 keeps the operands. -/
theorem keeps_part99 {v657 : IVec S16x512 32} {v663 : IVec S16x512 32} {v666 : IVec S16x512 32} {v672 : IVec S16x512 32} {v675 : IVec S16x512 32} {v681 : IVec S16x512 32} {v684 : IVec S16x512 32} {v690 : IVec S16x512 32} {v693 : IVec S16x512 32} {v699 : IVec S16x512 32} {v702 : IVec S16x512 32} {v800 : IVec S16x512 32} : Keeps c H (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v657 v663 v666 v672 v675 v681 v684 v690 v693 v699 v702 v800) := by
  rw [k0_part99_eq_skeleton]
  unfold k0_part99_skel
  exact keeps_pure _

/-- Part 100 keeps the operands. -/
theorem keeps_part100 {v47 : BitVec 32} {v702 : IVec S16x512 32} {v708 : IVec S16x512 32} {v711 : IVec S16x512 32} {v717 : IVec S16x512 32} {v720 : IVec S16x512 32} {v726 : IVec S16x512 32} {v729 : IVec S16x512 32} {v735 : IVec S16x512 32} {v845 : IVec S16x512 32} : Keeps c H (k0_part100 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v47 v702 v708 v711 v717 v720 v726 v729 v735 v845) := by
  rw [k0_part100_eq_skeleton]
  unfold k0_part100_skel
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  exact keeps_pure _

/-- Part 101 keeps the operands. -/
theorem keeps_part101 {v47 : BitVec 32} {v738 : IVec S16x512 32} {v744 : IVec S16x512 32} {v747 : IVec S16x512 32} {v753 : IVec S16x512 32} {v756 : IVec S16x512 32} {v762 : IVec S16x512 32} {v765 : IVec S16x512 32} {v771 : IVec S16x512 32} : Keeps c H (k0_part101 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v47 v738 v744 v747 v753 v756 v762 v765 v771) := by
  rw [k0_part101_eq_skeleton]
  unfold k0_part101_skel
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  exact keeps_pure _

/-- Part 102 keeps the operands. -/
theorem keeps_part102 {v47 : BitVec 32} {v774 : IVec S16x512 32} {v780 : IVec S16x512 32} {v783 : IVec S16x512 32} {v789 : IVec S16x512 32} {v792 : IVec S16x512 32} {v798 : IVec S16x512 32} {v801 : IVec S16x512 32} {v906 : IVec S1x1x16x512 32} : Keeps c H (k0_part102 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v47 v774 v780 v783 v789 v792 v798 v801 v906) := by
  rw [k0_part102_eq_skeleton]
  unfold k0_part102_skel
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  exact keeps_pure _

/-- Part 103 keeps the operands. -/
theorem keeps_part103 {v47 : BitVec 32} {v807 : IVec S16x512 32} {v810 : IVec S16x512 32} {v816 : IVec S16x512 32} {v819 : IVec S16x512 32} {v825 : IVec S16x512 32} {v828 : IVec S16x512 32} {v834 : IVec S16x512 32} {v837 : IVec S16x512 32} : Keeps c H (k0_part103 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v47 v807 v810 v816 v819 v825 v828 v834 v837) := by
  rw [k0_part103_eq_skeleton]
  unfold k0_part103_skel
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w9.reads) fun _ => ?_
  exact keeps_pure _

/-- A trip of loop 3 keeps the operands. -/
theorem keeps_t3 {v18 : BitVec 32} {v47 : BitVec 32} {v843 : IVec S16x512 32} {v846 : IVec S16x512 32} {v966 : IVec S1x1x16x512 32} : ∀ k acc, Keeps c H (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v47 v843 v846 v966 k acc) := by
  intro k acc
  unfold k0_t3_body
  refine keeps_bind (keeps_load h.w9.reads) fun _ => ?_
  exact keeps_pure _

/-- A trip of loop 4 keeps the operands. -/
theorem keeps_t4 {v18 : BitVec 32} {v47 : BitVec 32} {v843 : IVec S16x512 32} {v846 : IVec S16x512 32} {v966 : IVec S1x1x16x512 32} : ∀ k acc, Keeps c H (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v47 v843 v846 v966 k acc) := by
  intro k acc
  unfold k0_t4_body
  refine keeps_bind (keeps_load h.w9.reads) fun _ => ?_
  exact keeps_pure _

/-- Part 104 keeps the operands. -/
theorem keeps_part104 {v18 : BitVec 32} {v47 : BitVec 32} {v843 : IVec S16x512 32} {v846 : IVec S16x512 32} {v966 : IVec S1x1x16x512 32} : Keeps c H (k0_part104 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v47 v843 v846 v966) := by
  rw [k0_part104_eq_skeleton]
  unfold k0_part104_skel
  refine keeps_bind (keeps_store h.w9) fun _ => ?_
  refine keeps_bind (keeps_load h.w9.reads) fun _ => ?_
  refine keeps_bind (keeps_store h.w9) fun _ => ?_
  refine keeps_bind (keeps_load h.w9.reads) fun _ => ?_
  refine keeps_bind (keeps_store h.w9) fun _ => ?_
  refine keeps_bind (keeps_load h.w10.reads) fun _ => ?_
  refine keeps_bind (keeps_store h.w10) fun _ => ?_
  refine keeps_bind (keeps_load h.w11.reads) fun _ => ?_
  refine keeps_bind (keeps_store h.w11) fun _ => ?_
  refine keeps_bind (keeps_for _ _ _ (keeps_t3 h)) fun _ => ?_
  refine keeps_bind (keeps_for _ _ _ (keeps_t4 h)) fun _ => ?_
  exact keeps_pure _

/-- A trip of loop 6 keeps the operands. -/
theorem keeps_t6 {v18 : BitVec 32} {v985 : IVec S1x512 32} {v995 : IVec S1x512 32} {v998 : IVec S1x512 1} {v999 : BitVec 32} {k0_t5 : Fin k0_t5_loop.trips} {arg20 : IVec S16x512 32} : ∀ k acc, Keeps c H (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v985 v995 v998 v999 k0_t5 arg20 k acc) := by
  intro k acc
  unfold k0_t6_body
  refine keeps_bind (keeps_load h.w10.reads) fun _ => ?_
  refine keeps_bind (keeps_load h.w9.reads) fun _ => ?_
  refine keeps_bind (keeps_load h.w11.reads) fun _ => ?_
  refine keeps_bind (keeps_load h.w11.reads) fun _ => ?_
  refine keeps_bind (keeps_store h.w11) fun _ => ?_
  refine keeps_bind (keeps_load h.w10.reads) fun _ => ?_
  refine keeps_bind (keeps_store h.w10) fun _ => ?_
  refine keeps_bind (keeps_load h.w9.reads) fun _ => ?_
  exact keeps_pure _

/-- A trip of loop 7 keeps the operands. -/
theorem keeps_t7 {v18 : BitVec 32} {v985 : IVec S1x512 32} {v995 : IVec S1x512 32} {v998 : IVec S1x512 1} {v999 : BitVec 32} {k0_t5 : Fin k0_t5_loop.trips} {arg20 : IVec S16x512 32} : ∀ k acc, Keeps c H (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v985 v995 v998 v999 k0_t5 arg20 k acc) := by
  intro k acc
  unfold k0_t7_body
  refine keeps_bind (keeps_load h.w10.reads) fun _ => ?_
  refine keeps_bind (keeps_load h.w9.reads) fun _ => ?_
  refine keeps_bind (keeps_load h.w11.reads) fun _ => ?_
  refine keeps_bind (keeps_load h.w11.reads) fun _ => ?_
  refine keeps_bind (keeps_store h.w11) fun _ => ?_
  refine keeps_bind (keeps_load h.w10.reads) fun _ => ?_
  refine keeps_bind (keeps_store h.w10) fun _ => ?_
  refine keeps_bind (keeps_load h.w9.reads) fun _ => ?_
  exact keeps_pure _

/-- A trip of loop 5 keeps the operands. -/
theorem keeps_t5 {v18 : BitVec 32} {v985 : IVec S1x512 32} {v995 : IVec S1x512 32} {v998 : IVec S1x512 1} {v999 : BitVec 32} : ∀ k acc, Keeps c H (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v985 v995 v998 v999 k acc) := by
  intro k acc
  unfold k0_t5_body
  refine keeps_bind (keeps_for _ _ _ (keeps_t6 h)) fun _ => ?_
  refine keeps_bind (keeps_for _ _ _ (keeps_t7 h)) fun _ => ?_
  exact keeps_pure _

/-- A trip of loop 8 keeps the operands. -/
theorem keeps_t8 {v18 : BitVec 32} {v985 : IVec S1x512 32} {v995 : IVec S1x512 32} {v998 : IVec S1x512 1} {v999 : BitVec 32} {v1013_2 : IVec S16x512 32} : ∀ k acc, Keeps c H (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v985 v995 v998 v999 v1013_2 k acc) := by
  intro k acc
  unfold k0_t8_body
  refine keeps_bind (keeps_load h.w10.reads) fun _ => ?_
  refine keeps_bind (keeps_load h.w9.reads) fun _ => ?_
  refine keeps_bind (keeps_load h.w11.reads) fun _ => ?_
  refine keeps_bind (keeps_load h.w11.reads) fun _ => ?_
  refine keeps_bind (keeps_store h.w11) fun _ => ?_
  refine keeps_bind (keeps_load h.w10.reads) fun _ => ?_
  refine keeps_bind (keeps_store h.w10) fun _ => ?_
  exact keeps_pure _

/-- A trip of loop 9 keeps the operands. -/
theorem keeps_t9 {v18 : BitVec 32} {v985 : IVec S1x512 32} {v995 : IVec S1x512 32} {v998 : IVec S1x512 1} {v999 : BitVec 32} {v1013_2 : IVec S16x512 32} : ∀ k acc, Keeps c H (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v985 v995 v998 v999 v1013_2 k acc) := by
  intro k acc
  unfold k0_t9_body
  refine keeps_bind (keeps_load h.w10.reads) fun _ => ?_
  refine keeps_bind (keeps_load h.w9.reads) fun _ => ?_
  refine keeps_bind (keeps_load h.w11.reads) fun _ => ?_
  refine keeps_bind (keeps_load h.w11.reads) fun _ => ?_
  refine keeps_bind (keeps_store h.w11) fun _ => ?_
  refine keeps_bind (keeps_load h.w10.reads) fun _ => ?_
  refine keeps_bind (keeps_store h.w10) fun _ => ?_
  exact keeps_pure _

/-- Part 105 keeps the operands. -/
theorem keeps_part105 {v18 : BitVec 32} {v985 : IVec S1x512 32} {v995 : IVec S1x512 32} {v998 : IVec S1x512 1} {v999 : BitVec 32} : Keeps c H (k0_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v985 v995 v998 v999) := by
  rw [k0_part105_eq_skeleton]
  unfold k0_part105_skel
  refine keeps_bind (keeps_for _ _ _ (keeps_t5 h)) fun _ => ?_
  refine keeps_bind (keeps_for _ _ _ (keeps_t8 h)) fun _ => ?_
  refine keeps_bind (keeps_for _ _ _ (keeps_t9 h)) fun _ => ?_
  refine keeps_bind (keeps_load h.w16.reads) fun _ => ?_
  exact keeps_pure _

/-- Part 106 keeps the operands. -/
theorem keeps_part106 {v1034 : FVec F S256x256 .bf16} : Keeps c H (k0_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1034) := by
  rw [k0_part106_eq_skeleton]
  unfold k0_part106_skel
  refine keeps_bind (keeps_store h.w16) fun _ => ?_
  refine keeps_bind (keeps_load h.r2) fun _ => ?_
  refine keeps_bind (keeps_load h.w13.reads) fun _ => ?_
  refine keeps_bind (keeps_store h.w13) fun _ => ?_
  refine keeps_bind (keeps_load h.r2) fun _ => ?_
  refine keeps_bind (keeps_load h.w13.reads) fun _ => ?_
  refine keeps_bind (keeps_store h.w13) fun _ => ?_
  refine keeps_bind (keeps_load h.r2) fun _ => ?_
  refine keeps_bind (keeps_load h.w13.reads) fun _ => ?_
  refine keeps_bind (keeps_store h.w13) fun _ => ?_
  refine keeps_bind (keeps_load h.r2) fun _ => ?_
  refine keeps_bind (keeps_load h.w13.reads) fun _ => ?_
  refine keeps_bind (keeps_store h.w13) fun _ => ?_
  refine keeps_bind (keeps_load h.r2) fun _ => ?_
  exact keeps_pure _

/-- Part 107 keeps the operands. -/
theorem keeps_part107 {v1038 : FVec F S64x512 .bf16} {v1063 : Vec F S1x64x512 .bf16} : Keeps c H (k0_part107 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1038 v1063) := by
  rw [k0_part107_eq_skeleton]
  unfold k0_part107_skel
  refine keeps_bind (keeps_load h.w13.reads) fun _ => ?_
  refine keeps_bind (keeps_store h.w13) fun _ => ?_
  refine keeps_bind (keeps_load h.r2) fun _ => ?_
  refine keeps_bind (keeps_load h.w13.reads) fun _ => ?_
  refine keeps_bind (keeps_store h.w13) fun _ => ?_
  refine keeps_bind (keeps_load h.r2) fun _ => ?_
  refine keeps_bind (keeps_load h.w13.reads) fun _ => ?_
  refine keeps_bind (keeps_store h.w13) fun _ => ?_
  refine keeps_bind (keeps_load h.r2) fun _ => ?_
  refine keeps_bind (keeps_load h.w13.reads) fun _ => ?_
  refine keeps_bind (keeps_store h.w13) fun _ => ?_
  refine keeps_bind (keeps_load h.w14.reads) fun _ => ?_
  refine keeps_bind (keeps_store h.w14) fun _ => ?_
  exact keeps_pure _

/-- Part 108 keeps the operands. -/
theorem keeps_part108 {v18 : BitVec 32} {v1027 : FVec F S1x512 .f32} {v1091 : FVec F S8x512 .f32} : Keeps c H (k0_part108 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v1027 v1091) := by
  rw [k0_part108_eq_skeleton]
  unfold k0_part108_skel
  refine keeps_bind (keeps_load h.w15.reads) fun _ => ?_
  refine keeps_bind (keeps_store h.w15) fun _ => ?_
  refine keeps_bind (keeps_load h.w12.reads) fun _ => ?_
  refine keeps_bind (keeps_store h.w12) fun _ => ?_
  refine keeps_bind (keeps_for _ _ _ (keeps_t10 h)) fun _ => ?_
  refine keeps_bind (keeps_for _ _ _ (keeps_t11 h)) fun _ => ?_
  refine keeps_bind (keeps_load h.w12.reads) fun _ => ?_
  refine keeps_bind (keeps_load h.w15.reads) fun _ => ?_
  refine keeps_bind (keeps_load h.w12.reads) fun _ => ?_
  refine keeps_bind (keeps_store h.w12) fun _ => ?_
  refine keeps_bind (keeps_load h.w12.reads) fun _ => ?_
  refine keeps_bind (keeps_load h.w15.reads) fun _ => ?_
  refine keeps_bind (keeps_load h.w12.reads) fun _ => ?_
  refine keeps_bind (keeps_store h.w12) fun _ => ?_
  refine keeps_bind (keeps_load h.w12.reads) fun _ => ?_
  exact keeps_pure _

/-- Part 109 keeps the operands. -/
theorem keeps_part109 {v1122 : Vec F S64x512 .f32} : Keeps c H (k0_part109 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1122) := by
  rw [k0_part109_eq_skeleton]
  unfold k0_part109_skel
  refine keeps_bind (keeps_load h.w15.reads) fun _ => ?_
  refine keeps_bind (keeps_load h.w12.reads) fun _ => ?_
  refine keeps_bind (keeps_store h.w12) fun _ => ?_
  refine keeps_bind (keeps_load h.w12.reads) fun _ => ?_
  refine keeps_bind (keeps_load h.w15.reads) fun _ => ?_
  refine keeps_bind (keeps_load h.w12.reads) fun _ => ?_
  refine keeps_bind (keeps_store h.w12) fun _ => ?_
  refine keeps_bind (keeps_load h.w12.reads) fun _ => ?_
  refine keeps_bind (keeps_load h.w15.reads) fun _ => ?_
  refine keeps_bind (keeps_load h.w12.reads) fun _ => ?_
  refine keeps_bind (keeps_store h.w12) fun _ => ?_
  refine keeps_bind (keeps_load h.w12.reads) fun _ => ?_
  refine keeps_bind (keeps_load h.w15.reads) fun _ => ?_
  refine keeps_bind (keeps_load h.w12.reads) fun _ => ?_
  refine keeps_bind (keeps_store h.w12) fun _ => ?_
  refine keeps_bind (keeps_load h.w12.reads) fun _ => ?_
  refine keeps_bind (keeps_load h.w15.reads) fun _ => ?_
  exact keeps_pure _

/-- Part 110 keeps the operands. -/
theorem keeps_part110  : Keeps c H (k0_part110 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 ) := by
  rw [k0_part110_eq_skeleton]
  unfold k0_part110_skel
  refine keeps_bind (keeps_part81 h) fun _ => ?_
  refine keeps_bind (keeps_part82 h) fun _ => ?_
  refine keeps_bind (keeps_part83 h) fun _ => ?_
  refine keeps_bind (keeps_part84 h) fun _ => ?_
  refine keeps_bind (keeps_part85 h) fun _ => ?_
  refine keeps_bind (keeps_part86 h) fun _ => ?_
  refine keeps_bind (keeps_part87 h) fun _ => ?_
  refine keeps_bind (keeps_part88 h) fun _ => ?_
  refine keeps_bind (keeps_part89 h) fun _ => ?_
  refine keeps_bind (keeps_part90 h) fun _ => ?_
  refine keeps_bind (keeps_part91 h) fun _ => ?_
  refine keeps_bind (keeps_part92 h) fun _ => ?_
  refine keeps_bind (keeps_part93 h) fun _ => ?_
  refine keeps_bind (keeps_part94 h) fun _ => ?_
  refine keeps_bind (keeps_part95 h) fun _ => ?_
  refine keeps_bind (keeps_part96 h) fun _ => ?_
  refine keeps_bind (keeps_part97 h) fun _ => ?_
  refine keeps_bind (keeps_part98 h) fun _ => ?_
  refine keeps_bind (keeps_part99 h) fun _ => ?_
  refine keeps_bind (keeps_part100 h) fun _ => ?_
  refine keeps_bind (keeps_part101 h) fun _ => ?_
  refine keeps_bind (keeps_part102 h) fun _ => ?_
  refine keeps_bind (keeps_part103 h) fun _ => ?_
  refine keeps_bind (keeps_part104 h) fun _ => ?_
  refine keeps_bind (keeps_part105 h) fun _ => ?_
  refine keeps_bind (keeps_part106 h) fun _ => ?_
  refine keeps_bind (keeps_part107 h) fun _ => ?_
  refine keeps_bind (keeps_part108 h) fun _ => ?_
  refine keeps_bind (keeps_part109 h) fun _ => ?_
  refine keeps_bind (keeps_load h.w12.reads) fun _ => ?_
  refine keeps_bind (keeps_store h.w12) fun _ => ?_
  refine keeps_bind (keeps_load h.w12.reads) fun _ => ?_
  refine keeps_bind (keeps_load h.w15.reads) fun _ => ?_
  refine keeps_bind (keeps_load h.w12.reads) fun _ => ?_
  refine keeps_bind (keeps_store h.w12) fun _ => ?_
  refine keeps_bind (keeps_load h.w12.reads) fun _ => ?_
  refine keeps_bind (keeps_load h.w8.reads) fun _ => ?_
  refine keeps_bind (keeps_store h.w8) fun _ => ?_
  exact keeps_pure _

end Cert.Dsa.Run

end
-- ==== Proof.DsaFrame.lean ====
/- The sparse attention call's frame: the body keeps its operands whatever they hold, so the launch returns the
   arguments as they were, with every semaphore counter at zero. Nothing is named of what the output window holds. -/
module

public import proofs.«01_k».proof.Proof.DsaPartsD
public import Idealize.ShloMosaic.Lib.Claim

@[expose] public section

set_option maxRecDepth 16384

noncomputable section

namespace Cert.Dsa.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Dsa Cert.Dsa.Gen

variable {F : FTy → Type} [BitOps F]

/-! ## Operands inside an assertion -/

section Operands

variable {c : Dev nD} {P Q : Asn F} {s : Shape} {e : EltTy} {r : Memref sig .tc .vmem s e}

/-- An operand the left conjunct hands out for reading. -/
theorem Reads.left (h : Reads c P r) : Reads c iprop(P ∗ Q) r := by
  unfold Reads at *
  iintro ⟨HP, HQ⟩
  ihave Hx := h $$ HP
  icases Hx with ⟨%f, Hf, Hk⟩
  iexists f
  isplitl [Hf]; · iexact Hf
  iintro Hf
  isplitl [Hk Hf]
  · iapply Hk; iexact Hf
  iexact HQ

/-- An operand the right conjunct hands out for reading. -/
theorem Reads.right (h : Reads c Q r) : Reads c iprop(P ∗ Q) r := by
  unfold Reads at *
  iintro ⟨HP, HQ⟩
  ihave Hx := h $$ HQ
  icases Hx with ⟨%f, Hf, Hk⟩
  iexists f
  isplitl [Hf]; · iexact Hf
  iintro Hf
  isplitl [HP]
  · iexact HP
  iapply Hk; iexact Hf

/-- An operand the left conjunct hands out for writing. -/
theorem Writes.left (h : Writes c P r) : Writes c iprop(P ∗ Q) r := by
  unfold Writes at *
  iintro ⟨HP, HQ⟩
  ihave Hx := h $$ HP
  icases Hx with ⟨%f, Hf, Hk⟩
  iexists f
  isplitl [Hf]; · iexact Hf
  iintro %g Hf
  isplitl [Hk Hf]
  · iapply Hk; iexact Hf
  iexact HQ

/-- An operand the right conjunct hands out for writing. -/
theorem Writes.right (h : Writes c Q r) : Writes c iprop(P ∗ Q) r := by
  unfold Writes at *
  iintro ⟨HP, HQ⟩
  ihave Hx := h $$ HQ
  icases Hx with ⟨%f, Hf, Hk⟩
  iexists f
  isplitl [Hf]; · iexact Hf
  iintro %g Hf
  isplitl [HP]
  · iexact HP
  iapply Hk; iexact Hf

/-- A memref owned at stated contents is handed out for reading. -/
theorem reads_owns (X : s.Idx → Elt F e) : Reads c (owns (c : Thread nD τ) r fullShare X) r := by
  unfold Reads owns
  iintro ⟨%f, %hf, Hf⟩
  iexists f
  isplitl [Hf]; · iexact Hf
  iintro Hf
  iexists f
  isplitr
  · ipureintro; exact hf
  iexact Hf

/-- A memref owned at some contents is handed out for writing. -/
theorem writes_owns : Writes c (H := iprop(∃ d : s.Idx → Elt F e, owns (c : Thread nD τ) r fullShare d)) r := by
  unfold Writes owns
  iintro ⟨%d, %f, %hf, Hf⟩
  iexists f
  isplitl [Hf]; · iexact Hf
  iintro %g Hf
  iexists (r.view.read (Elt F) g), g
  isplitr
  · ipureintro; rfl
  iexact Hf

end Operands

variable (m : (ℓ : Loc nD τ sig) → Buf (Elt F) ℓ) (ρ : Dev nD → PrngReg)

/-! ## The launch's data -/

/-- The output window, whose contents are not named. -/
def forgets0 : Fin 7 → Bool := fun w => w.val == 6

/-- The launch's data on a core: the arrays as they were found, every input's buffer at its block after the body, the output
    not named, the scratch at anything, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨_ + 7, h⟩ => absurd h (Nat.not_lt.2 (Nat.le_add_left _ _))
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

/-- Window 0 after the body at a point: its block. -/
theorem after0_0 (c : Dev nD) (t : Fin cfg0.N) : (dats m 0 c).after 0 t = iblk m c 0 t := rfl
/-- Window 0 before the body at a point: its block. -/
theorem before0_0 (c : Dev nD) (t : Fin cfg0.N) (d) : (dats m 0 c).before 0 t d = iblk m c 0 t :=
  before0_0_of m (dats m 0 c) (A_eq m c 0) (after0_0 m c) t d
/-- Window 1 after the body at a point: its block. -/
theorem after0_1 (c : Dev nD) (t : Fin cfg0.N) : (dats m 0 c).after 1 t = iblk m c 1 t := rfl
/-- Window 1 before the body at a point: its block. -/
theorem before0_1 (c : Dev nD) (t : Fin cfg0.N) (d) : (dats m 0 c).before 1 t d = iblk m c 1 t :=
  before0_1_of m (dats m 0 c) (A_eq m c 1) (after0_1 m c) t d
/-- Window 2 after the body at a point: its block. -/
theorem after0_2 (c : Dev nD) (t : Fin cfg0.N) : (dats m 0 c).after 2 t = iblk m c 2 t := rfl
/-- Window 2 before the body at a point: its block. -/
theorem before0_2 (c : Dev nD) (t : Fin cfg0.N) (d) : (dats m 0 c).before 2 t d = iblk m c 2 t :=
  before0_2_of m (dats m 0 c) (A_eq m c 2) (after0_2 m c) t d
/-- Window 3 after the body at a point: its block. -/
theorem after0_3 (c : Dev nD) (t : Fin cfg0.N) : (dats m 0 c).after 3 t = iblk m c 3 t := rfl
/-- Window 3 before the body at a point: its block. -/
theorem before0_3 (c : Dev nD) (t : Fin cfg0.N) (d) : (dats m 0 c).before 3 t d = iblk m c 3 t :=
  before0_3_of m (dats m 0 c) (A_eq m c 3) (after0_3 m c) t d
/-- Window 4 after the body at a point: its block. -/
theorem after0_4 (c : Dev nD) (t : Fin cfg0.N) : (dats m 0 c).after 4 t = iblk m c 4 t := rfl
/-- Window 4 before the body at a point: its block. -/
theorem before0_4 (c : Dev nD) (t : Fin cfg0.N) (d) : (dats m 0 c).before 4 t d = iblk m c 4 t :=
  before0_4_of m (dats m 0 c) (A_eq m c 4) (after0_4 m c) t d
/-- Window 5 after the body at a point: its block. -/
theorem after0_5 (c : Dev nD) (t : Fin cfg0.N) : (dats m 0 c).after 5 t = iblk m c 5 t := rfl
/-- Window 5 before the body at a point: its block. -/
theorem before0_5 (c : Dev nD) (t : Fin cfg0.N) (d) : (dats m 0 c).before 5 t d = iblk m c 5 t :=
  before0_5_of m (dats m 0 c) (A_eq m c 5) (after0_5 m c) t d

/-- The invariant with the scratch as memrefs owned at some contents. -/
theorem phi_eq (c : Dev nD) :
    (Pipeline.ΦA spec0 c : Asn F) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA
  rw [scopedRest0_eq]
  simp only [owns_whole]

/-! ## The body at a point -/

/-- What the body holds at a point: the scratch and the register at anything, the inputs at their blocks, the output at
    anything. -/
def held (c : Dev nD) (t : Fin cfg0.N) : Asn F :=
  iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ d, owns (c : Thread nD τ) (st0_6 t) fullShare d))

/-- What the body is called with. -/
def bodyPre (c : Dev nD) (t : Fin cfg0.N) : Asn F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- What the body returns. -/
def bodyPost (c : Dev nD) (t : Fin cfg0.N) : Asn F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

/-- The body is called with what it holds. -/
theorem pre_held (c : Dev nD) (t : Fin cfg0.N) : bodyPre m c t ⊢ held m c t := by
  unfold bodyPre held
  rw [show (dats m 0 c).Φ t.castSucc = Pipeline.ΦA spec0 c from rfl, phi_eq]
  simp only [before0_0, before0_1, before0_2, before0_3, before0_4, before0_5]
  iintro ⟨HS, Ho, ⟨%d0, H0⟩, ⟨%d1, H1⟩, ⟨%d2, H2⟩, ⟨%d3, H3⟩, ⟨%d4, H4⟩, ⟨%d5, H5⟩, H6⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- It returns what it holds. -/
theorem held_post (c : Dev nD) (t : Fin cfg0.N) : held m c t ⊢ bodyPost m c t := by
  unfold bodyPost held
  rw [show (dats m 0 c).Φ t.succ = Pipeline.ΦA spec0 c from rfl, phi_eq,
    show (dats m 0 c).owesAt () t.succ = (dats m 0 c).owesAt () t.castSucc from rfl,
    after0_0, after0_1, after0_2, after0_3, after0_4, after0_5]

/-- The body's operands are held by what it holds. -/
theorem held_held (c : Dev nD) (t : Fin cfg0.N) :
    Held c (held m c t) (st0_0 t) (st0_1 t) (st0_2 t) (st0_3 t) (st0_4 t) (st0_5 t) (st0_6 t)
      (Memref.whole cc0_scratch0) (Memref.whole cc0_scratch1) (Memref.whole cc0_scratch2) (Memref.whole cc0_scratch3)
      (Memref.whole cc0_scratch4) (Memref.whole cc0_scratch5) (Memref.whole cc0_scratch6) (Memref.whole cc0_scratch7) where
    r2 := (Reads.right (Reads.right (Reads.left (reads_owns _))))
    r3 := (Reads.right (Reads.right (Reads.right (Reads.left (reads_owns _)))))
    r4 := (Reads.right (Reads.right (Reads.right (Reads.right (Reads.left (reads_owns _))))))
    r5 := (Reads.right (Reads.right (Reads.right (Reads.right (Reads.right (Reads.left (reads_owns _)))))))
    r6 := (Reads.right (Reads.right (Reads.right (Reads.right (Reads.right (Reads.right (Reads.left (reads_owns _))))))))
    r7 := (Reads.right (Reads.right (Reads.right (Reads.right (Reads.right (Reads.right (Reads.right (Reads.left (reads_owns _)))))))))
    w8 := (Writes.right (Writes.right (Writes.right (Writes.right (Writes.right (Writes.right (Writes.right (Writes.right writes_owns))))))))
    w9 := (Writes.left (Writes.left (Writes.left writes_owns)))
    w10 := (Writes.left (Writes.left (Writes.right (Writes.left writes_owns))))
    w11 := (Writes.left (Writes.left (Writes.right (Writes.right (Writes.left writes_owns)))))
    w12 := (Writes.left (Writes.left (Writes.right (Writes.right (Writes.right (Writes.left writes_owns))))))
    w13 := (Writes.left (Writes.left (Writes.right (Writes.right (Writes.right (Writes.right (Writes.left writes_owns)))))))
    w14 := (Writes.left (Writes.left (Writes.right (Writes.right (Writes.right (Writes.right (Writes.right (Writes.left writes_owns))))))))
    w15 := (Writes.left (Writes.left (Writes.right (Writes.right (Writes.right (Writes.right (Writes.right (Writes.right (Writes.left writes_owns)))))))))
    w16 := (Writes.left (Writes.left (Writes.right (Writes.right (Writes.right (Writes.right (Writes.right (Writes.right (Writes.right writes_owns)))))))))

/-- The body at any point. -/
theorem sound_body (c : Dev nD) (t : Fin cfg0.N) :
    bodyPre m c t ⊢ wp frame (wpE (defs₀ (F := F)) Variants.none c none) Set.univ (bodyAt0 t) (fun _ => bodyPost m c t) := by
  have hk : Keeps c (held m c t) (bodyAt0 (F := F) t) := by
    unfold bodyAt0
    rw [cc0_dsa_attention_eq_skeleton]
    unfold cc0_dsa_attention_skel
    exact keeps_bind (keeps_part110 (held_held m c t)) fun _ => keeps_pure _
  unfold Keeps at hk
  exact (pre_held m c t).trans (hk.trans (wp_mono _ _ _ fun _ => held_post m c t))

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: the arrays as found, nothing stated of the output, and every semaphore counter at zero. -/
theorem run_main_quiescent : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: the argument arrays end as they were, and every semaphore counter of the machine is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c => by
    have h := hr.1
    exact ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      (Pipeline.RDat.FramePost.arr_in h c 5 rfl).trans ((A_eq m c 5).trans (V_main_arg5 m c))⟩, hr.2⟩) (run_main_quiescent m ρ)

end Cert.Dsa.Run

end
-- ==== Proof.ProjRef.lean ====
/- The input projection as the reference computes it: the normalised rows through one matrix, its columns split into the mixers'
   inputs, queries, keys, values and indexer parts, and the rotary turn of queries and keys; each result named, and read at an index. -/
module

public import proofs.«01_k».proof.Defs
public import proofs.«01_k».proof.Proof.Gen.ProjRefIdeal.Run
public import Idealize.ShloMosaic.Lib.Pointwise

@[expose] public section

set_option maxRecDepth 16384

noncomputable section

open Idealize.ShloMosaic Idealize.ShloMosaic.TcCoe Idealize.SL.Sem

namespace Cert.ProjRefIdeal.Hand

open Cert.ProjRefIdeal Cert.ProjRefIdeal.Gen

/-- The reference's normalised rows, scaled by the gain. -/
def norm (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf x x) (constant S_ .f32 0x00000000#32) reducesTo_S4x8192x1024_S4x8192_d2 h_S_))
    (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- All 3140 columns of the projection of rows `h`. -/
def proj (h : FVec Ideal S4x8192x1024 .f32) (w : FVec Ideal S1024x3140 .f32) : FVec Ideal S4x8192x3140 .f32 :=
  Host.dotGeneral dot_S4x8192x1024_S1024x3140_S4x8192x3140_2_0_01_1_n_n none h w

/-- The rotary turn of eight heads of 64 lanes. -/
def turn8 (t : FVec Ideal S4x8192x8x64 .f32) (cos sin : FVec Ideal S4x8192x32 .f32) : FVec Ideal S4x8192x8x64 .f32 :=
  concatenate S4x8192x8x64 3 [⟨S4x8192x8x32, subf
      (mulf (extractStridedSlice S4x8192x8x32 ![0, 0, 0, 0] t slices_S4x8192x8x64_S4x8192x8x32_0_0_0_0)
        (broadcastInDim S4x8192x8x32 ![0, 1, 2, 3] bcast_S4x8192x1x32_S4x8192x8x32_0_1_2_3 (broadcastInDim S4x8192x1x32 ![0, 1, 3] bcast_S4x8192x32_S4x8192x1x32_0_1_3 cos)))
      (mulf (extractStridedSlice S4x8192x8x32 ![0, 0, 0, 32] t slices_S4x8192x8x64_S4x8192x8x32_0_0_0_32)
        (broadcastInDim S4x8192x8x32 ![0, 1, 2, 3] bcast_S4x8192x1x32_S4x8192x8x32_0_1_2_3 (broadcastInDim S4x8192x1x32 ![0, 1, 3] bcast_S4x8192x32_S4x8192x1x32_0_1_3 sin)))⟩,
    ⟨S4x8192x8x32, addf
      (mulf (extractStridedSlice S4x8192x8x32 ![0, 0, 0, 32] t slices_S4x8192x8x64_S4x8192x8x32_0_0_0_32)
        (broadcastInDim S4x8192x8x32 ![0, 1, 2, 3] bcast_S4x8192x1x32_S4x8192x8x32_0_1_2_3 (broadcastInDim S4x8192x1x32 ![0, 1, 3] bcast_S4x8192x32_S4x8192x1x32_0_1_3 cos)))
      (mulf (extractStridedSlice S4x8192x8x32 ![0, 0, 0, 0] t slices_S4x8192x8x64_S4x8192x8x32_0_0_0_0)
        (broadcastInDim S4x8192x8x32 ![0, 1, 2, 3] bcast_S4x8192x1x32_S4x8192x8x32_0_1_2_3 (broadcastInDim S4x8192x1x32 ![0, 1, 3] bcast_S4x8192x32_S4x8192x1x32_0_1_3 sin)))⟩]
    concatenates_S4x8192x8x32_S4x8192x8x32_S4x8192x8x64_d3

/-- The rotary turn of four heads of 64 lanes. -/
def turn4 (t : FVec Ideal S4x8192x4x64 .f32) (cos sin : FVec Ideal S4x8192x32 .f32) : FVec Ideal S4x8192x4x64 .f32 :=
  concatenate S4x8192x4x64 3 [⟨S4x8192x4x32, subf
      (mulf (extractStridedSlice S4x8192x4x32 ![0, 0, 0, 0] t slices_S4x8192x4x64_S4x8192x4x32_0_0_0_0)
        (broadcastInDim S4x8192x4x32 ![0, 1, 2, 3] bcast_S4x8192x1x32_S4x8192x4x32_0_1_2_3 (broadcastInDim S4x8192x1x32 ![0, 1, 3] bcast_S4x8192x32_S4x8192x1x32_0_1_3 cos)))
      (mulf (extractStridedSlice S4x8192x4x32 ![0, 0, 0, 32] t slices_S4x8192x4x64_S4x8192x4x32_0_0_0_32)
        (broadcastInDim S4x8192x4x32 ![0, 1, 2, 3] bcast_S4x8192x1x32_S4x8192x4x32_0_1_2_3 (broadcastInDim S4x8192x1x32 ![0, 1, 3] bcast_S4x8192x32_S4x8192x1x32_0_1_3 sin)))⟩,
    ⟨S4x8192x4x32, addf
      (mulf (extractStridedSlice S4x8192x4x32 ![0, 0, 0, 32] t slices_S4x8192x4x64_S4x8192x4x32_0_0_0_32)
        (broadcastInDim S4x8192x4x32 ![0, 1, 2, 3] bcast_S4x8192x1x32_S4x8192x4x32_0_1_2_3 (broadcastInDim S4x8192x1x32 ![0, 1, 3] bcast_S4x8192x32_S4x8192x1x32_0_1_3 cos)))
      (mulf (extractStridedSlice S4x8192x4x32 ![0, 0, 0, 0] t slices_S4x8192x4x64_S4x8192x4x32_0_0_0_0)
        (broadcastInDim S4x8192x4x32 ![0, 1, 2, 3] bcast_S4x8192x1x32_S4x8192x4x32_0_1_2_3 (broadcastInDim S4x8192x1x32 ![0, 1, 3] bcast_S4x8192x32_S4x8192x1x32_0_1_3 sin)))⟩]
    concatenates_S4x8192x4x32_S4x8192x4x32_S4x8192x4x64_d3

/-- The rotary turn of one head of 64 lanes. -/
def turn1 (t : FVec Ideal S4x8192x1x64 .f32) (cos sin : FVec Ideal S4x8192x32 .f32) : FVec Ideal S4x8192x1x64 .f32 :=
  concatenate S4x8192x1x64 3 [⟨S4x8192x1x32, subf
      (mulf (extractStridedSlice S4x8192x1x32 ![0, 0, 0, 0] t slices_S4x8192x1x64_S4x8192x1x32_0_0_0_0)
        (broadcastInDim S4x8192x1x32 ![0, 1, 3] bcast_S4x8192x32_S4x8192x1x32_0_1_3 cos))
      (mulf (extractStridedSlice S4x8192x1x32 ![0, 0, 0, 32] t slices_S4x8192x1x64_S4x8192x1x32_0_0_0_32)
        (broadcastInDim S4x8192x1x32 ![0, 1, 3] bcast_S4x8192x32_S4x8192x1x32_0_1_3 sin))⟩,
    ⟨S4x8192x1x32, addf
      (mulf (extractStridedSlice S4x8192x1x32 ![0, 0, 0, 32] t slices_S4x8192x1x64_S4x8192x1x32_0_0_0_32)
        (broadcastInDim S4x8192x1x32 ![0, 1, 3] bcast_S4x8192x32_S4x8192x1x32_0_1_3 cos))
      (mulf (extractStridedSlice S4x8192x1x32 ![0, 0, 0, 0] t slices_S4x8192x1x64_S4x8192x1x32_0_0_0_0)
        (broadcastInDim S4x8192x1x32 ![0, 1, 3] bcast_S4x8192x32_S4x8192x1x32_0_1_3 sin))⟩]
    concatenates_S4x8192x1x32_S4x8192x1x32_S4x8192x1x64_d3

/-- 512 lanes as eight heads of 64. -/
def split8 (u : FVec Ideal S4x8192x512 .f32) : FVec Ideal S4x8192x8x64 .f32 := shapeCast S4x8192x8x64 u shapeCasts_S4x8192x512_S4x8192x8x64

/-- Eight heads of 64 side by side. -/
def merge8 (u : FVec Ideal S4x8192x8x64 .f32) : FVec Ideal S4x8192x512 .f32 := shapeCast S4x8192x512 u shapeCasts_S4x8192x8x64_S4x8192x512

/-- 256 lanes as four heads of 64. -/
def split4 (u : FVec Ideal S4x8192x256 .f32) : FVec Ideal S4x8192x4x64 .f32 := shapeCast S4x8192x4x64 u shapeCasts_S4x8192x256_S4x8192x4x64

/-- Four heads of 64 side by side. -/
def merge4 (u : FVec Ideal S4x8192x4x64 .f32) : FVec Ideal S4x8192x256 .f32 := shapeCast S4x8192x256 u shapeCasts_S4x8192x4x64_S4x8192x256

/-- 64 lanes as one head. -/
def split1 (u : FVec Ideal S4x8192x64 .f32) : FVec Ideal S4x8192x1x64 .f32 := broadcastInDim S4x8192x1x64 ![0, 1, 3] bcast_S4x8192x64_S4x8192x1x64_0_1_3 u

/-- One head as 64 lanes. -/
def merge1 (u : FVec Ideal S4x8192x1x64 .f32) : FVec Ideal S4x8192x64 .f32 := shapeCast S4x8192x64 u shapeCasts_S4x8192x1x64_S4x8192x64

/-- The queries' columns. -/
def colsQ (p : FVec Ideal S4x8192x3140 .f32) : FVec Ideal S4x8192x512 .f32 := extractStridedSlice S4x8192x512 ![0, 0, 1280] p slices_S4x8192x3140_S4x8192x512_0_0_1280

/-- The keys' columns. -/
def colsK (p : FVec Ideal S4x8192x3140 .f32) : FVec Ideal S4x8192x512 .f32 := extractStridedSlice S4x8192x512 ![0, 0, 1792] p slices_S4x8192x3140_S4x8192x512_0_0_1792

/-- The values' columns. -/
def colsV (p : FVec Ideal S4x8192x3140 .f32) : FVec Ideal S4x8192x512 .f32 := extractStridedSlice S4x8192x512 ![0, 0, 2304] p slices_S4x8192x3140_S4x8192x512_0_0_2304

/-- The indexer's queries' columns. -/
def colsQi (p : FVec Ideal S4x8192x3140 .f32) : FVec Ideal S4x8192x256 .f32 := extractStridedSlice S4x8192x256 ![0, 0, 2816] p slices_S4x8192x3140_S4x8192x256_0_0_2816

/-- The indexer's keys' columns. -/
def colsKi (p : FVec Ideal S4x8192x3140 .f32) : FVec Ideal S4x8192x64 .f32 := extractStridedSlice S4x8192x64 ![0, 0, 3072] p slices_S4x8192x3140_S4x8192x64_0_0_3072

/-- The indexer's head weights' columns. -/
def colsWi (p : FVec Ideal S4x8192x3140 .f32) : FVec Ideal S4x8192x4 .f32 := extractStridedSlice S4x8192x4 ![0, 0, 3136] p slices_S4x8192x3140_S4x8192x4_0_0_3136

/-- Rows laid across the positions, scaled. -/
def outQ (v : FVec Ideal S4x8192x512 .f32) : FVec Ideal S4x512x8192 .bf16 :=
  truncf .bf16 (mulf (transpose S4x512x8192 [0, 2, 1] v transposes_S4x8192x512_S4x512x8192_0_2_1)
    (broadcastInDim S4x512x8192 ![] bcast_S_S4x512x8192 (constant S_ .f32 0x3E38AA3B#32))) bitsLt_bf16_f32

/-- Rows rounded. -/
def outK (v : FVec Ideal S4x8192x512 .f32) : FVec Ideal S4x8192x512 .bf16 := truncf .bf16 v bitsLt_bf16_f32

/-- Rows of 128 rounded. -/
def outKb (v : FVec Ideal S4x8192x128 .f32) : FVec Ideal S4x8192x128 .bf16 := truncf .bf16 v bitsLt_bf16_f32

/-- Rows 512 positions at a time, laid across the positions. -/
def outV (v : FVec Ideal S4x8192x512 .f32) : FVec Ideal S4x16x512x512 .bf16 :=
  truncf .bf16 (transpose S4x16x512x512 [0, 1, 3, 2] (shapeCast S4x16x512x512 v shapeCasts_S4x8192x512_S4x16x512x512)
    transposes_S4x16x512x512_S4x16x512x512_0_1_3_2) bitsLt_bf16_f32

/-- Rows laid across the positions. -/
def outQi (v : FVec Ideal S4x8192x256 .f32) : FVec Ideal S4x256x8192 .bf16 :=
  truncf .bf16 (transpose S4x256x8192 [0, 2, 1] v transposes_S4x8192x256_S4x256x8192_0_2_1) bitsLt_bf16_f32

/-- Keys, head weights beside them, and zeros to the width of 128. -/
def beside (k : FVec Ideal S4x8192x64 .f32) (w : FVec Ideal S4x8192x4 .f32) : FVec Ideal S4x8192x128 .f32 :=
  concatenate S4x8192x128 2 [⟨S4x8192x64, k⟩, ⟨S4x8192x4, w⟩,
    ⟨S4x8192x60, broadcastInDim S4x8192x60 ![] bcast_S_S4x8192x60 (constant S_ .f32 0x00000000#32)⟩]
    concatenates_S4x8192x64_S4x8192x4_S4x8192x60_S4x8192x128_d2

/-- Rows of 128 laid across the positions. -/
def outKi (v : FVec Ideal S4x8192x128 .f32) : FVec Ideal S4x128x8192 .f32 :=
  transpose S4x128x8192 [0, 2, 1] v transposes_S4x8192x128_S4x128x8192_0_2_1

/-- The queries, turned, scaled, and laid across the positions. -/
def queries (p : FVec Ideal S4x8192x3140 .f32) (cos sin : FVec Ideal S4x8192x32 .f32) : FVec Ideal S4x512x8192 .bf16 :=
  outQ (merge8 (turn8 (split8 (colsQ p)) cos sin))

/-- The keys, turned. -/
def keys (p : FVec Ideal S4x8192x3140 .f32) (cos sin : FVec Ideal S4x8192x32 .f32) : FVec Ideal S4x8192x512 .bf16 :=
  outK (merge8 (turn8 (split8 (colsK p)) cos sin))

/-- The values, 512 positions at a time, laid across the positions. -/
def values (p : FVec Ideal S4x8192x3140 .f32) : FVec Ideal S4x16x512x512 .bf16 := outV (colsV p)

/-- The indexer's queries, turned, laid across the positions. -/
def idxQueries (p : FVec Ideal S4x8192x3140 .f32) (cos sin : FVec Ideal S4x8192x32 .f32) : FVec Ideal S4x256x8192 .bf16 :=
  outQi (merge4 (turn4 (split4 (colsQi p)) cos sin))

/-- The indexer's keys, turned, its head weights beside them, and zeros to the width of 128. -/
def idxKeys (p : FVec Ideal S4x8192x3140 .f32) (cos sin : FVec Ideal S4x8192x32 .f32) : FVec Ideal S4x8192x128 .f32 :=
  beside (merge1 (turn1 (split1 (colsKi p)) cos sin)) (colsWi p)

variable (m : (ℓ : Loc nD τ sig) → Buf (Elt Ideal) ℓ) (c : Dev nD)

/-- The projection on this memory's arguments. -/
def P : FVec Ideal S4x8192x3140 .f32 := proj (norm (m (c.tc.loc main_arg0)) (m (c.tc.loc main_arg1))) (m (c.tc.loc main_arg2))

set_option maxHeartbeats 1000000 in
/-- What the run leaves as the queries. -/
theorem queries_eq : Cert.ProjRefIdeal.Value.res_main_v92 m c = queries (P m c) (m (c.tc.loc main_arg3)) (m (c.tc.loc main_arg4)) := rfl

set_option maxHeartbeats 1000000 in
/-- What the run leaves as the keys. -/
theorem keys_eq : Cert.ProjRefIdeal.Value.res_main_v94 m c = keys (P m c) (m (c.tc.loc main_arg3)) (m (c.tc.loc main_arg4)) := rfl

set_option maxHeartbeats 1000000 in
/-- What the run leaves as the indexer's queries. -/
theorem idxQueries_eq : Cert.ProjRefIdeal.Value.res_main_v100 m c = idxQueries (P m c) (m (c.tc.loc main_arg3)) (m (c.tc.loc main_arg4)) := rfl

set_option maxHeartbeats 1000000 in
/-- What the run leaves as the indexer's keys. -/
theorem idxKeys_eq : Cert.ProjRefIdeal.Value.res_main_v101 m c
    = outKb (idxKeys (P m c) (m (c.tc.loc main_arg3)) (m (c.tc.loc main_arg4))) := rfl

set_option maxHeartbeats 1000000 in
/-- What the run leaves as the indexer's keys laid across the positions, not rounded. -/
theorem idxKeysAcross_eq : Cert.ProjRefIdeal.Value.res_main_v102 m c
    = outKi (idxKeys (P m c) (m (c.tc.loc main_arg3)) (m (c.tc.loc main_arg4))) := rfl

end Cert.ProjRefIdeal.Hand

end
-- ==== Proof.ProjRefAt.lean ====
/- The reference's rotary turn and its results, read at an index. -/
module

public import proofs.«01_k».proof.Defs
public import proofs.«01_k».proof.Proof.ProjRef
public import Idealize.ShloMosaic.Lib.Pointwise

@[expose] public section

set_option maxRecDepth 16384

noncomputable section

open Idealize.ShloMosaic Idealize.ShloMosaic.TcCoe Idealize.SL.Sem

namespace Cert.ProjRefIdeal.Hand

open Cert.ProjRefIdeal Cert.ProjRefIdeal.Gen

/-- One lane of a rotary turn: lane `d` of a head with lanes `a`, at a position with cosines `c` and sines `s`. -/
def lane (a : Fin 64 → EReal) (c s : Fin 32 → EReal) (d : Fin 64) : EReal :=
  if h : d.val < 32 then a d * c ⟨d.val, h⟩ - a ⟨d.val + 32, by omega⟩ * s ⟨d.val, h⟩
  else a d * c ⟨d.val - 32, by omega⟩ + a ⟨d.val - 32, by omega⟩ * s ⟨d.val - 32, by omega⟩

variable (cos sin : FVec Ideal S4x8192x32 .f32)

/-- Eight heads' turn at an index. -/
theorem turn8_at (t : FVec Ideal S4x8192x8x64 .f32) (b : Fin 4) (S : Fin 8192) (h : Fin 8) (d : Fin 64) :
    turn8 t cos sin (ix4 b S h d) = lane (fun d => t (ix4 b S h d)) (fun d => cos (ix3 b S d)) (fun d => sin (ix3 b S d)) d := by
  pointwise [turn8, lane]
  by_cases hd : d.val < 32
  · simp only [dif_pos hd, Nat.add_comm 32]
  · have e : 32 + (d.val - 32) = d.val := by omega
    simp only [dif_neg hd, e]

/-- Four heads' turn at an index. -/
theorem turn4_at (t : FVec Ideal S4x8192x4x64 .f32) (b : Fin 4) (S : Fin 8192) (h : Fin 4) (d : Fin 64) :
    turn4 t cos sin (ix4 b S h d) = lane (fun d => t (ix4 b S h d)) (fun d => cos (ix3 b S d)) (fun d => sin (ix3 b S d)) d := by
  pointwise [turn4, lane]
  by_cases hd : d.val < 32
  · simp only [dif_pos hd, Nat.add_comm 32]
  · have e : 32 + (d.val - 32) = d.val := by omega
    simp only [dif_neg hd, e]

/-- One head's turn at an index. -/
theorem turn1_at (t : FVec Ideal S4x8192x1x64 .f32) (b : Fin 4) (S : Fin 8192) (h : Fin 1) (d : Fin 64) :
    turn1 t cos sin (ix4 b S h d) = lane (fun d => t (ix4 b S h d)) (fun d => cos (ix3 b S d)) (fun d => sin (ix3 b S d)) d := by
  obtain rfl : h = 0 := Subsingleton.elim _ _
  pointwise [turn1, lane]
  by_cases hd : d.val < 32
  · simp only [dif_pos hd, Nat.add_comm 32]
  · have e : 32 + (d.val - 32) = d.val := by omega
    simp only [dif_neg hd, e]

omit cos sin in
/-- Lane `h * 64 + d` is lane `d` of head `h`. -/
theorem split8_at (u : FVec Ideal S4x8192x512 .f32) (b : Fin 4) (S : Fin 8192) (h : Fin 8) (d : Fin 64) :
    split8 u (ix4 b S h d) = u (ix3 b S ⟨h.val * 64 + d.val, by omega⟩) := by
  pointwise [split8]

omit cos sin in
/-- Lane `l` is lane `l % 64` of head `l / 64`. -/
theorem merge8_at (u : FVec Ideal S4x8192x8x64 .f32) (b : Fin 4) (S : Fin 8192) (l : Fin 512) :
    merge8 u (ix3 b S l) = u (ix4 b S ⟨l.val / 64, by omega⟩ ⟨l.val % 64, by omega⟩) := by
  pointwise [merge8]

omit cos sin in
/-- Lane `h * 64 + d` is lane `d` of head `h`. -/
theorem split4_at (u : FVec Ideal S4x8192x256 .f32) (b : Fin 4) (S : Fin 8192) (h : Fin 4) (d : Fin 64) :
    split4 u (ix4 b S h d) = u (ix3 b S ⟨h.val * 64 + d.val, by omega⟩) := by
  pointwise [split4]

omit cos sin in
/-- Lane `l` is lane `l % 64` of head `l / 64`. -/
theorem merge4_at (u : FVec Ideal S4x8192x4x64 .f32) (b : Fin 4) (S : Fin 8192) (l : Fin 256) :
    merge4 u (ix3 b S l) = u (ix4 b S ⟨l.val / 64, by omega⟩ ⟨l.val % 64, by omega⟩) := by
  pointwise [merge4]

omit cos sin in
/-- The one head's lanes. -/
theorem split1_at (u : FVec Ideal S4x8192x64 .f32) (b : Fin 4) (S : Fin 8192) (h : Fin 1) (d : Fin 64) :
    split1 u (ix4 b S h d) = u (ix3 b S d) := by
  pointwise [split1]

omit cos sin in
/-- The lanes' one head. -/
theorem merge1_at (u : FVec Ideal S4x8192x1x64 .f32) (b : Fin 4) (S : Fin 8192) (l : Fin 64) :
    merge1 u (ix3 b S l) = u (ix4 b S 0 l) := by
  pointwise [merge1]

omit cos sin in
/-- The slice's columns are the projection's. -/
theorem colsQ_at (p : FVec Ideal S4x8192x3140 .f32) (b : Fin 4) (S : Fin 8192) (l : Fin 512) :
    colsQ p (ix3 b S l) = p (ix3 b S ⟨1280 + l.val, by omega⟩) := by
  pointwise [colsQ]

omit cos sin in
/-- The slice's columns are the projection's. -/
theorem colsK_at (p : FVec Ideal S4x8192x3140 .f32) (b : Fin 4) (S : Fin 8192) (l : Fin 512) :
    colsK p (ix3 b S l) = p (ix3 b S ⟨1792 + l.val, by omega⟩) := by
  pointwise [colsK]

omit cos sin in
/-- The slice's columns are the projection's. -/
theorem colsV_at (p : FVec Ideal S4x8192x3140 .f32) (b : Fin 4) (S : Fin 8192) (l : Fin 512) :
    colsV p (ix3 b S l) = p (ix3 b S ⟨2304 + l.val, by omega⟩) := by
  pointwise [colsV]

omit cos sin in
/-- The slice's columns are the projection's. -/
theorem colsQi_at (p : FVec Ideal S4x8192x3140 .f32) (b : Fin 4) (S : Fin 8192) (l : Fin 256) :
    colsQi p (ix3 b S l) = p (ix3 b S ⟨2816 + l.val, by omega⟩) := by
  pointwise [colsQi]

omit cos sin in
/-- The slice's columns are the projection's. -/
theorem colsKi_at (p : FVec Ideal S4x8192x3140 .f32) (b : Fin 4) (S : Fin 8192) (l : Fin 64) :
    colsKi p (ix3 b S l) = p (ix3 b S ⟨3072 + l.val, by omega⟩) := by
  pointwise [colsKi]

omit cos sin in
/-- The slice's columns are the projection's. -/
theorem colsWi_at (p : FVec Ideal S4x8192x3140 .f32) (b : Fin 4) (S : Fin 8192) (l : Fin 4) :
    colsWi p (ix3 b S l) = p (ix3 b S ⟨3136 + l.val, by omega⟩) := by
  pointwise [colsWi]

omit cos sin in
/-- Position and lane change places, and the scale comes in. -/
theorem outQ_at (v : FVec Ideal S4x8192x512 .f32) (b : Fin 4) (l : Fin 512) (S : Fin 8192) :
    outQ v (ix3 b l S) = v (ix3 b S l) * Scalar.ofBits (F := Ideal) .f32 0x3E38AA3B#32 := by
  pointwise [outQ]

omit cos sin in
/-- Position and lane change places within 512 positions. -/
theorem outV_at (v : FVec Ideal S4x8192x512 .f32) (b : Fin 4) (i : Fin 16) (l r : Fin 512) :
    outV v (ix4 b i l r) = v (ix3 b ⟨i.val * 512 + r.val, by omega⟩ l) := by
  pointwise [outV]

omit cos sin in
/-- Position and lane change places. -/
theorem outQi_at (v : FVec Ideal S4x8192x256 .f32) (b : Fin 4) (l : Fin 256) (S : Fin 8192) :
    outQi v (ix3 b l S) = v (ix3 b S l) := by
  pointwise [outQi]

omit cos sin in
/-- Position and lane change places. -/
theorem outKi_at (v : FVec Ideal S4x8192x128 .f32) (b : Fin 4) (l : Fin 128) (S : Fin 8192) :
    outKi v (ix3 b l S) = v (ix3 b S l) := by
  pointwise [outKi]

omit cos sin in
/-- Rounding keeps a row's entries. -/
theorem outK_at (v : FVec Ideal S4x8192x512 .f32) (b : Fin 4) (S : Fin 8192) (l : Fin 512) :
    outK v (ix3 b S l) = v (ix3 b S l) := by
  pointwise [outK]

omit cos sin in
/-- Rounding keeps a row's entries. -/
theorem outKb_at (v : FVec Ideal S4x8192x128 .f32) (b : Fin 4) (S : Fin 8192) (l : Fin 128) :
    outKb v (ix3 b S l) = v (ix3 b S l) := by
  pointwise [outKb]

omit cos sin in
/-- Which part a lane comes from. -/
theorem beside_at (k : FVec Ideal S4x8192x64 .f32) (w : FVec Ideal S4x8192x4 .f32) (b : Fin 4) (S : Fin 8192) (l : Fin 128) :
    beside k w (ix3 b S l) = if h : l.val < 64 then k (ix3 b S ⟨l.val, h⟩) else if h : l.val - 64 < 4 then w (ix3 b S ⟨l.val - 64, h⟩) else 0 := by
  pointwise [beside]

variable (p : FVec Ideal S4x8192x3140 .f32)

/-- The queries at an index. -/
theorem queries_at (b : Fin 4) (l : Fin 512) (S : Fin 8192) :
    queries p cos sin (ix3 b l S) = lane (fun d => p (ix3 b S ⟨1280 + (l.val / 64 * 64 + d.val), by omega⟩)) (fun d => cos (ix3 b S d))
      (fun d => sin (ix3 b S d)) ⟨l.val % 64, by omega⟩ * Scalar.ofBits (F := Ideal) .f32 0x3E38AA3B#32 := by
  rw [queries, outQ_at, merge8_at, turn8_at]
  simp only [split8_at, colsQ_at]

/-- The keys at an index. -/
theorem keys_at (b : Fin 4) (l : Fin 512) (S : Fin 8192) :
    keys p cos sin (ix3 b S l) = lane (fun d => p (ix3 b S ⟨1792 + (l.val / 64 * 64 + d.val), by omega⟩)) (fun d => cos (ix3 b S d))
      (fun d => sin (ix3 b S d)) ⟨l.val % 64, by omega⟩ := by
  rw [keys, outK_at, merge8_at, turn8_at]
  simp only [split8_at, colsK_at]

omit cos sin in
/-- The values at an index. -/
theorem values_at (b : Fin 4) (i : Fin 16) (l : Fin 512) (r : Fin 512) :
    values p (ix4 b i l r) = p (ix3 b ⟨i.val * 512 + r.val, by omega⟩ ⟨2304 + l.val, by omega⟩) := by
  rw [values, outV_at, colsV_at]

/-- The indexer's queries at an index. -/
theorem idxQueries_at (b : Fin 4) (l : Fin 256) (S : Fin 8192) :
    idxQueries p cos sin (ix3 b l S) = lane (fun d => p (ix3 b S ⟨2816 + (l.val / 64 * 64 + d.val), by omega⟩)) (fun d => cos (ix3 b S d))
      (fun d => sin (ix3 b S d)) ⟨l.val % 64, by omega⟩ := by
  rw [idxQueries, outQi_at, merge4_at, turn4_at]
  simp only [split4_at, colsQi_at]

/-- The indexer's keys, weights and zeros at an index. -/
theorem idxKeys_at (b : Fin 4) (l : Fin 128) (S : Fin 8192) :
    idxKeys p cos sin (ix3 b S l) = if h : l.val < 64 then lane (fun d => p (ix3 b S ⟨3072 + d.val, by omega⟩)) (fun d => cos (ix3 b S d))
      (fun d => sin (ix3 b S d)) ⟨l.val, h⟩ else if h : l.val - 64 < 4 then p (ix3 b S ⟨3136 + (l.val - 64), by omega⟩) else 0 := by
  rw [idxKeys, beside_at]
  simp only [merge1_at, turn1_at, split1_at, colsKi_at, colsWi_at]

end Cert.ProjRefIdeal.Hand

end
-- ==== Proof.ProjMath.lean ====
/- The body's projections and rotary turns, read at an index of the block: each stored piece in terms of the block's normalised rows,
   its columns of the weights, and its rows of the two rope tables. -/
module

public import proofs.«01_k».proof.Defs
public import proofs.«01_k».proof.Proof.Gen.ProjIdeal.Skeleton
public import Idealize.ShloMosaic.Lib.Pointwise

@[expose] public section

set_option maxRecDepth 16384

noncomputable section

open Idealize.ShloMosaic Idealize.ShloMosaic.TcCoe Idealize.SL.Sem

namespace Cert.ProjIdeal.Hand

open Cert.ProjIdeal Cert.ProjIdeal.Gen

/-- Which lanes are in the first half of their head. -/
def mask : IVec S512x128 1 := k0_pay9 64#32 k0_pay7 k0_pay8

/-- The mask at a lane. -/
theorem mask_at (r : Fin 512) (l : Fin 128) : mask (ix2 r l) = if l.val % 64 < 32 then 1#1 else 0#1 := by
  pointwise [mask, k0_pay9, k0_pay7, k0_pay8]
  revert l
  decide +kernel

/-- One lane of the kernel's rotary turn, from the 128 lanes `a` of two heads and the position's entry of both tables. -/
def rolled (a : Fin 128 → EReal) (c s : EReal) (l : Fin 128) : EReal :=
  a l * c + Scalar.select (if l.val % 64 < 32 then 1#1 else 0#1) (a ⟨(l.val + 128 - 96) % 128, by omega⟩) (a ⟨(l.val + 128 - 32) % 128, by omega⟩) * s

/-- The block's rows times the queries' columns. -/
theorem cols136 (h : FVec Ideal S512x1024 .bf16) (w : Vec Ideal S1024x512 .bf16) (r : Fin 512) (n : Fin 512) :
    k0_pay136 h w (ix2 r n)
      = ∑ k : Fin 1024, h (ix2 r k) * w (ix2 k n) := by
  pointwise [k0_pay136]

/-- The block's rows times the keys' columns. -/
theorem cols145 (h : FVec Ideal S512x1024 .bf16) (w : Vec Ideal S1024x512 .bf16) (r : Fin 512) (n : Fin 512) :
    k0_pay145 h w (ix2 r n)
      = ∑ k : Fin 1024, h (ix2 r k) * w (ix2 k n) := by
  pointwise [k0_pay145]

/-- The block's rows times the indexer's queries' columns. -/
theorem cols153 (h : FVec Ideal S512x1024 .bf16) (w : Vec Ideal S1024x256 .bf16) (r : Fin 512) (n : Fin 256) :
    k0_pay153 h w (ix2 r n)
      = ∑ k : Fin 1024, h (ix2 r k) * w (ix2 k n) := by
  pointwise [k0_pay153]

/-- Queries, heads 0 and 1. -/
theorem q0 (h : FVec Ideal S512x1024 .bf16) (c s : FVec Ideal S512x128 .f32) (w : Vec Ideal S1024x512 .bf16) (l : Fin 128) (r : Fin 512) :
    k0_pay138 (k0_pay137 h c s mask w) (Scalar.ofBits (F := Ideal) .f32 0x3E38AA3B#32) (ix3 0 l r)
      = rolled (fun n => k0_pay136 h w (ix2 r ⟨n.val, by omega⟩)) (c (ix2 r l)) (s (ix2 r l)) l * Scalar.ofBits (F := Ideal) .f32 0x3E38AA3B#32 := by
  pointwise [k0_pay138, k0_pay137, mask_at, rolled]

/-- Queries, heads 2 and 3. -/
theorem q1 (t : FVec Ideal S512x512 .f32) (c s : FVec Ideal S512x128 .f32) (l : Fin 128) (r : Fin 512) :
    k0_pay139 c s mask t (ix3 0 l r)
      = rolled (fun n => t (ix2 r ⟨128 + n.val, by omega⟩)) (c (ix2 r l)) (s (ix2 r l)) l * Scalar.ofBits (F := Ideal) .f32 0x3E38AA3B#32 := by
  pointwise [k0_pay139, mask_at, rolled]

/-- Queries, heads 4 and 5. -/
theorem q2 (t : FVec Ideal S512x512 .f32) (c s : FVec Ideal S512x128 .f32) (l : Fin 128) (r : Fin 512) :
    k0_pay140 c s mask t (ix3 0 l r)
      = rolled (fun n => t (ix2 r ⟨256 + n.val, by omega⟩)) (c (ix2 r l)) (s (ix2 r l)) l * Scalar.ofBits (F := Ideal) .f32 0x3E38AA3B#32 := by
  pointwise [k0_pay140, mask_at, rolled]

/-- Queries, heads 6 and 7. -/
theorem q3 (t : FVec Ideal S512x512 .f32) (c s : FVec Ideal S512x128 .f32) (l : Fin 128) (r : Fin 512) :
    k0_pay144 s (k0_pay142 mask t) (k0_pay143 c t) (ix3 0 l r)
      = rolled (fun n => t (ix2 r ⟨384 + n.val, by omega⟩)) (c (ix2 r l)) (s (ix2 r l)) l * Scalar.ofBits (F := Ideal) .f32 0x3E38AA3B#32 := by
  pointwise [k0_pay144, k0_pay143, k0_pay142, k0_pay141, mask_at, rolled]

/-- Keys, heads 0 and 1. -/
theorem k0 (h : FVec Ideal S512x1024 .bf16) (c s : FVec Ideal S512x128 .f32) (w : Vec Ideal S1024x512 .bf16) (l : Fin 128) (r : Fin 512) :
    k0_pay146 h c s mask w (ix3 0 r l)
      = rolled (fun n => k0_pay145 h w (ix2 r ⟨n.val, by omega⟩)) (c (ix2 r l)) (s (ix2 r l)) l := by
  pointwise [k0_pay146, mask_at, rolled]

/-- Keys, heads 2 and 3. -/
theorem k1 (h : FVec Ideal S512x1024 .bf16) (c s : FVec Ideal S512x128 .f32) (w : Vec Ideal S1024x512 .bf16) (l : Fin 128) (r : Fin 512) :
    k0_pay147 h c s mask w (ix3 0 r l)
      = rolled (fun n => k0_pay145 h w (ix2 r ⟨128 + n.val, by omega⟩)) (c (ix2 r l)) (s (ix2 r l)) l := by
  pointwise [k0_pay147, mask_at, rolled]

/-- Keys, heads 4 and 5. -/
theorem k2 (h : FVec Ideal S512x1024 .bf16) (c s : FVec Ideal S512x128 .f32) (w : Vec Ideal S1024x512 .bf16) (l : Fin 128) (r : Fin 512) :
    k0_pay150 c s (k0_pay148 h w) (k0_pay149 h mask w) (ix3 0 r l)
      = rolled (fun n => k0_pay145 h w (ix2 r ⟨256 + n.val, by omega⟩)) (c (ix2 r l)) (s (ix2 r l)) l := by
  pointwise [k0_pay150, k0_pay149, k0_pay148, mask_at, rolled]

/-- Keys, heads 6 and 7. -/
theorem k3 (t : FVec Ideal S512x512 .f32) (c s : FVec Ideal S512x128 .f32) (l : Fin 128) (r : Fin 512) :
    k0_pay151 c s mask t (ix3 0 r l)
      = rolled (fun n => t (ix2 r ⟨384 + n.val, by omega⟩)) (c (ix2 r l)) (s (ix2 r l)) l := by
  pointwise [k0_pay151, mask_at, rolled]

/-- Values, laid across the positions. -/
theorem v0 (h : FVec Ideal S512x1024 .bf16)  (w : Vec Ideal S1024x512 .bf16) (l r : Fin 512) :
    k0_pay152 h w (ix4 0 0 l r)
      = ∑ k : Fin 1024, h (ix2 r k) * w (ix2 k l) := by
  pointwise [k0_pay152]

/-- Indexer's queries, heads 0 and 1. -/
theorem qi0 (h : FVec Ideal S512x1024 .bf16) (c s : FVec Ideal S512x128 .f32) (w : Vec Ideal S1024x256 .bf16) (l : Fin 128) (r : Fin 512) :
    k0_pay155 (k0_pay154 h c s mask w) (ix3 0 l r)
      = rolled (fun n => k0_pay153 h w (ix2 r ⟨n.val, by omega⟩)) (c (ix2 r l)) (s (ix2 r l)) l := by
  pointwise [k0_pay155, k0_pay154, mask_at, rolled]

/-- Indexer's queries, heads 2 and 3. -/
theorem qi1 (t : FVec Ideal S512x256 .f32) (c s : FVec Ideal S512x128 .f32) (l : Fin 128) (r : Fin 512) :
    k0_pay156 c s mask t (ix3 0 l r)
      = rolled (fun n => t (ix2 r ⟨128 + n.val, by omega⟩)) (c (ix2 r l)) (s (ix2 r l)) l := by
  pointwise [k0_pay156, mask_at, rolled]

/-- The indexer's keys and head weights: below lane 64 the turn, above it the projection itself. -/
theorem kidx (h : FVec Ideal S512x1024 .bf16) (c s : FVec Ideal S512x128 .f32) (w : Vec Ideal S1024x128 .bf16) (l : Fin 128) (r : Fin 512) :
    k0_pay157 h c s (iota .tc S512x128 32 [1] iota_S512x128_d1_w32) mask w (ix2 r l)
      = if l.val < 64 then rolled (fun n => ∑ k : Fin 1024, h (ix2 r k) * w (ix2 k n)) (c (ix2 r l)) (s (ix2 r l)) l
        else ∑ k : Fin 1024, h (ix2 r k) * w (ix2 k l) := by
  pointwise [k0_pay157, mask_at, rolled]
  have e : IntOp.cmpi CmpIPredicate.slt (BitVec.ofNat 32 l.val) 64#32 = if l.val < 64 then 1#1 else 0#1 := by
    clear h c s w r
    revert l
    decide +kernel
  rw [e]
  by_cases hl : l.val < 64
  · simp only [if_pos hl]
    rfl
  · simp only [if_neg hl]
    change (∑ x : Fin 1024, h (ix2 r x) * w (ix2 x l)) * 1 + 0 = _
    rw [mul_one, add_zero]

/-- The indexer's keys and head weights as stored by rows. -/
theorem kidxRows (h : FVec Ideal S512x1024 .bf16) (c s : FVec Ideal S512x128 .f32) (i : IVec S512x128 32) (w : Vec Ideal S1024x128 .bf16) (l : Fin 128) (r : Fin 512) :
    k0_pay158 h c s i mask w (ix3 0 r l) = k0_pay157 h c s i mask w (ix2 r l) := by
  pointwise [k0_pay158]

/-- The indexer's keys and head weights as stored across the positions. -/
theorem kidxAcross (h : FVec Ideal S512x1024 .bf16) (c s : FVec Ideal S512x128 .f32) (i : IVec S512x128 32) (w : Vec Ideal S1024x128 .bf16) (l : Fin 128) (r : Fin 512) :
    k0_pay1 (k0_pay159 h c s i mask w) (ix3 0 l r) = k0_pay157 h c s i mask w (ix2 r l) := by
  pointwise [k0_pay1, k0_pay159]

end Cert.ProjIdeal.Hand

end
-- ==== Proof.ProjBlocks.lean ====
/- The blocks the input projection's grid points read, in terms of the arguments: which rows, which rope entries, which columns of the
   weights; the block's normalised rows and its projection are the reference's. -/
module

public import proofs.«01_k».proof.Defs
public import proofs.«01_k».proof.Proof.Gen.ProjIdeal.Value
public import proofs.«01_k».proof.Proof.ProjRefAt
public import proofs.«01_k».proof.Proof.ProjMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Hand

open Cert.ProjIdeal Cert.ProjIdeal.Gen

variable (m : (ℓ : Loc nD τ sig) → Buf (Elt Ideal) ℓ)

/-- Where each window stands at grid point `t`: block `t` of the rows and of the rope tables, the gain and the weights whole, and the results' block of 512 positions. -/
theorem idx : ∀ t : Fin cfg0.N,
    (win0_0.index t 0 = t.val ∧ win0_0.index t 1 = 0) ∧ (win0_1.index t 0 = 0 ∧ win0_1.index t 1 = 0) ∧
    (win0_2.index t 0 = 0 ∧ win0_2.index t 1 = 0) ∧ (win0_3.index t 0 = t.val ∧ win0_3.index t 1 = 0) ∧
    (win0_4.index t 0 = t.val ∧ win0_4.index t 1 = 0) ∧ (win0_11.index t 0 = t.val / 16 ∧ win0_11.index t 1 = 0 ∧ win0_11.index t 2 = t.val % 16) ∧
    (win0_12.index t 0 = t.val / 16 ∧ win0_12.index t 1 = t.val % 16 ∧ win0_12.index t 2 = 0) ∧
    (win0_13.index t 0 = t.val / 16 ∧ win0_13.index t 1 = t.val % 16 ∧ win0_13.index t 2 = 0 ∧ win0_13.index t 3 = 0) ∧
    (win0_14.index t 0 = t.val / 16 ∧ win0_14.index t 1 = 0 ∧ win0_14.index t 2 = t.val % 16) ∧
    (win0_15.index t 0 = t.val / 16 ∧ win0_15.index t 1 = t.val % 16 ∧ win0_15.index t 2 = 0) ∧
    (win0_16.index t 0 = t.val / 16 ∧ win0_16.index t 1 = 0 ∧ win0_16.index t 2 = t.val % 16) :=
  (by decide +kernel : ∀ t : Fin grid0.N,
    (win0_0.index t 0 = t.val ∧ win0_0.index t 1 = 0) ∧ (win0_1.index t 0 = 0 ∧ win0_1.index t 1 = 0) ∧
    (win0_2.index t 0 = 0 ∧ win0_2.index t 1 = 0) ∧ (win0_3.index t 0 = t.val ∧ win0_3.index t 1 = 0) ∧
    (win0_4.index t 0 = t.val ∧ win0_4.index t 1 = 0) ∧ (win0_11.index t 0 = t.val / 16 ∧ win0_11.index t 1 = 0 ∧ win0_11.index t 2 = t.val % 16) ∧
    (win0_12.index t 0 = t.val / 16 ∧ win0_12.index t 1 = t.val % 16 ∧ win0_12.index t 2 = 0) ∧
    (win0_13.index t 0 = t.val / 16 ∧ win0_13.index t 1 = t.val % 16 ∧ win0_13.index t 2 = 0 ∧ win0_13.index t 3 = 0) ∧
    (win0_14.index t 0 = t.val / 16 ∧ win0_14.index t 1 = 0 ∧ win0_14.index t 2 = t.val % 16) ∧
    (win0_15.index t 0 = t.val / 16 ∧ win0_15.index t 1 = t.val % 16 ∧ win0_15.index t 2 = 0) ∧
    (win0_16.index t 0 = t.val / 16 ∧ win0_16.index t 1 = 0 ∧ win0_16.index t 2 = t.val % 16))

/-- A table with the positions end to end. -/
def flat (t : FVec Ideal S4x8192x32 .f32) : FVec Ideal S32768x32 .f32 := shapeCast S32768x32 t shapeCasts_S4x8192x32_S32768x32

/-- The rows end to end. -/
def rows (t : FVec Ideal S4x8192x1024 .f32) : FVec Ideal S32768x1024 .f32 := shapeCast S32768x1024 t shapeCasts_S4x8192x1024_S32768x1024

/-- Two tables of 32 lanes side by side, twice. -/
def tiled (a b : FVec Ideal S32768x32 .f32) : FVec Ideal S32768x128 .f32 :=
  concatenate S32768x128 1 [⟨S32768x32, a⟩, ⟨S32768x32, b⟩, ⟨S32768x32, a⟩, ⟨S32768x32, b⟩] concatenates_S32768x32_S32768x32_S32768x32_S32768x32_S32768x128_d1

/-- The weights with zero columns to the width of 3200. -/
def padded (w : FVec Ideal S1024x3140 .f32) : FVec Ideal S1024x3200 .bf16 :=
  pad S1024x3200 ![0, 0] ![0, 60] ![0, 0] (truncf .bf16 w bitsLt_bf16_f32) (sitofp .bf16 (constantI S_ 32 0#32)) pads_S1024x3140_S1024x3200_000_0600 h_S_

/-- Position `i` is position `i % 8192` of batch entry `i / 8192`. -/
theorem flat_at (t : FVec Ideal S4x8192x32 .f32) (i : Fin 32768) (l : Fin 32) :
    flat t (ix2 i l) = t (ix3 ⟨i.val / 8192, by omega⟩ ⟨i.val % 8192, by omega⟩ l) := by
  pointwise [flat]

/-- Row `i` is row `i % 8192` of batch entry `i / 8192`. -/
theorem rows_at (t : FVec Ideal S4x8192x1024 .f32) (i : Fin 32768) (l : Fin 1024) :
    rows t (ix2 i l) = t (ix3 ⟨i.val / 8192, by omega⟩ ⟨i.val % 8192, by omega⟩ l) := by
  pointwise [rows]

/-- The lanes of the two tables, each twice. -/
theorem tiled_at (a b : FVec Ideal S32768x32 .f32) (i : Fin 32768) (l : Fin 128) :
    tiled a b (ix2 i l) = if l.val % 64 < 32 then a (ix2 i ⟨l.val % 32, by omega⟩) else b (ix2 i ⟨l.val % 32, by omega⟩) := by
  pointwise [tiled]
  by_cases h0 : l.val < 32
  · have e : l.val % 32 = l.val := by omega
    have e' : l.val % 64 < 32 := by omega
    simp only [dif_pos h0, if_pos e', e]
  · by_cases h1 : l.val - 32 < 32
    · have e : l.val % 32 = l.val - 32 := by omega
      have e' : ¬ l.val % 64 < 32 := by omega
      simp only [dif_neg h0, dif_pos h1, if_neg e', e]
    · by_cases h2 : l.val - 32 - 32 < 32
      · have e : l.val % 32 = l.val - 32 - 32 := by omega
        have e' : l.val % 64 < 32 := by omega
        simp only [dif_neg h0, dif_neg h1, dif_pos h2, if_pos e', e]
      · have e : l.val % 32 = l.val - 32 - 32 - 32 := by omega
        have e' : ¬ l.val % 64 < 32 := by omega
        simp only [dif_neg h0, dif_neg h1, dif_neg h2, if_neg e', e]

/-- The weights' columns, then zeros. -/
theorem padded_at (w : FVec Ideal S1024x3140 .f32) (k : Fin 1024) (n : Fin 3200) :
    padded w (ix2 k n) = if h : n.val < 3140 then w (ix2 k ⟨n.val, h⟩) else 0 := by
  pointwise [padded]
  have e : FloatOps.sitofp (F := Ideal) FTy.bf16 0#32 = 0 := by
    change ((((0#32 : BitVec 32).toInt : ℝ)) : EReal) = 0
    simp
  rw [e]

/-- The cosines the region is entered with. -/
theorem V_cos (c : Dev nD) : (V m c main_v2 : FVec Ideal S32768x128 .f32) = tiled (flat (m (c.tc.loc main_arg3))) (flat (m (c.tc.loc main_arg3))) := rfl
/-- The sines the region is entered with. -/
theorem V_sin (c : Dev nD) : (V m c main_v4 : FVec Ideal S32768x128 .f32) = tiled (Host.negf (flat (m (c.tc.loc main_arg4)))) (flat (m (c.tc.loc main_arg4))) := rfl
/-- The weights the region is entered with. -/
theorem V_w (c : Dev nD) : (V m c main_v8 : FVec Ideal S1024x3200 .bf16) = padded (m (c.tc.loc main_arg2)) := rfl
/-- The rows the region is entered with. -/
theorem V_x (c : Dev nD) : (V m c main_v5 : FVec Ideal S32768x1024 .f32) = rows (m (c.tc.loc main_arg0)) := rfl
/-- The gain the region is entered with. -/
theorem V_g (c : Dev nD) : (V m c main_v6 : FVec Ideal S1x1024 .f32) = shapeCast S1x1024 (m (c.tc.loc main_arg1)) shapeCasts_S1024_S1x1024 := rfl

/-- The batch entry grid point `t` works on. -/
def bat (t : Fin cfg0.N) : Fin 4 := ⟨t.val / 16, by have h : t.val < 64 := t.isLt; omega⟩

/-- The position of row `r` of grid point `t`. -/
def pos (t : Fin cfg0.N) (r : Fin 512) : Fin 8192 := ⟨t.val % 16 * 512 + r.val, by omega⟩

variable (c : Dev nD) (t : Fin cfg0.N)

/-- The block of rows. -/
theorem blk_x (r : Fin 512) (k : Fin 1024) : iblk m c 0 t (ix2 r k) = m (c.tc.loc main_arg0) (ix3 (bat t) (pos t r) k) := by
  have ht : t.val < 64 := t.isLt
  have h : t.val * 512 + r.val < 32768 := by omega
  have e : (win0_0.blk t).view.emb (ix2 r k) = (ix2 ⟨t.val * 512 + r.val, h⟩ k : S32768x1024.Idx) := by
    blk_ext [idx t]
  change V m c main_v5 ((win0_0.blk t).view.emb (ix2 r k)) = _
  rw [e, V_x, rows_at]
  congr 2
  · exact Fin.ext (show (t.val * 512 + r.val) / 8192 = t.val / 16 by omega)
  · exact Fin.ext (show (t.val * 512 + r.val) % 8192 = t.val % 16 * 512 + r.val by omega)

/-- The gain. -/
theorem blk_g (k : Fin 1024) : iblk m c 1 t (ix2 0 k) = m (c.tc.loc main_arg1) (ix1 k) := by
  have e : (win0_1.blk t).view.emb (ix2 0 k) = (ix2 0 k : S1x1024.Idx) := by
    blk_ext [idx t]
  change V m c main_v6 ((win0_1.blk t).view.emb (ix2 0 k)) = _
  rw [e, V_g]
  pointwise []

/-- The block of the weights. -/
theorem blk_w (k : Fin 1024) (n : Fin 3200) : iblk m c 2 t (ix2 k n) = padded (m (c.tc.loc main_arg2)) (ix2 k n) := by
  have e : (win0_2.blk t).view.emb (ix2 k n) = (ix2 k n : S1024x3200.Idx) := by
    blk_ext [idx t]
  change V m c main_v8 ((win0_2.blk t).view.emb (ix2 k n)) = _
  rw [e, V_w]

/-- The cosines of row `r` of grid point `t`. -/
def cosAt (r : Fin 512) (d : Fin 32) : EReal := m (c.tc.loc main_arg3) (ix3 (bat t) (pos t r) d)

/-- The sines of row `r` of grid point `t`. -/
def sinAt (r : Fin 512) (d : Fin 32) : EReal := m (c.tc.loc main_arg4) (ix3 (bat t) (pos t r) d)

/-- The block of cosines: lane `l` holds entry `l % 32`. -/
theorem blk_cos (r : Fin 512) (l : Fin 128) :
    iblk m c 3 t (ix2 r l) = cosAt m c t r ⟨l.val % 32, by omega⟩ := by
  have ht : t.val < 64 := t.isLt
  have h : t.val * 512 + r.val < 32768 := by omega
  have e : (win0_3.blk t).view.emb (ix2 r l) = (ix2 ⟨t.val * 512 + r.val, h⟩ l : S32768x128.Idx) := by
    blk_ext [idx t]
  have e1 : (⟨(t.val * 512 + r.val) / 8192, by omega⟩ : Fin 4) = bat t := Fin.ext (show (t.val * 512 + r.val) / 8192 = t.val / 16 by omega)
  have e2 : (⟨(t.val * 512 + r.val) % 8192, by omega⟩ : Fin 8192) = pos t r :=
    Fin.ext (show (t.val * 512 + r.val) % 8192 = t.val % 16 * 512 + r.val by omega)
  change V m c main_v2 ((win0_3.blk t).view.emb (ix2 r l)) = _
  rw [e, V_cos, tiled_at, ite_self, flat_at, e1, e2]
  rfl

/-- The block of sines: lane `l` holds entry `l % 32`, negated in the first half of each head. -/
theorem blk_sin (r : Fin 512) (l : Fin 128) :
    iblk m c 4 t (ix2 r l) = if l.val % 64 < 32 then -(sinAt m c t r ⟨l.val % 32, by omega⟩) else sinAt m c t r ⟨l.val % 32, by omega⟩ := by
  have ht : t.val < 64 := t.isLt
  have h : t.val * 512 + r.val < 32768 := by omega
  have e : (win0_4.blk t).view.emb (ix2 r l) = (ix2 ⟨t.val * 512 + r.val, h⟩ l : S32768x128.Idx) := by
    blk_ext [idx t]
  have e1 : (⟨(t.val * 512 + r.val) / 8192, by omega⟩ : Fin 4) = bat t := Fin.ext (show (t.val * 512 + r.val) / 8192 = t.val / 16 by omega)
  have e2 : (⟨(t.val * 512 + r.val) % 8192, by omega⟩ : Fin 8192) = pos t r :=
    Fin.ext (show (t.val * 512 + r.val) % 8192 = t.val % 16 * 512 + r.val by omega)
  have en : Host.negf (F := Ideal) (flat (m (c.tc.loc main_arg4))) (ix2 ⟨t.val * 512 + r.val, h⟩ ⟨l.val % 32, by omega⟩)
      = -(flat (m (c.tc.loc main_arg4)) (ix2 ⟨t.val * 512 + r.val, h⟩ ⟨l.val % 32, by omega⟩)) := by
    pointwise []
  change V m c main_v4 ((win0_4.blk t).view.emb (ix2 r l)) = _
  rw [e, V_sin, tiled_at, en, flat_at, e1, e2]
  rfl

/-- The block's normalised rows are the reference's. -/
theorem norm_at (r : Fin 512) (k : Fin 1024) :
    k0_pay4 (iblk m c 0 t) (iblk m c 1 t) (ix2 r k)
      = Cert.ProjRefIdeal.Hand.norm (m (c.tc.loc main_arg0)) (m (c.tc.loc main_arg1)) (ix3 (bat t) (pos t r) k) := by
  pointwise [k0_pay4, Cert.ProjRefIdeal.Hand.norm]
  simp only [blk_x, blk_g]

/-- The reference's projection on this memory's arguments. -/
def P : FVec Ideal Cert.ProjRefIdeal.S4x8192x3140 .f32 :=
  Cert.ProjRefIdeal.Hand.proj (Cert.ProjRefIdeal.Hand.norm (m (c.tc.loc main_arg0)) (m (c.tc.loc main_arg1))) (m (c.tc.loc main_arg2))

/-- The block's projection is the reference's, and zero beyond its columns. -/
theorem proj_at (r : Fin 512) (n : Fin 3200) :
    (∑ k : Fin 1024, k0_pay4 (iblk m c 0 t) (iblk m c 1 t) (ix2 r k) * iblk m c 2 t (ix2 k n))
      = if h : n.val < 3140 then P m c (ix3 (bat t) (pos t r) ⟨n.val, h⟩) else 0 := by
  simp only [norm_at, blk_w, padded_at]
  by_cases h : n.val < 3140
  · simp only [dif_pos h]
    pointwise [P, Cert.ProjRefIdeal.Hand.proj]
  · simp only [dif_neg h, mul_zero, Finset.sum_const_zero]

open Cert.ProjRefIdeal.Hand (lane) in
/-- The kernel's turn of two heads, from the negated sines, is the reference's turn of each. -/
theorem rolled_lane (a : Fin 128 → EReal) (C S : Fin 32 → EReal) (l : Fin 128) :
    rolled a (C ⟨l.val % 32, by omega⟩) (if l.val % 64 < 32 then -(S ⟨l.val % 32, by omega⟩) else S ⟨l.val % 32, by omega⟩) l
      = lane (fun d => a ⟨l.val / 64 * 64 + d.val, by omega⟩) C S ⟨l.val % 64, by omega⟩ := by
  have el : l.val / 64 * 64 + l.val % 64 = l.val := by omega
  by_cases h : l.val % 64 < 32
  · have e1 : l.val % 32 = l.val % 64 := by omega
    have e2 : (l.val + 128 - 96) % 128 = l.val / 64 * 64 + (l.val % 64 + 32) := by omega
    simp only [rolled, lane, if_pos h, dif_pos h, e1, e2, el]
    change a l * C _ + a _ * -(S _) = _
    rw [mul_neg, ← sub_eq_add_neg]
  · have e1 : l.val % 32 = l.val % 64 - 32 := by omega
    have e2 : (l.val + 128 - 32) % 128 = l.val / 64 * 64 + (l.val % 64 - 32) := by omega
    simp only [rolled, lane, if_neg h, dif_neg h, e1, e2, el]
    rfl

end Cert.ProjIdeal.Hand

end
-- ==== Proof.ProjPieces.lean ====
/- The results' blocks: what each grid point stores, piece by piece, is the reference's result at the piece's place. -/
module

public import proofs.«01_k».proof.Defs
public import proofs.«01_k».proof.Proof.Gen.ProjIdeal.Value
public import proofs.«01_k».proof.Proof.ProjRefAt
public import proofs.«01_k».proof.Proof.ProjBlocks
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Hand

open Cert.ProjIdeal Cert.ProjIdeal.Gen

open Cert.ProjRefIdeal.Hand (lane queries_at keys_at values_at idxQueries_at idxKeys_at)

variable (m : (ℓ : Loc nD τ sig) → Buf (Elt Ideal) ℓ) (c : Dev nD) (t : Fin cfg0.N)

/-- The queries' columns of the block's projection. -/
theorem blkQ_at (r : Fin 512) (n : Fin 512) :
    k0_pay136 (k0_pay4 (iblk m c 0 t) (iblk m c 1 t)) (View.ld (iblk m c 2 t) (Rect.unit ![0, 1280] ![1024, 512] inb_S1024x3200_S1024x512_0_1280)) (ix2 r n)
      = P m c (ix3 (bat t) (pos t r) ⟨1280 + n.val, by omega⟩) := by
  have e : ∀ k : Fin 1024, View.ld (iblk m c 2 t) (Rect.unit ![0, 1280] ![1024, 512] inb_S1024x3200_S1024x512_0_1280) (ix2 k n)
      = iblk m c 2 t (ix2 k ⟨1280 + n.val, by omega⟩) := fun k => by pointwise []
  rw [cols136]
  simp only [e]
  exact (proj_at m c t r ⟨1280 + n.val, by omega⟩).trans (dif_pos (show 1280 + n.val < 3140 by omega))

/-- The keys' columns of the block's projection. -/
theorem blkK_at (r : Fin 512) (n : Fin 512) :
    k0_pay145 (k0_pay4 (iblk m c 0 t) (iblk m c 1 t)) (View.ld (iblk m c 2 t) (Rect.unit ![0, 1792] ![1024, 512] inb_S1024x3200_S1024x512_0_1792)) (ix2 r n)
      = P m c (ix3 (bat t) (pos t r) ⟨1792 + n.val, by omega⟩) := by
  have e : ∀ k : Fin 1024, View.ld (iblk m c 2 t) (Rect.unit ![0, 1792] ![1024, 512] inb_S1024x3200_S1024x512_0_1792) (ix2 k n)
      = iblk m c 2 t (ix2 k ⟨1792 + n.val, by omega⟩) := fun k => by pointwise []
  rw [cols145]
  simp only [e]
  exact (proj_at m c t r ⟨1792 + n.val, by omega⟩).trans (dif_pos (show 1792 + n.val < 3140 by omega))

/-- The indexer's queries' columns of the block's projection. -/
theorem blkQi_at (r : Fin 512) (n : Fin 256) :
    k0_pay153 (k0_pay4 (iblk m c 0 t) (iblk m c 1 t)) (View.ld (iblk m c 2 t) (Rect.unit ![0, 2816] ![1024, 256] inb_S1024x3200_S1024x256_0_2816)) (ix2 r n)
      = P m c (ix3 (bat t) (pos t r) ⟨2816 + n.val, by omega⟩) := by
  have e : ∀ k : Fin 1024, View.ld (iblk m c 2 t) (Rect.unit ![0, 2816] ![1024, 256] inb_S1024x3200_S1024x256_0_2816) (ix2 k n)
      = iblk m c 2 t (ix2 k ⟨2816 + n.val, by omega⟩) := fun k => by pointwise []
  rw [cols153]
  simp only [e]
  exact (proj_at m c t r ⟨2816 + n.val, by omega⟩).trans (dif_pos (show 2816 + n.val < 3140 by omega))

/-- A stored piece of turned heads: 128 lanes from lane `q` of the part of the projection that begins at column `o`. -/
theorem turned_blk (o q L : ℕ) (a : Fin 128 → EReal) (r : Fin 512) (l : Fin 128) (hq : q % 64 = 0) (hL : L = q + l.val)
    (hb : ∀ d : Fin 64, o + (L / 64 * 64 + d.val) < 3140) (ha : ∀ (n : Fin 128) (h : o + (q + n.val) < 3140), a n = P m c (ix3 (bat t) (pos t r) ⟨o + (q + n.val), h⟩)) :
    rolled a (k0_pay5 (iblk m c 3 t) (ix2 r l)) (k0_pay6 (iblk m c 4 t) (ix2 r l)) l
      = lane (fun d => P m c (ix3 (bat t) (pos t r) ⟨o + (L / 64 * 64 + d.val), hb d⟩)) (cosAt m c t r) (sinAt m c t r) ⟨L % 64, by omega⟩ := by
  have e5 : k0_pay5 (iblk m c 3 t) (ix2 r l) = iblk m c 3 t (ix2 r l) := by pointwise [k0_pay5]
  have e6 : k0_pay6 (iblk m c 4 t) (ix2 r l) = iblk m c 4 t (ix2 r l) := by pointwise [k0_pay6]
  rw [e5, e6, blk_cos, blk_sin, rolled_lane]
  have e : (⟨l.val % 64, by omega⟩ : Fin 64) = ⟨L % 64, by omega⟩ := Fin.ext (show l.val % 64 = L % 64 by omega)
  have ea : (fun d : Fin 64 => a ⟨l.val / 64 * 64 + d.val, by omega⟩) = fun d => P m c (ix3 (bat t) (pos t r) ⟨o + (L / 64 * 64 + d.val), hb d⟩) := by
    funext d
    have e2 : q + (l.val / 64 * 64 + d.val) = L / 64 * 64 + d.val := by omega
    have hd := hb d
    rw [ha _ (show o + (q + (l.val / 64 * 64 + d.val)) < 3140 by omega)]
    congr 2
    exact Fin.ext (show o + (q + (l.val / 64 * 64 + d.val)) = o + (L / 64 * 64 + d.val) by omega)
  rw [e, ea]

set_option maxHeartbeats 1000000 in
/-- The keys' block, at a point of case A. -/
theorem keys_A (h : t.val % 16 = 0) (y0 : Fin 1) (y1 : Fin 512) (y2 : Fin 512) :
    (outsAt0 m c t.val t.isLt).2.2.1 (ix3 y0 y1 y2) = Cert.ProjRefIdeal.Hand.keys (P m c) (m (c.tc.loc main_arg3)) (m (c.tc.loc main_arg4)) (ix3 (bat t) (pos t y1) y2) := by
  rw [outsAt0_A m c t h]
  generalize hz : (ix3 y0 y1 y2 : S1x512x512.Idx) = z
  frame_out
  canon_tiles x hx
  · subst hz
    idx_vars x
    obtain rfl : x0 = 0 := Subsingleton.elim _ _
    have e : y1 = x1 := Fin.ext hx1
    have e' : y2.val = 384 + x2.val := hx2
    rw [e]
    exact (k3 _ _ _ _ _).trans ((turned_blk m c t 1792 384 y2.val _ x1 x2 (by decide) e' (by omega) (fun n h => blkK_at m c t x1 ⟨384 + n.val, by omega⟩)).trans (keys_at _ _ _ _ _ _).symm)
  · subst hz
    idx_vars x
    obtain rfl : x0 = 0 := Subsingleton.elim _ _
    have e : y1 = x1 := Fin.ext hx1
    have e' : y2.val = 256 + x2.val := hx2
    rw [e]
    exact (k2 _ _ _ _ _ _).trans ((turned_blk m c t 1792 256 y2.val _ x1 x2 (by decide) e' (by omega) (fun n h => blkK_at m c t x1 ⟨256 + n.val, by omega⟩)).trans (keys_at _ _ _ _ _ _).symm)
  · subst hz
    idx_vars x
    obtain rfl : x0 = 0 := Subsingleton.elim _ _
    have e : y1 = x1 := Fin.ext hx1
    have e' : y2.val = 128 + x2.val := hx2
    rw [e]
    exact (k1 _ _ _ _ _ _).trans ((turned_blk m c t 1792 128 y2.val _ x1 x2 (by decide) e' (by omega) (fun n h => blkK_at m c t x1 ⟨128 + n.val, by omega⟩)).trans (keys_at _ _ _ _ _ _).symm)
  · subst hz
    idx_vars x
    obtain rfl : x0 = 0 := Subsingleton.elim _ _
    have e : y1 = x1 := Fin.ext hx1
    have e' : y2.val = 0 + x2.val := (show y2.val = x2.val from hx2).trans (Nat.zero_add _).symm
    rw [e]
    exact (k0 _ _ _ _ _ _).trans ((turned_blk m c t 1792 0 y2.val _ x1 x2 (by decide) e' (by omega) (fun n h => (blkK_at m c t x1 ⟨n.val, by omega⟩).trans (by congr 2; exact Fin.ext (show 1792 + n.val = 1792 + (0 + n.val) by omega)))).trans (keys_at _ _ _ _ _ _).symm)

set_option maxHeartbeats 1000000 in
/-- The keys' block, at a point of case B. -/
theorem keys_B (h : ¬t.val % 16 = 0) (y0 : Fin 1) (y1 : Fin 512) (y2 : Fin 512) :
    (outsAt0 m c t.val t.isLt).2.2.1 (ix3 y0 y1 y2) = Cert.ProjRefIdeal.Hand.keys (P m c) (m (c.tc.loc main_arg3)) (m (c.tc.loc main_arg4)) (ix3 (bat t) (pos t y1) y2) := by
  rw [outsAt0_B m c t h]
  generalize hz : (ix3 y0 y1 y2 : S1x512x512.Idx) = z
  frame_out
  canon_tiles x hx
  · subst hz
    idx_vars x
    obtain rfl : x0 = 0 := Subsingleton.elim _ _
    have e : y1 = x1 := Fin.ext hx1
    have e' : y2.val = 384 + x2.val := hx2
    rw [e]
    exact (k3 _ _ _ _ _).trans ((turned_blk m c t 1792 384 y2.val _ x1 x2 (by decide) e' (by omega) (fun n h => blkK_at m c t x1 ⟨384 + n.val, by omega⟩)).trans (keys_at _ _ _ _ _ _).symm)
  · subst hz
    idx_vars x
    obtain rfl : x0 = 0 := Subsingleton.elim _ _
    have e : y1 = x1 := Fin.ext hx1
    have e' : y2.val = 256 + x2.val := hx2
    rw [e]
    exact (k2 _ _ _ _ _ _).trans ((turned_blk m c t 1792 256 y2.val _ x1 x2 (by decide) e' (by omega) (fun n h => blkK_at m c t x1 ⟨256 + n.val, by omega⟩)).trans (keys_at _ _ _ _ _ _).symm)
  · subst hz
    idx_vars x
    obtain rfl : x0 = 0 := Subsingleton.elim _ _
    have e : y1 = x1 := Fin.ext hx1
    have e' : y2.val = 128 + x2.val := hx2
    rw [e]
    exact (k1 _ _ _ _ _ _).trans ((turned_blk m c t 1792 128 y2.val _ x1 x2 (by decide) e' (by omega) (fun n h => blkK_at m c t x1 ⟨128 + n.val, by omega⟩)).trans (keys_at _ _ _ _ _ _).symm)
  · subst hz
    idx_vars x
    obtain rfl : x0 = 0 := Subsingleton.elim _ _
    have e : y1 = x1 := Fin.ext hx1
    have e' : y2.val = 0 + x2.val := (show y2.val = x2.val from hx2).trans (Nat.zero_add _).symm
    rw [e]
    exact (k0 _ _ _ _ _ _).trans ((turned_blk m c t 1792 0 y2.val _ x1 x2 (by decide) e' (by omega) (fun n h => (blkK_at m c t x1 ⟨n.val, by omega⟩).trans (by congr 2; exact Fin.ext (show 1792 + n.val = 1792 + (0 + n.val) by omega)))).trans (keys_at _ _ _ _ _ _).symm)

set_option maxHeartbeats 1000000 in
/-- The queries' block, at a point of case A. -/
theorem queries_A (h : t.val % 16 = 0) (y0 : Fin 1) (y1 : Fin 512) (y2 : Fin 512) :
    (outsAt0 m c t.val t.isLt).2.1 (ix3 y0 y1 y2) = Cert.ProjRefIdeal.Hand.queries (P m c) (m (c.tc.loc main_arg3)) (m (c.tc.loc main_arg4)) (ix3 (bat t) y1 (pos t y2)) := by
  rw [outsAt0_A m c t h]
  generalize hz : (ix3 y0 y1 y2 : S1x512x512.Idx) = z
  frame_out
  canon_tiles x hx
  · subst hz
    idx_vars x
    obtain rfl : x0 = 0 := Subsingleton.elim _ _
    have e : y2 = x2 := Fin.ext hx2
    have e' : y1.val = 384 + x1.val := hx1
    rw [e]
    exact (q3 _ _ _ _ _).trans ((congrArg (· * Scalar.ofBits (F := Ideal) .f32 0x3E38AA3B#32) (turned_blk m c t 1280 384 y1.val _ x2 x1 (by decide) e' (by omega) (fun n h => blkQ_at m c t x2 ⟨384 + n.val, by omega⟩))).trans (queries_at _ _ _ _ _ _).symm)
  · subst hz
    idx_vars x
    obtain rfl : x0 = 0 := Subsingleton.elim _ _
    have e : y2 = x2 := Fin.ext hx2
    have e' : y1.val = 256 + x1.val := hx1
    rw [e]
    exact (q2 _ _ _ _ _).trans ((congrArg (· * Scalar.ofBits (F := Ideal) .f32 0x3E38AA3B#32) (turned_blk m c t 1280 256 y1.val _ x2 x1 (by decide) e' (by omega) (fun n h => blkQ_at m c t x2 ⟨256 + n.val, by omega⟩))).trans (queries_at _ _ _ _ _ _).symm)
  · subst hz
    idx_vars x
    obtain rfl : x0 = 0 := Subsingleton.elim _ _
    have e : y2 = x2 := Fin.ext hx2
    have e' : y1.val = 128 + x1.val := hx1
    rw [e]
    exact (q1 _ _ _ _ _).trans ((congrArg (· * Scalar.ofBits (F := Ideal) .f32 0x3E38AA3B#32) (turned_blk m c t 1280 128 y1.val _ x2 x1 (by decide) e' (by omega) (fun n h => blkQ_at m c t x2 ⟨128 + n.val, by omega⟩))).trans (queries_at _ _ _ _ _ _).symm)
  · subst hz
    idx_vars x
    obtain rfl : x0 = 0 := Subsingleton.elim _ _
    have e : y2 = x2 := Fin.ext hx2
    have e' : y1.val = 0 + x1.val := (show y1.val = x1.val from hx1).trans (Nat.zero_add _).symm
    rw [e]
    exact (q0 _ _ _ _ _ _).trans ((congrArg (· * Scalar.ofBits (F := Ideal) .f32 0x3E38AA3B#32) (turned_blk m c t 1280 0 y1.val _ x2 x1 (by decide) e' (by omega) (fun n h => (blkQ_at m c t x2 ⟨n.val, by omega⟩).trans (by congr 2; exact Fin.ext (show 1280 + n.val = 1280 + (0 + n.val) by omega))))).trans (queries_at _ _ _ _ _ _).symm)

set_option maxHeartbeats 1000000 in
/-- The queries' block, at a point of case B. -/
theorem queries_B (h : ¬t.val % 16 = 0) (y0 : Fin 1) (y1 : Fin 512) (y2 : Fin 512) :
    (outsAt0 m c t.val t.isLt).2.1 (ix3 y0 y1 y2) = Cert.ProjRefIdeal.Hand.queries (P m c) (m (c.tc.loc main_arg3)) (m (c.tc.loc main_arg4)) (ix3 (bat t) y1 (pos t y2)) := by
  rw [outsAt0_B m c t h]
  generalize hz : (ix3 y0 y1 y2 : S1x512x512.Idx) = z
  frame_out
  canon_tiles x hx
  · subst hz
    idx_vars x
    obtain rfl : x0 = 0 := Subsingleton.elim _ _
    have e : y2 = x2 := Fin.ext hx2
    have e' : y1.val = 384 + x1.val := hx1
    rw [e]
    exact (q3 _ _ _ _ _).trans ((congrArg (· * Scalar.ofBits (F := Ideal) .f32 0x3E38AA3B#32) (turned_blk m c t 1280 384 y1.val _ x2 x1 (by decide) e' (by omega) (fun n h => blkQ_at m c t x2 ⟨384 + n.val, by omega⟩))).trans (queries_at _ _ _ _ _ _).symm)
  · subst hz
    idx_vars x
    obtain rfl : x0 = 0 := Subsingleton.elim _ _
    have e : y2 = x2 := Fin.ext hx2
    have e' : y1.val = 256 + x1.val := hx1
    rw [e]
    exact (q2 _ _ _ _ _).trans ((congrArg (· * Scalar.ofBits (F := Ideal) .f32 0x3E38AA3B#32) (turned_blk m c t 1280 256 y1.val _ x2 x1 (by decide) e' (by omega) (fun n h => blkQ_at m c t x2 ⟨256 + n.val, by omega⟩))).trans (queries_at _ _ _ _ _ _).symm)
  · subst hz
    idx_vars x
    obtain rfl : x0 = 0 := Subsingleton.elim _ _
    have e : y2 = x2 := Fin.ext hx2
    have e' : y1.val = 128 + x1.val := hx1
    rw [e]
    exact (q1 _ _ _ _ _).trans ((congrArg (· * Scalar.ofBits (F := Ideal) .f32 0x3E38AA3B#32) (turned_blk m c t 1280 128 y1.val _ x2 x1 (by decide) e' (by omega) (fun n h => blkQ_at m c t x2 ⟨128 + n.val, by omega⟩))).trans (queries_at _ _ _ _ _ _).symm)
  · subst hz
    idx_vars x
    obtain rfl : x0 = 0 := Subsingleton.elim _ _
    have e : y2 = x2 := Fin.ext hx2
    have e' : y1.val = 0 + x1.val := (show y1.val = x1.val from hx1).trans (Nat.zero_add _).symm
    rw [e]
    exact (q0 _ _ _ _ _ _).trans ((congrArg (· * Scalar.ofBits (F := Ideal) .f32 0x3E38AA3B#32) (turned_blk m c t 1280 0 y1.val _ x2 x1 (by decide) e' (by omega) (fun n h => (blkQ_at m c t x2 ⟨n.val, by omega⟩).trans (by congr 2; exact Fin.ext (show 1280 + n.val = 1280 + (0 + n.val) by omega))))).trans (queries_at _ _ _ _ _ _).symm)

set_option maxHeartbeats 1000000 in
/-- The indexer's queries' block, at a point of case A. -/
theorem idxQueries_A (h : t.val % 16 = 0) (y0 : Fin 1) (y1 : Fin 256) (y2 : Fin 512) :
    (outsAt0 m c t.val t.isLt).2.2.2.2.1 (ix3 y0 y1 y2) = Cert.ProjRefIdeal.Hand.idxQueries (P m c) (m (c.tc.loc main_arg3)) (m (c.tc.loc main_arg4)) (ix3 (bat t) y1 (pos t y2)) := by
  rw [outsAt0_A m c t h]
  generalize hz : (ix3 y0 y1 y2 : S1x256x512.Idx) = z
  frame_out
  canon_tiles x hx
  · subst hz
    idx_vars x
    obtain rfl : x0 = 0 := Subsingleton.elim _ _
    have e : y2 = x2 := Fin.ext hx2
    have e' : y1.val = 128 + x1.val := hx1
    rw [e]
    exact (qi1 _ _ _ _ _).trans ((turned_blk m c t 2816 128 y1.val _ x2 x1 (by decide) e' (by omega) (fun n h => blkQi_at m c t x2 ⟨128 + n.val, by omega⟩)).trans (idxQueries_at _ _ _ _ _ _).symm)
  · subst hz
    idx_vars x
    obtain rfl : x0 = 0 := Subsingleton.elim _ _
    have e : y2 = x2 := Fin.ext hx2
    have e' : y1.val = 0 + x1.val := (show y1.val = x1.val from hx1).trans (Nat.zero_add _).symm
    rw [e]
    exact (qi0 _ _ _ _ _ _).trans ((turned_blk m c t 2816 0 y1.val _ x2 x1 (by decide) e' (by omega) (fun n h => (blkQi_at m c t x2 ⟨n.val, by omega⟩).trans (by congr 2; exact Fin.ext (show 2816 + n.val = 2816 + (0 + n.val) by omega)))).trans (idxQueries_at _ _ _ _ _ _).symm)

set_option maxHeartbeats 1000000 in
/-- The indexer's queries' block, at a point of case B. -/
theorem idxQueries_B (h : ¬t.val % 16 = 0) (y0 : Fin 1) (y1 : Fin 256) (y2 : Fin 512) :
    (outsAt0 m c t.val t.isLt).2.2.2.2.1 (ix3 y0 y1 y2) = Cert.ProjRefIdeal.Hand.idxQueries (P m c) (m (c.tc.loc main_arg3)) (m (c.tc.loc main_arg4)) (ix3 (bat t) y1 (pos t y2)) := by
  rw [outsAt0_B m c t h]
  generalize hz : (ix3 y0 y1 y2 : S1x256x512.Idx) = z
  frame_out
  canon_tiles x hx
  · subst hz
    idx_vars x
    obtain rfl : x0 = 0 := Subsingleton.elim _ _
    have e : y2 = x2 := Fin.ext hx2
    have e' : y1.val = 128 + x1.val := hx1
    rw [e]
    exact (qi1 _ _ _ _ _).trans ((turned_blk m c t 2816 128 y1.val _ x2 x1 (by decide) e' (by omega) (fun n h => blkQi_at m c t x2 ⟨128 + n.val, by omega⟩)).trans (idxQueries_at _ _ _ _ _ _).symm)
  · subst hz
    idx_vars x
    obtain rfl : x0 = 0 := Subsingleton.elim _ _
    have e : y2 = x2 := Fin.ext hx2
    have e' : y1.val = 0 + x1.val := (show y1.val = x1.val from hx1).trans (Nat.zero_add _).symm
    rw [e]
    exact (qi0 _ _ _ _ _ _).trans ((turned_blk m c t 2816 0 y1.val _ x2 x1 (by decide) e' (by omega) (fun n h => (blkQi_at m c t x2 ⟨n.val, by omega⟩).trans (by congr 2; exact Fin.ext (show 2816 + n.val = 2816 + (0 + n.val) by omega)))).trans (idxQueries_at _ _ _ _ _ _).symm)

end Cert.ProjIdeal.Hand

end
-- ==== Proof.ProjPiecesB.lean ====
/- The results' blocks: the values and the indexer's keys; what each grid point stores is the reference's result at the piece's place. -/
module

public import proofs.«01_k».proof.Defs
public import proofs.«01_k».proof.Proof.Gen.ProjIdeal.Value
public import proofs.«01_k».proof.Proof.ProjRefAt
public import proofs.«01_k».proof.Proof.ProjPieces
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Hand

open Cert.ProjIdeal Cert.ProjIdeal.Gen

open Cert.ProjRefIdeal.Hand (lane queries_at keys_at values_at idxQueries_at idxKeys_at)

variable (m : (ℓ : Loc nD τ sig) → Buf (Elt Ideal) ℓ) (c : Dev nD) (t : Fin cfg0.N)

/-- The values' columns of the block's projection. -/
theorem blkV_at (r : Fin 512) (n : Fin 512) :
    (∑ k : Fin 1024, k0_pay4 (iblk m c 0 t) (iblk m c 1 t) (ix2 r k)
        * View.ld (iblk m c 2 t) (Rect.unit ![0, 2304] ![1024, 512] inb_S1024x3200_S1024x512_0_2304) (ix2 k n))
      = P m c (ix3 (bat t) (pos t r) ⟨2304 + n.val, by omega⟩) := by
  have e : ∀ k : Fin 1024, View.ld (iblk m c 2 t) (Rect.unit ![0, 2304] ![1024, 512] inb_S1024x3200_S1024x512_0_2304) (ix2 k n)
      = iblk m c 2 t (ix2 k ⟨2304 + n.val, by omega⟩) := fun k => by pointwise []
  simp only [e]
  exact (proj_at m c t r ⟨2304 + n.val, by omega⟩).trans (dif_pos (show 2304 + n.val < 3140 by omega))

/-- The last 128 columns of the block's projection: the indexer's keys and head weights, and zeros past them. -/
theorem blkKi_at (r : Fin 512) (n : Fin 128) :
    (∑ k : Fin 1024, k0_pay4 (iblk m c 0 t) (iblk m c 1 t) (ix2 r k)
        * View.ld (iblk m c 2 t) (Rect.unit ![0, 3072] ![1024, 128] inb_S1024x3200_S1024x128_0_3072) (ix2 k n))
      = if h : 3072 + n.val < 3140 then P m c (ix3 (bat t) (pos t r) ⟨3072 + n.val, h⟩) else 0 := by
  have e : ∀ k : Fin 1024, View.ld (iblk m c 2 t) (Rect.unit ![0, 3072] ![1024, 128] inb_S1024x3200_S1024x128_0_3072) (ix2 k n)
      = iblk m c 2 t (ix2 k ⟨3072 + n.val, by omega⟩) := fun k => by pointwise []
  simp only [e]
  exact proj_at m c t r ⟨3072 + n.val, by omega⟩

/-- The indexer's keys and head weights of the block are the reference's. -/
theorem kidx_blk (r : Fin 512) (l : Fin 128) :
    k0_pay157 (k0_pay4 (iblk m c 0 t) (iblk m c 1 t)) (k0_pay5 (iblk m c 3 t)) (k0_pay6 (iblk m c 4 t))
        (iota .tc S512x128 32 [1] iota_S512x128_d1_w32) mask
        (View.ld (iblk m c 2 t) (Rect.unit ![0, 3072] ![1024, 128] inb_S1024x3200_S1024x128_0_3072)) (ix2 r l)
      = Cert.ProjRefIdeal.Hand.idxKeys (P m c) (m (c.tc.loc main_arg3)) (m (c.tc.loc main_arg4)) (ix3 (bat t) (pos t r) l) := by
  rw [kidx, idxKeys_at]
  simp only [blkKi_at]
  by_cases hl : l.val < 64
  · simp only [if_pos hl, dif_pos hl]
    have e5 : k0_pay5 (iblk m c 3 t) (ix2 r l) = iblk m c 3 t (ix2 r l) := by pointwise [k0_pay5]
    have e6 : k0_pay6 (iblk m c 4 t) (ix2 r l) = iblk m c 4 t (ix2 r l) := by pointwise [k0_pay6]
    rw [e5, e6, blk_cos, blk_sin, rolled_lane]
    have e : (⟨l.val % 64, by omega⟩ : Fin 64) = ⟨l.val, hl⟩ := Fin.ext (show l.val % 64 = l.val by omega)
    have ea : (fun d : Fin 64 => if h : 3072 + (l.val / 64 * 64 + d.val) < 3140 then P m c (ix3 (bat t) (pos t r) ⟨3072 + (l.val / 64 * 64 + d.val), h⟩) else 0)
        = fun d => P m c (ix3 (bat t) (pos t r) ⟨3072 + d.val, by omega⟩) := by
      funext d
      have e2 : l.val / 64 * 64 + d.val = d.val := by omega
      simp only [e2]
      exact dif_pos (show 3072 + d.val < 3140 by omega)
    rw [e, ea]
    rfl
  · simp only [if_neg hl, dif_neg hl]
    by_cases h2 : l.val - 64 < 4
    · have e : 3072 + l.val = 3136 + (l.val - 64) := by omega
      rw [dif_pos (show 3072 + l.val < 3140 by omega), dif_pos h2]
      congr 2
      exact Fin.ext e
    · rw [dif_neg (show ¬ 3072 + l.val < 3140 by omega), dif_neg h2]

set_option maxHeartbeats 1000000 in
/-- The values' block, at a point of case A. -/
theorem values_A (h : t.val % 16 = 0) (y0 y1 : Fin 1) (y2 y3 : Fin 512) :
    (outsAt0 m c t.val t.isLt).2.2.2.1 (ix4 y0 y1 y2 y3)
      = Cert.ProjRefIdeal.Hand.values (P m c) (ix4 (bat t) ⟨t.val % 16, by omega⟩ y2 y3) := by
  rw [outsAt0_A m c t h]
  obtain rfl : y0 = 0 := Subsingleton.elim _ _
  obtain rfl : y1 = 0 := Subsingleton.elim _ _
  frame_out
  have e : Cert.ProjRefIdeal.Hand.values (P m c) (ix4 (bat t) ⟨t.val % 16, by omega⟩ y2 y3)
      = P m c (ix3 (bat t) (pos t y3) ⟨2304 + y2.val, by omega⟩) :=
    values_at (P m c) (bat t) ⟨t.val % 16, by omega⟩ y2 y3
  rw [e]
  exact (v0 _ _ _ _).trans (blkV_at m c t y3 y2)

set_option maxHeartbeats 1000000 in
/-- The block of the indexer's keys and head weights by rows, at a point of case A. -/
theorem idxRows_A (h : t.val % 16 = 0) (y0 : Fin 1) (y1 : Fin 512) (y2 : Fin 128) :
    (outsAt0 m c t.val t.isLt).2.2.2.2.2.1 (ix3 y0 y1 y2)
      = Cert.ProjRefIdeal.Hand.outKb (Cert.ProjRefIdeal.Hand.idxKeys (P m c) (m (c.tc.loc main_arg3)) (m (c.tc.loc main_arg4))) (ix3 (bat t) (pos t y1) y2) := by
  rw [outsAt0_A m c t h, Cert.ProjRefIdeal.Hand.outKb_at]
  obtain rfl : y0 = 0 := Subsingleton.elim _ _
  frame_out
  exact (kidxRows _ _ _ _ _ _ _).trans (kidx_blk m c t y1 y2)

set_option maxHeartbeats 1000000 in
/-- The block of the indexer's keys and head weights across the positions, at a point of case A. -/
theorem idxAcross_A (h : t.val % 16 = 0) (y0 : Fin 1) (y1 : Fin 128) (y2 : Fin 512) :
    (outsAt0 m c t.val t.isLt).2.2.2.2.2.2.1 (ix3 y0 y1 y2)
      = Cert.ProjRefIdeal.Hand.outKi (Cert.ProjRefIdeal.Hand.idxKeys (P m c) (m (c.tc.loc main_arg3)) (m (c.tc.loc main_arg4))) (ix3 (bat t) y1 (pos t y2)) := by
  rw [outsAt0_A m c t h, Cert.ProjRefIdeal.Hand.outKi_at]
  obtain rfl : y0 = 0 := Subsingleton.elim _ _
  frame_out
  exact (kidxAcross _ _ _ _ _ _ _).trans (kidx_blk m c t y2 y1)

set_option maxHeartbeats 1000000 in
/-- The values' block, at a point of case B. -/
theorem values_B (h : ¬t.val % 16 = 0) (y0 y1 : Fin 1) (y2 y3 : Fin 512) :
    (outsAt0 m c t.val t.isLt).2.2.2.1 (ix4 y0 y1 y2 y3)
      = Cert.ProjRefIdeal.Hand.values (P m c) (ix4 (bat t) ⟨t.val % 16, by omega⟩ y2 y3) := by
  rw [outsAt0_B m c t h]
  obtain rfl : y0 = 0 := Subsingleton.elim _ _
  obtain rfl : y1 = 0 := Subsingleton.elim _ _
  frame_out
  have e : Cert.ProjRefIdeal.Hand.values (P m c) (ix4 (bat t) ⟨t.val % 16, by omega⟩ y2 y3)
      = P m c (ix3 (bat t) (pos t y3) ⟨2304 + y2.val, by omega⟩) :=
    values_at (P m c) (bat t) ⟨t.val % 16, by omega⟩ y2 y3
  rw [e]
  exact (v0 _ _ _ _).trans (blkV_at m c t y3 y2)

set_option maxHeartbeats 1000000 in
/-- The block of the indexer's keys and head weights by rows, at a point of case B. -/
theorem idxRows_B (h : ¬t.val % 16 = 0) (y0 : Fin 1) (y1 : Fin 512) (y2 : Fin 128) :
    (outsAt0 m c t.val t.isLt).2.2.2.2.2.1 (ix3 y0 y1 y2)
      = Cert.ProjRefIdeal.Hand.outKb (Cert.ProjRefIdeal.Hand.idxKeys (P m c) (m (c.tc.loc main_arg3)) (m (c.tc.loc main_arg4))) (ix3 (bat t) (pos t y1) y2) := by
  rw [outsAt0_B m c t h, Cert.ProjRefIdeal.Hand.outKb_at]
  obtain rfl : y0 = 0 := Subsingleton.elim _ _
  frame_out
  exact (kidxRows _ _ _ _ _ _ _).trans (kidx_blk m c t y1 y2)

set_option maxHeartbeats 1000000 in
/-- The block of the indexer's keys and head weights across the positions, at a point of case B. -/
theorem idxAcross_B (h : ¬t.val % 16 = 0) (y0 : Fin 1) (y1 : Fin 128) (y2 : Fin 512) :
    (outsAt0 m c t.val t.isLt).2.2.2.2.2.2.1 (ix3 y0 y1 y2)
      = Cert.ProjRefIdeal.Hand.outKi (Cert.ProjRefIdeal.Hand.idxKeys (P m c) (m (c.tc.loc main_arg3)) (m (c.tc.loc main_arg4))) (ix3 (bat t) y1 (pos t y2)) := by
  rw [outsAt0_B m c t h, Cert.ProjRefIdeal.Hand.outKi_at]
  obtain rfl : y0 = 0 := Subsingleton.elim _ _
  frame_out
  exact (kidxAcross _ _ _ _ _ _ _).trans (kidx_blk m c t y2 y1)

end Cert.ProjIdeal.Hand

end
-- ==== Proof.ProjValue.lean ====
/- The input projection: normalised rows through one matrix; queries and keys turned, the indexer's likewise, the values laid across the
   positions. The kernel works on 512 rows at a time with the whole matrix resident and turns two heads by two lane rotations; the
   reference splits the columns of the whole product and turns head by head. Six of the call's seven results. -/
module

public import proofs.«01_k».proof.Defs
public import proofs.«01_k».proof.Proof.Gen.ProjIdeal.Value
public import proofs.«01_k».proof.Proof.ProjPiecesB
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Hand

open Cert.ProjIdeal Cert.ProjIdeal.Gen

variable (m : (ℓ : Loc nD τ sig) → Buf (Elt Ideal) ℓ) (c : Dev nD)

/-- The queries' array after the run. -/
theorem final11 : (dats m 0 c).arrAt 11 cfg0.N = Cert.ProjRefIdeal.Hand.queries (P m c) (m (c.tc.loc main_arg3)) (m (c.tc.loc main_arg4)) := by
  refine (dats m 0 c).arrAt_eq_of_covers 11 _ (by decide +kernel) fun t _ y => ?_
  blk_simp
  rw [after0_11]
  have ht : t.val < 64 := t.isLt
  idx_vars y
  have e : ((View.whole main_v12_1).slice (win0_11.rect t)).emb (ix3 y0 y1 y2) = (ix3 (bat t) y1 (pos t y2) : S4x512x8192.Idx) := by
    blk_ext [idx t, bat, pos]
  rw [e]
  by_cases h : t.val % 16 = 0
  · exact queries_A m c t h y0 y1 y2
  · exact queries_B m c t h y0 y1 y2

/-- The keys' array after the run. -/
theorem final12 : (dats m 0 c).arrAt 12 cfg0.N = Cert.ProjRefIdeal.Hand.keys (P m c) (m (c.tc.loc main_arg3)) (m (c.tc.loc main_arg4)) := by
  refine (dats m 0 c).arrAt_eq_of_covers 12 _ (by decide +kernel) fun t _ y => ?_
  blk_simp
  rw [after0_12]
  have ht : t.val < 64 := t.isLt
  idx_vars y
  have e : ((View.whole main_v12_2).slice (win0_12.rect t)).emb (ix3 y0 y1 y2) = (ix3 (bat t) (pos t y1) y2 : S4x8192x512.Idx) := by
    blk_ext [idx t, bat, pos]
  rw [e]
  by_cases h : t.val % 16 = 0
  · exact keys_A m c t h y0 y1 y2
  · exact keys_B m c t h y0 y1 y2

/-- The values' array after the run. -/
theorem final13 : (dats m 0 c).arrAt 13 cfg0.N = Cert.ProjRefIdeal.Hand.values (P m c) := by
  refine (dats m 0 c).arrAt_eq_of_covers 13 _ (by decide +kernel) fun t _ y => ?_
  blk_simp
  rw [after0_13]
  have ht : t.val < 64 := t.isLt
  idx_vars y
  have e : ((View.whole main_v12_3).slice (win0_13.rect t)).emb (ix4 y0 y1 y2 y3) = (ix4 (bat t) ⟨t.val % 16, by omega⟩ y2 y3 : S4x16x512x512.Idx) := by
    blk_ext [idx t, bat, pos]
  rw [e]
  by_cases h : t.val % 16 = 0
  · exact values_A m c t h y0 y1 y2 y3
  · exact values_B m c t h y0 y1 y2 y3

/-- The array of the indexer's queries after the run. -/
theorem final14 : (dats m 0 c).arrAt 14 cfg0.N = Cert.ProjRefIdeal.Hand.idxQueries (P m c) (m (c.tc.loc main_arg3)) (m (c.tc.loc main_arg4)) := by
  refine (dats m 0 c).arrAt_eq_of_covers 14 _ (by decide +kernel) fun t _ y => ?_
  blk_simp
  rw [after0_14]
  have ht : t.val < 64 := t.isLt
  idx_vars y
  have e : ((View.whole main_v12_4).slice (win0_14.rect t)).emb (ix3 y0 y1 y2) = (ix3 (bat t) y1 (pos t y2) : S4x256x8192.Idx) := by
    blk_ext [idx t, bat, pos]
  rw [e]
  by_cases h : t.val % 16 = 0
  · exact idxQueries_A m c t h y0 y1 y2
  · exact idxQueries_B m c t h y0 y1 y2

/-- The array of the indexer's keys and head weights by rows after the run. -/
theorem final15 : (dats m 0 c).arrAt 15 cfg0.N = Cert.ProjRefIdeal.Hand.outKb (Cert.ProjRefIdeal.Hand.idxKeys (P m c) (m (c.tc.loc main_arg3)) (m (c.tc.loc main_arg4))) := by
  refine (dats m 0 c).arrAt_eq_of_covers 15 _ (by decide +kernel) fun t _ y => ?_
  blk_simp
  rw [after0_15]
  have ht : t.val < 64 := t.isLt
  idx_vars y
  have e : ((View.whole main_v12_5).slice (win0_15.rect t)).emb (ix3 y0 y1 y2) = (ix3 (bat t) (pos t y1) y2 : S4x8192x128.Idx) := by
    blk_ext [idx t, bat, pos]
  rw [e]
  by_cases h : t.val % 16 = 0
  · exact idxRows_A m c t h y0 y1 y2
  · exact idxRows_B m c t h y0 y1 y2

/-- The array of the indexer's keys and head weights across the positions after the run. -/
theorem final16 : (dats m 0 c).arrAt 16 cfg0.N = Cert.ProjRefIdeal.Hand.outKi (Cert.ProjRefIdeal.Hand.idxKeys (P m c) (m (c.tc.loc main_arg3)) (m (c.tc.loc main_arg4))) := by
  refine (dats m 0 c).arrAt_eq_of_covers 16 _ (by decide +kernel) fun t _ y => ?_
  blk_simp
  rw [after0_16]
  have ht : t.val < 64 := t.isLt
  idx_vars y
  have e : ((View.whole main_v12_6).slice (win0_16.rect t)).emb (ix3 y0 y1 y2) = (ix3 (bat t) y1 (pos t y2) : S4x128x8192.Idx) := by
    blk_ext [idx t, bat, pos]
  rw [e]
  by_cases h : t.val % 16 = 0
  · exact idxAcross_A m c t h y0 y1 y2
  · exact idxAcross_B m c t h y0 y1 y2

/-- The reference's projection on memories that agree. -/
theorem P_agree (m' : (ℓ : Loc Cert.ProjRefIdeal.nD Cert.ProjRefIdeal.τ Cert.ProjRefIdeal.sig) → Buf (Elt Ideal) ℓ)
    (h0 : m' (c.tc.loc Cert.ProjRefIdeal.main_arg0) = m (c.tc.loc main_arg0)) (h1 : m' (c.tc.loc Cert.ProjRefIdeal.main_arg1) = m (c.tc.loc main_arg1))
    (h2 : m' (c.tc.loc Cert.ProjRefIdeal.main_arg2) = m (c.tc.loc main_arg2)) :
    Cert.ProjRefIdeal.Hand.P m' c = P m c := by
  rw [Cert.ProjRefIdeal.Hand.P, h0, h1, h2, P]

/-- Result 1 on memories that agree. -/
theorem queries_agree (m' : (ℓ : Loc Cert.ProjRefIdeal.nD Cert.ProjRefIdeal.τ Cert.ProjRefIdeal.sig) → Buf (Elt Ideal) ℓ)
    (h0 : m' (c.tc.loc Cert.ProjRefIdeal.main_arg0) = m (c.tc.loc main_arg0)) (h1 : m' (c.tc.loc Cert.ProjRefIdeal.main_arg1) = m (c.tc.loc main_arg1))
    (h2 : m' (c.tc.loc Cert.ProjRefIdeal.main_arg2) = m (c.tc.loc main_arg2))
    (h3 : m' (c.tc.loc Cert.ProjRefIdeal.main_arg3) = m (c.tc.loc main_arg3)) (h4 : m' (c.tc.loc Cert.ProjRefIdeal.main_arg4) = m (c.tc.loc main_arg4)) :
    Cert.ProjRefIdeal.Value.res_main_v92 m' c = (dats m 0 c).arrAt 11 cfg0.N := by
  rw [final11, Cert.ProjRefIdeal.Hand.queries_eq, P_agree m c m' h0 h1 h2, h3, h4]

/-- Result 2 on memories that agree. -/
theorem keys_agree (m' : (ℓ : Loc Cert.ProjRefIdeal.nD Cert.ProjRefIdeal.τ Cert.ProjRefIdeal.sig) → Buf (Elt Ideal) ℓ)
    (h0 : m' (c.tc.loc Cert.ProjRefIdeal.main_arg0) = m (c.tc.loc main_arg0)) (h1 : m' (c.tc.loc Cert.ProjRefIdeal.main_arg1) = m (c.tc.loc main_arg1))
    (h2 : m' (c.tc.loc Cert.ProjRefIdeal.main_arg2) = m (c.tc.loc main_arg2))
    (h3 : m' (c.tc.loc Cert.ProjRefIdeal.main_arg3) = m (c.tc.loc main_arg3)) (h4 : m' (c.tc.loc Cert.ProjRefIdeal.main_arg4) = m (c.tc.loc main_arg4)) :
    Cert.ProjRefIdeal.Value.res_main_v94 m' c = (dats m 0 c).arrAt 12 cfg0.N := by
  rw [final12, Cert.ProjRefIdeal.Hand.keys_eq, P_agree m c m' h0 h1 h2, h3, h4]

/-- Result 4 on memories that agree. -/
theorem idxQueries_agree (m' : (ℓ : Loc Cert.ProjRefIdeal.nD Cert.ProjRefIdeal.τ Cert.ProjRefIdeal.sig) → Buf (Elt Ideal) ℓ)
    (h0 : m' (c.tc.loc Cert.ProjRefIdeal.main_arg0) = m (c.tc.loc main_arg0)) (h1 : m' (c.tc.loc Cert.ProjRefIdeal.main_arg1) = m (c.tc.loc main_arg1))
    (h2 : m' (c.tc.loc Cert.ProjRefIdeal.main_arg2) = m (c.tc.loc main_arg2))
    (h3 : m' (c.tc.loc Cert.ProjRefIdeal.main_arg3) = m (c.tc.loc main_arg3)) (h4 : m' (c.tc.loc Cert.ProjRefIdeal.main_arg4) = m (c.tc.loc main_arg4)) :
    Cert.ProjRefIdeal.Value.res_main_v100 m' c = (dats m 0 c).arrAt 14 cfg0.N := by
  rw [final14, Cert.ProjRefIdeal.Hand.idxQueries_eq, P_agree m c m' h0 h1 h2, h3, h4]

/-- Result 5 on memories that agree. -/
theorem idxRows_agree (m' : (ℓ : Loc Cert.ProjRefIdeal.nD Cert.ProjRefIdeal.τ Cert.ProjRefIdeal.sig) → Buf (Elt Ideal) ℓ)
    (h0 : m' (c.tc.loc Cert.ProjRefIdeal.main_arg0) = m (c.tc.loc main_arg0)) (h1 : m' (c.tc.loc Cert.ProjRefIdeal.main_arg1) = m (c.tc.loc main_arg1))
    (h2 : m' (c.tc.loc Cert.ProjRefIdeal.main_arg2) = m (c.tc.loc main_arg2))
    (h3 : m' (c.tc.loc Cert.ProjRefIdeal.main_arg3) = m (c.tc.loc main_arg3)) (h4 : m' (c.tc.loc Cert.ProjRefIdeal.main_arg4) = m (c.tc.loc main_arg4)) :
    Cert.ProjRefIdeal.Value.res_main_v101 m' c = (dats m 0 c).arrAt 15 cfg0.N := by
  rw [final15, Cert.ProjRefIdeal.Hand.idxKeys_eq, P_agree m c m' h0 h1 h2, h3, h4]

/-- Result 6 on memories that agree. -/
theorem idxAcross_agree (m' : (ℓ : Loc Cert.ProjRefIdeal.nD Cert.ProjRefIdeal.τ Cert.ProjRefIdeal.sig) → Buf (Elt Ideal) ℓ)
    (h0 : m' (c.tc.loc Cert.ProjRefIdeal.main_arg0) = m (c.tc.loc main_arg0)) (h1 : m' (c.tc.loc Cert.ProjRefIdeal.main_arg1) = m (c.tc.loc main_arg1))
    (h2 : m' (c.tc.loc Cert.ProjRefIdeal.main_arg2) = m (c.tc.loc main_arg2))
    (h3 : m' (c.tc.loc Cert.ProjRefIdeal.main_arg3) = m (c.tc.loc main_arg3)) (h4 : m' (c.tc.loc Cert.ProjRefIdeal.main_arg4) = m (c.tc.loc main_arg4)) :
    Cert.ProjRefIdeal.Value.res_main_v102 m' c = (dats m 0 c).arrAt 16 cfg0.N := by
  rw [final16, Cert.ProjRefIdeal.Hand.idxKeysAcross_eq, P_agree m c m' h0 h1 h2, h3, h4]

set_option maxHeartbeats 4000000 in
/-- The kernel's six results are the reference's on every memory, at the extended reals. -/
theorem algebraic : Cert.algebraic_ProjIdeal_ProjRefIdeal := by
  pair_intro
  · run_from Cert.ProjIdeal.Gen.run_main m g
    · exact hc.1 16
    · exact V_main_arg0 m c
    · exact V_main_arg1 m c
    · exact V_main_arg2 m c
    · exact V_main_arg3 m c
    · exact V_main_arg4 m c
    · exact V_main_arg6 m c
    · exact V_main_arg7 m c
    · exact V_main_arg8 m c
  · run_from Cert.ProjRefIdeal.Value.run m' g'
    · obtain ⟨h0, h1, h2, h3, h4, -⟩ := hagree c
      exact queries_agree m c m' h0 h1 h2 h3 h4
    · obtain ⟨h0, h1, h2, h3, h4, -⟩ := hagree c
      exact keys_agree m c m' h0 h1 h2 h3 h4
    · exact (final13 m c).symm
    · obtain ⟨h0, h1, h2, h3, h4, -⟩ := hagree c
      exact idxQueries_agree m c m' h0 h1 h2 h3 h4
    · obtain ⟨h0, h1, h2, h3, h4, -⟩ := hagree c
      exact idxRows_agree m c m' h0 h1 h2 h3 h4
    · obtain ⟨h0, h1, h2, h3, h4, -⟩ := hagree c
      exact idxAcross_agree m c m' h0 h1 h2 h3 h4

end Cert.ProjIdeal.Hand

end
-- ==== Proof.RopeValue.lean ====
/- The tables of the rotary embedding: the angle of a position and a frequency, its cosine and its sine. The kernel is handed the
   positions, the frequencies and the signs copied over the lanes and takes one cosine and one sine a lane, the sine times its sign;
   the reference takes cosine and sine on a quarter of the lanes and lays the copies side by side, the sine negated where it must be. -/
module

public import proofs.«01_k».proof.Defs
public import proofs.«01_k».proof.Proof.Gen.RopeIdeal.Frame
public import proofs.«01_k».proof.Proof.Gen.RopeRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RopeRefIdeal.Hand

open Cert.RopeRefIdeal Cert.RopeRefIdeal.Gen

/-- The frequencies. -/
def freq : FVec Ideal S32 .f32 :=
  Host.powf (broadcastInDim S32 ![] bcast_S_S32 (constant S_ .f32 0x461C4000#32))
    (Host.divf (Host.negf (addf (broadcastInDim S32 ![] bcast_S_S32 (constant S_ .f32 0x00000000#32))
      (mulf (broadcastInDim S32 ![] bcast_S_S32 (constant S_ .f32 0x40000000#32)) (sitofp .f32 (iotaInDim S32 32 0)))))
      (broadcastInDim S32 ![] bcast_S_S32 (constant S_ .f32 0x42800000#32)))

/-- The positions end to end, each once for every frequency. -/
def place (p : IVec S4x8192 32) : FVec Ideal S32768x32 .f32 :=
  broadcastInDim S32768x32 ![0, 1] bcast_S32768x1_S32768x32_0_1 (broadcastInDim S32768x1 ![0] bcast_S32768_S32768x1_0
    (sitofp .f32 (shapeCast S32768 p shapeCasts_S4x8192_S32768)))

/-- The frequencies, once for every position. -/
def rate (f : FVec Ideal S32 .f32) : FVec Ideal S32768x32 .f32 :=
  broadcastInDim S32768x32 ![0, 1] bcast_S1x32_S32768x32_0_1 (broadcastInDim S1x32 ![1] bcast_S32_S1x32_1 f)

/-- Two tables side by side, twice. -/
def twice (a b : FVec Ideal S32768x32 .f32) : FVec Ideal S32768x128 .f32 :=
  concatenate S32768x128 1 [⟨S32768x32, a⟩, ⟨S32768x32, b⟩, ⟨S32768x32, a⟩, ⟨S32768x32, b⟩]
    concatenates_S32768x32_S32768x32_S32768x32_S32768x32_S32768x128_d1

/-- The table of cosines. -/
def cosines (p : IVec S4x8192 32) : FVec Ideal S32768x128 .f32 :=
  twice (Host.cos (mulf (place p) (rate freq))) (Host.cos (mulf (place p) (rate freq)))

/-- The table of sines. -/
def sines (p : IVec S4x8192 32) : FVec Ideal S32768x128 .f32 :=
  twice (Host.negf (Host.sin (mulf (place p) (rate freq)))) (Host.sin (mulf (place p) (rate freq)))

/-- The angle of position `i` and frequency `l`. -/
def angle (p : IVec S4x8192 32) (i : Fin 32768) (l : Fin 32) : EReal :=
  (FloatOps.sitofp .f32 (p (ix2 ⟨i.val / 8192, by omega⟩ ⟨i.val % 8192, by omega⟩)) : Ideal .f32) * freq (ix1 l)

/-- A position at a row. -/
theorem place_at (p : IVec S4x8192 32) (i : Fin 32768) (l : Fin 32) :
    place p (ix2 i l) = (FloatOps.sitofp .f32 (p (ix2 ⟨i.val / 8192, by omega⟩ ⟨i.val % 8192, by omega⟩)) : Ideal .f32) := by
  pointwise [place]

/-- A frequency at a lane. -/
theorem rate_at (f : FVec Ideal S32 .f32) (i : Fin 32768) (l : Fin 32) : rate f (ix2 i l) = f (ix1 l) := by
  pointwise [rate]

/-- The reference's angles are the angles. -/
theorem angle_at (p : IVec S4x8192 32) (i : Fin 32768) (l : Fin 32) :
    (mulf (place p) (rate freq) : FVec Ideal S32768x32 .f32) (ix2 i l) = angle p i l := by
  change place p (ix2 i l) * rate freq (ix2 i l) = _
  rw [place_at, rate_at]
  rfl

/-- The lanes of the two tables, each twice. -/
theorem twice_at (a b : FVec Ideal S32768x32 .f32) (i : Fin 32768) (l : Fin 128) :
    twice a b (ix2 i l) = if l.val % 64 < 32 then a (ix2 i ⟨l.val % 32, by omega⟩) else b (ix2 i ⟨l.val % 32, by omega⟩) := by
  pointwise [twice]
  by_cases h0 : l.val < 32
  · have e : l.val % 32 = l.val := by omega
    have e' : l.val % 64 < 32 := by omega
    simp only [dif_pos h0, if_pos e', e]
  · by_cases h1 : l.val - 32 < 32
    · have e : l.val % 32 = l.val - 32 := by omega
      have e' : ¬ l.val % 64 < 32 := by omega
      simp only [dif_neg h0, dif_pos h1, if_neg e', e]
    · by_cases h2 : l.val - 32 - 32 < 32
      · have e : l.val % 32 = l.val - 32 - 32 := by omega
        have e' : l.val % 64 < 32 := by omega
        simp only [dif_neg h0, dif_neg h1, dif_pos h2, if_pos e', e]
      · have e : l.val % 32 = l.val - 32 - 32 - 32 := by omega
        have e' : ¬ l.val % 64 < 32 := by omega
        simp only [dif_neg h0, dif_neg h1, dif_neg h2, if_neg e', e]

/-- The reference's cosines. -/
theorem cosines_at (p : IVec S4x8192 32) (i : Fin 32768) (l : Fin 128) :
    cosines p (ix2 i l) = Ideal.cos (angle p i ⟨l.val % 32, by omega⟩) := by
  rw [cosines, twice_at, ite_self]
  change Ideal.cos ((mulf (place p) (rate freq) : FVec Ideal S32768x32 .f32) (ix2 i ⟨l.val % 32, by omega⟩)) = _
  rw [angle_at]

/-- The reference's sines. -/
theorem sines_at (p : IVec S4x8192 32) (i : Fin 32768) (l : Fin 128) :
    sines p (ix2 i l) = if l.val % 64 < 32 then -(Ideal.sin (angle p i ⟨l.val % 32, by omega⟩)) else Ideal.sin (angle p i ⟨l.val % 32, by omega⟩) := by
  rw [sines, twice_at]
  change (if l.val % 64 < 32 then -(Ideal.sin ((mulf (place p) (rate freq) : FVec Ideal S32768x32 .f32) (ix2 i ⟨l.val % 32, by omega⟩)))
    else Ideal.sin ((mulf (place p) (rate freq) : FVec Ideal S32768x32 .f32) (ix2 i ⟨l.val % 32, by omega⟩))) = _
  rw [angle_at]

end Cert.RopeRefIdeal.Hand

namespace Cert.RopeIdeal.Hand

open Cert.RopeIdeal Cert.RopeIdeal.Gen
open Cert.RopeRefIdeal.Hand (freq angle cosines sines cosines_at sines_at)

variable (m : (ℓ : Loc nD τ sig) → Buf (Elt Ideal) ℓ) (c : Dev nD)

/-- Where each window stands at grid point `t`: block `t` of the positions and the results, the frequencies and the signs whole. -/
theorem idx : ∀ t : Fin cfg0.N,
    (win0_0.index t 0 = t.val ∧ win0_0.index t 1 = 0) ∧ (win0_1.index t 0 = 0 ∧ win0_1.index t 1 = 0) ∧
    (win0_2.index t 0 = 0 ∧ win0_2.index t 1 = 0) ∧ (win0_3.index t 0 = t.val ∧ win0_3.index t 1 = 0) ∧
    (win0_4.index t 0 = t.val ∧ win0_4.index t 1 = 0) :=
  (by decide +kernel : ∀ t : Fin grid0.N,
    (win0_0.index t 0 = t.val ∧ win0_0.index t 1 = 0) ∧ (win0_1.index t 0 = 0 ∧ win0_1.index t 1 = 0) ∧
    (win0_2.index t 0 = 0 ∧ win0_2.index t 1 = 0) ∧ (win0_3.index t 0 = t.val ∧ win0_3.index t 1 = 0) ∧
    (win0_4.index t 0 = t.val ∧ win0_4.index t 1 = 0))

/-- The positions end to end, each on every lane. -/
def spread (p : IVec S4x8192 32) : IVec S32768x128 32 :=
  broadcastInDim S32768x128 ![0, 1] bcast_S32768x1_S32768x128_0_1 (shapeCast S32768x1 p shapeCasts_S4x8192_S32768x1)

/-- A vector of 32 lanes four times. -/
def four (f : FVec Ideal S32 .f32) : FVec Ideal S1x128 .f32 :=
  broadcastInDim S1x128 ![1] bcast_S128_S1x128_1 (shapeCast S128 (broadcastInDim S4x32 ![0, 1] bcast_S1x32_S4x32_0_1
    (shapeCast S1x32 f shapeCasts_S32_S1x32)) shapeCasts_S4x32_S128)

/-- A vector of 64 lanes twice. -/
def two (f : FVec Ideal S64 .f32) : FVec Ideal S1x128 .f32 :=
  broadcastInDim S1x128 ![1] bcast_S128_S1x128_1 (shapeCast S128 (broadcastInDim S2x64 ![0, 1] bcast_S1x64_S2x64_0_1
    (shapeCast S1x64 f shapeCasts_S64_S1x64)) shapeCasts_S2x64_S128)

/-- The signs: minus one on the first half of 64 lanes, one on the other. -/
def sign : FVec Ideal S64 .f32 :=
  concatenate S64 0 [⟨S32, Host.negf (broadcastInDim S32 ![] bcast_S_S32 (constant S_ .f32 0x3F800000#32))⟩,
    ⟨S32, broadcastInDim S32 ![] bcast_S_S32 (constant S_ .f32 0x3F800000#32)⟩] concatenates_S32_S32_S64_d0

/-- Row `i` holds its position on every lane. -/
theorem spread_at (p : IVec S4x8192 32) (i : Fin 32768) (l : Fin 128) :
    spread p (ix2 i l) = p (ix2 ⟨i.val / 8192, by omega⟩ ⟨i.val % 8192, by omega⟩) := by
  pointwise [spread]

/-- Lane `l` holds entry `l % 32`. -/
theorem four_at (f : FVec Ideal S32 .f32) (i : Fin 1) (l : Fin 128) : four f (ix2 i l) = f (ix1 ⟨l.val % 32, by omega⟩) := by
  pointwise [four]

/-- Lane `l` holds entry `l % 64`. -/
theorem two_at (f : FVec Ideal S64 .f32) (i : Fin 1) (l : Fin 128) : two f (ix2 i l) = f (ix1 ⟨l.val % 64, by omega⟩) := by
  pointwise [two]

/-- The signs, lane by lane. -/
theorem sign_at (l : Fin 64) : sign (ix1 l) = if l.val < 32 then -1 else 1 := by
  pointwise [sign]
  by_cases h : l.val < 32 <;> simp [h]

/-- The cosines' payload. -/
theorem pay_cos (x : Vec Ideal S1024x128 .i32) (f : Vec Ideal S1x128 .f32) (r : Fin 1024) (l : Fin 128) :
    k0_pay2 x f (ix2 r l) = Ideal.cos ((FloatOps.sitofp .f32 (x (ix2 r l)) : Ideal .f32) * f (ix2 0 l)) := by
  pointwise [k0_pay2, k0_pay1]

/-- The sines' payload. -/
theorem pay_sin (x : Vec Ideal S1024x128 .i32) (f g : Vec Ideal S1x128 .f32) (r : Fin 1024) (l : Fin 128) :
    k0_pay3 x f g (ix2 r l) = Ideal.sin ((FloatOps.sitofp .f32 (x (ix2 r l)) : Ideal .f32) * f (ix2 0 l)) * g (ix2 0 l) := by
  pointwise [k0_pay3, k0_pay1]

/-- The positions the region is entered with. -/
theorem V_pos : (V m c main_v23 : IVec S32768x128 32) = spread (m (c.tc.loc main_arg0)) := rfl
/-- The frequencies the region is entered with. -/
theorem V_freq : (V m c main_v13 : FVec Ideal S1x128 .f32) = four freq := rfl
/-- The signs the region is entered with. -/
theorem V_sign : (V m c main_v21 : FVec Ideal S1x128 .f32) = two sign := rfl

variable (t : Fin cfg0.N)

/-- Row `r` of grid point `t` among all rows. -/
def row (r : Fin 1024) : Fin 32768 := ⟨t.val * 1024 + r.val, by have h : t.val < 32 := t.isLt; omega⟩

/-- The block of positions. -/
theorem blk_pos (r : Fin 1024) (l : Fin 128) :
    iblk m c 0 t (ix2 r l) = m (c.tc.loc main_arg0) (ix2 ⟨(row t r).val / 8192, by omega⟩ ⟨(row t r).val % 8192, by omega⟩) := by
  have e : (win0_0.blk t).view.emb (ix2 r l) = (ix2 (row t r) l : S32768x128.Idx) := by
    blk_ext [idx t, row]
  change V m c main_v23 ((win0_0.blk t).view.emb (ix2 r l)) = _
  rw [e, V_pos, spread_at]

/-- The block of frequencies. -/
theorem blk_freq (l : Fin 128) : iblk m c 1 t (ix2 0 l) = freq (ix1 ⟨l.val % 32, by omega⟩) := by
  have e : (win0_1.blk t).view.emb (ix2 0 l) = (ix2 0 l : S1x128.Idx) := by
    blk_ext [idx t]
  change V m c main_v13 ((win0_1.blk t).view.emb (ix2 0 l)) = _
  rw [e, V_freq, four_at]

/-- The block of signs. -/
theorem blk_sign (l : Fin 128) : iblk m c 2 t (ix2 0 l) = (if l.val % 64 < 32 then -1 else 1 : EReal) := by
  have e : (win0_2.blk t).view.emb (ix2 0 l) = (ix2 0 l : S1x128.Idx) := by
    blk_ext [idx t]
  change V m c main_v21 ((win0_2.blk t).view.emb (ix2 0 l)) = _
  rw [e, V_sign, two_at, sign_at]

/-- The angle a grid point takes is the reference's. -/
theorem blk_angle (r : Fin 1024) (l : Fin 128) :
    (FloatOps.sitofp .f32 (iblk m c 0 t (ix2 r l)) : Ideal .f32) * iblk m c 1 t (ix2 0 l)
      = angle (m (c.tc.loc main_arg0)) (row t r) ⟨l.val % 32, by omega⟩ := by
  rw [blk_pos, blk_freq]
  rfl

/-- The table of cosines after the run. -/
theorem final3 : (dats m 0 c).arrAt 3 cfg0.N = cosines (m (c.tc.loc main_arg0)) := by
  refine (dats m 0 c).arrAt_eq_of_covers 3 _ (by decide +kernel) fun t _ y => ?_
  blk_simp
  rw [after0_3]
  idx_vars y
  have e : ((View.whole main_v24_0).slice (win0_3.rect t)).emb (ix2 y0 y1) = (ix2 (row t y0) y1 : S32768x128.Idx) := by
    blk_ext [idx t, row]
  rw [e, cosines_at]
  frame_out
  exact (pay_cos _ _ _ _).trans (congrArg Ideal.cos (blk_angle m c t y0 y1))

/-- The table of sines after the run. -/
theorem final4 : (dats m 0 c).arrAt 4 cfg0.N = sines (m (c.tc.loc main_arg0)) := by
  refine (dats m 0 c).arrAt_eq_of_covers 4 _ (by decide +kernel) fun t _ y => ?_
  blk_simp
  rw [after0_4]
  idx_vars y
  have e : ((View.whole main_v24_1).slice (win0_4.rect t)).emb (ix2 y0 y1) = (ix2 (row t y0) y1 : S32768x128.Idx) := by
    blk_ext [idx t, row]
  rw [e, sines_at]
  frame_out
  refine (pay_sin _ _ _ _ _).trans ?_
  refine (congrArg₂ (fun a b : EReal => Ideal.sin a * b) (blk_angle m c t y0 y1) (blk_sign m c t y1)).trans ?_
  by_cases h : y1.val % 64 < 32
  · simp only [if_pos h, mul_neg, mul_one]
  · simp only [if_neg h, mul_one]

/-- What the kernel's call leaves in its two tables is what the reference leaves. -/
theorem algebraic : Cert.algebraic_RopeIdeal_RopeRefIdeal := by
  pair_intro
  · run_from Cert.RopeIdeal.Gen.run_main m g
  · run_from Cert.RopeRefIdeal.Value.run m' g'
    · exact (congrArg cosines (hagree c)).trans (final3 m c).symm
    · exact (congrArg sines (hagree c)).trans (final4 m c).symm

end Cert.RopeIdeal.Hand

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnFinal
public import proofs.«01_k».proof.Proof.Gen.FfnFinal.Skeleton
public import proofs.«01_k».proof.Proof.Gen.FfnFinal.Launch
public import proofs.«01_k».proof.Proof.Gen.FfnFinal.Points
public import proofs.«01_k».proof.Proof.Gen.FfnFinal.Frame
public import proofs.«01_k».proof.Proof.Gen.FfnFinalIdeal
public import proofs.«01_k».proof.Proof.Gen.FfnFinalIdeal.Skeleton
public import proofs.«01_k».proof.Proof.Gen.FfnFinalIdeal.Launch
public import proofs.«01_k».proof.Proof.Gen.FfnFinalIdeal.Points
public import proofs.«01_k».proof.Proof.Gen.FfnFinalIdeal.Frame
public import proofs.«01_k».proof.Proof.Gen.FfnFinalRefIdeal
public import proofs.«01_k».proof.Proof.Gen.Xattn
public import proofs.«01_k».proof.Proof.Gen.Xattn.Skeleton
public import proofs.«01_k».proof.Proof.Gen.Xattn.Launch
public import proofs.«01_k».proof.Proof.Gen.Xattn.Points
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Launch
public import proofs.«01_k».proof.Proof.Gen.XattnIdeal.Points
public import proofs.«01_k».proof.Proof.Gen.XattnIdeal.Frame
public import proofs.«01_k».proof.Proof.Gen.XattnRefIdeal
public import proofs.«01_k».proof.Proof.Gen.FfnIdeal.Value
public import proofs.«01_k».proof.Proof.Gen.FfnFinalIdeal.Value
public import proofs.«01_k».proof.Proof.Gen.XattnIdeal.Value
public import proofs.«01_k».proof.Proof.Gen.FfnRefIdeal.Run
public import proofs.«01_k».proof.Proof.Gen.FfnFinalRefIdeal.Run
public import proofs.«01_k».proof.Proof.Gen.XattnRefIdeal.Run
public import Idealize.ShloMosaic.Adequacy
public import proofs.«01_k».proof.Proof.FfnValue
public import proofs.«01_k».proof.Proof.FfnFinalValue
public import proofs.«01_k».proof.Proof.XattnValue
public import proofs.«01_k».proof.Proof.DsaFrame
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.ProjValue
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.RopeRefIdeal.Run
public import proofs.«01_k».proof.Proof.RopeValue
public import Idealize.ShloMosaic.Init

@[expose] public section

noncomputable section

namespace Cert.Proof

open Idealize.ShloMosaic Idealize.SL.Sem Cert.Ffn

/-- Every claim, in the order they are stated. -/
theorem claim : Cert.Claim := ⟨Cert.Ffn.Gen.facts, Cert.FfnIdeal.Gen.facts, Cert.FfnRefIdeal.Gen.facts, Cert.FfnFinal.Gen.facts, Cert.FfnFinalIdeal.Gen.facts, Cert.FfnFinalRefIdeal.Gen.facts, Cert.Xattn.Gen.facts, Cert.XattnIdeal.Gen.facts, Cert.XattnRefIdeal.Gen.facts, Cert.Dsa.Gen.facts, Cert.Proj.Gen.facts, Cert.ProjIdeal.Gen.facts, Cert.ProjRefIdeal.Gen.facts, Cert.Rope.Gen.facts, Cert.RopeIdeal.Gen.facts, Cert.RopeRefIdeal.Gen.facts, Cert.XattnIdeal.Hand.preFacts, by
  refine ⟨?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.Ffn.Gen.frame m ρ
  · exact fun m ρ _ => Cert.FfnIdeal.Gen.frame m ρ
  · exact fun m ρ _ => (θ_run Cert.FfnRefIdeal.defs _ _).mono
      (fun r h => ⟨fun c => (h c).2, sem_eq_zero_of_no_sems (by decide) r.2⟩) (Cert.FfnRefIdeal.Value.run (F := Ideal) m ρ)
  · exact fun m ρ _ => Cert.FfnFinal.Gen.frame m ρ
  · exact fun m ρ _ => Cert.FfnFinalIdeal.Gen.frame m ρ
  · exact fun m ρ _ => (θ_run Cert.FfnFinalRefIdeal.defs _ _).mono
      (fun r h => ⟨fun c => (h c).2, sem_eq_zero_of_no_sems (by decide) r.2⟩) (Cert.FfnFinalRefIdeal.Value.run (F := Ideal) m ρ)
  · exact fun m ρ _ => Cert.Xattn.Gen.frame m ρ
  · exact fun m ρ _ => Cert.XattnIdeal.Gen.frame m ρ
  · exact fun m ρ _ => Cert.XattnIdeal.Gen.frame m ρ
  · exact fun m ρ _ => (θ_run Cert.XattnRefIdeal.defs _ _).mono
      (fun r h => ⟨fun c => (h c).2, sem_eq_zero_of_no_sems (by decide) r.2⟩) (Cert.XattnRefIdeal.Value.run (F := Ideal) m ρ)
  · exact fun m ρ _ => (θ_run Cert.XattnRefIdeal.defs _ _).mono
      (fun r h => ⟨fun c => (h c).2, sem_eq_zero_of_no_sems (by decide) r.2⟩) (Cert.XattnRefIdeal.Value.run (F := Ideal) m ρ)
  · exact fun m ρ _ => Cert.Dsa.Run.frame m ρ
  · exact fun m ρ _ => Cert.Proj.Gen.frame m ρ
  · exact fun m ρ _ => Cert.ProjIdeal.Gen.frame m ρ
  · exact fun m ρ _ => (θ_run Cert.ProjRefIdeal.defs _ _).mono
      (fun r h => ⟨fun c => (h c).2.2.2.2.2.2, sem_eq_zero_of_no_sems (by decide) r.2⟩) (Cert.ProjRefIdeal.Value.run (F := Ideal) m ρ)
  · exact fun m ρ _ => Cert.Rope.Gen.frame m ρ
  · exact fun m ρ _ => Cert.RopeIdeal.Gen.frame m ρ
  · exact fun m ρ _ => (θ_run Cert.RopeRefIdeal.defs _ _).mono
      (fun r h => ⟨fun c => (h c).2.2, sem_eq_zero_of_no_sems (by decide) r.2⟩) (Cert.RopeRefIdeal.Value.run (F := Ideal) m ρ)
  · trivial
  · exact Cert.FfnIdeal.Hand.algebraic
  · trivial
  · exact Cert.FfnFinalIdeal.Hand.algebraic
  · trivial
  · exact Cert.XattnIdeal.Hand.algebraic
  · trivial
  · exact Cert.ProjIdeal.Hand.algebraic
  · trivial
  · exact Cert.RopeIdeal.Hand.algebraic⟩

end Cert.Proof

end
